-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_output_layer [hPre_finite_output_layer : Cert.Pre_finite_output_layer.Facts] (m : (ℓ : Loc Cert.KernelIdeal.nD Cert.KernelIdeal.τ Cert.KernelIdeal.sig) → Buf (Elt Ideal) ℓ) : Prop :=
  ∀ c : Dev Cert.KernelIdeal.nD,
    (Cert.Pre_finite_output_layer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_output_layer [hPre_finite_output_layer : Cert.Pre_finite_output_layer.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_output_layer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_output_layer [hKernelIdeal : Cert.KernelIdeal.Facts] [hPre_finite_output_layer : Cert.Pre_finite_output_layer.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_output_layer m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_output_layer [hReferenceIdeal : Cert.ReferenceIdeal.Facts] [hPre_finite_output_layer : Cert.Pre_finite_output_layer.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_output_layer m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def algebraic_KernelIdeal_ReferenceIdeal_pre_finite_output_layer [hKernelIdeal : Cert.KernelIdeal.Facts] [hReferenceIdeal : Cert.ReferenceIdeal.Facts] [hPre_finite_output_layer : Cert.Pre_finite_output_layer.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_output_layer m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_15) = v0 c
          ∧ r.2.mem ((c.tc : Thread Cert.ReferenceIdeal.nD Cert.ReferenceIdeal.τ).loc Cert.ReferenceIdeal.main_v7_16) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernelIdeal : Cert.KernelIdeal.Facts) (hReferenceIdeal : Cert.ReferenceIdeal.Facts) (hPre_finite_output_layer : Cert.Pre_finite_output_layer.Facts),
    quiescent_KernelIdeal (hKernelIdeal := hKernelIdeal)
    ∧ quiescent_KernelIdeal_pre_finite_output_layer (hKernelIdeal := hKernelIdeal) (hPre_finite_output_layer := hPre_finite_output_layer)
    ∧ quiescent_ReferenceIdeal (hReferenceIdeal := hReferenceIdeal)
    ∧ quiescent_ReferenceIdeal_pre_finite_output_layer (hReferenceIdeal := hReferenceIdeal) (hPre_finite_output_layer := hPre_finite_output_layer)
    ∧ algebraic_KernelIdeal_ReferenceIdeal_pre_finite_output_layer (hKernelIdeal := hKernelIdeal) (hReferenceIdeal := hReferenceIdeal) (hPre_finite_output_layer := hPre_finite_output_layer)
-- ==== Pre_finite_output_layer.lean ====
abbrev S50 : Shape := ⟨1, ![50]⟩
abbrev S100000x64 : Shape := ⟨2, ![100000, 64]⟩
abbrev S256x64 : Shape := ⟨2, ![256, 64]⟩
abbrev S256 : Shape := ⟨1, ![256]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000 : S_.BroadcastsInDim S100000 (![] : Fin 0 → Fin S100000.rank)
  reducesTo_S100000_S_d0 : S100000.ReducesTo [0] S_

variable [Facts]

def fn {F : FTy → Type} [FloatOps F] (main_arg0 : IVec S50 32) (main_arg1 : FVec F S100000x64 .f32) (main_arg2 : FVec F S256x64 .f32) (main_arg3 : FVec F S256x64 .f32) (main_arg4 : FVec F S256 .f32) (main_arg5 : FVec F S256 .f32) (main_arg6 : FVec F S100000x64 .f32) (main_arg7 : FVec F S100000 .f32) : IVec S_ 1 :=
  let main_v0 : FVec F S100000x64 .f32 := Host.absf main_arg6
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000 .f32 := Host.absf main_arg7
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  main_v8
-- ==== KernelIdeal.lean ====
abbrev S50 : Shape := ⟨1, ![50]⟩
abbrev S100000x64 : Shape := ⟨2, ![100000, 64]⟩
abbrev S256x64 : Shape := ⟨2, ![256, 64]⟩
abbrev S256 : Shape := ⟨1, ![256]⟩
abbrev S100000 : Shape := ⟨1, ![100000]⟩
abbrev S64x256 : Shape := ⟨2, ![64, 256]⟩
abbrev S1x256 : Shape := ⟨2, ![1, 256]⟩
abbrev S8x12500x64 : Shape := ⟨3, ![8, 12500, 64]⟩
abbrev S8x64x12500 : Shape := ⟨3, ![8, 64, 12500]⟩
abbrev S8x12500 : Shape := ⟨2, ![8, 12500]⟩
abbrev S50x8x12500 : Shape := ⟨3, ![50, 8, 12500]⟩
abbrev S1x8x12500 : Shape := ⟨3, ![1, 8, 12500]⟩
abbrev S1x64 : Shape := ⟨2, ![1, 64]⟩
abbrev S2 : Shape := ⟨1, ![2]⟩
abbrev S1 : Shape := ⟨1, ![1]⟩
abbrev S_ : Shape := ⟨0, ![]⟩
abbrev S1x64x12500 : Shape := ⟨3, ![1, 64, 12500]⟩
abbrev S64x12500 : Shape := ⟨2, ![64, 12500]⟩
abbrev S1x12500 : Shape := ⟨2, ![1, 12500]⟩
abbrev S1x1x1 : Shape := ⟨3, ![1, 1, 1]⟩

abbrev nBuf : Space → Nat
  | .hbm => 18
  | .vmem => 15
  | .smem => 5
  | _ => 0

abbrev bufTy : (tb : Table) → Fin (tcTables nBuf tb) → BufTy
  | .hbm, ⟨0, _⟩ => ⟨S50, .i32⟩
  | .hbm, ⟨1, _⟩ => ⟨S100000x64, .f32⟩
  | .hbm, ⟨2, _⟩ => ⟨S256x64, .f32⟩
  | .hbm, ⟨3, _⟩ => ⟨S256x64, .f32⟩
  | .hbm, ⟨4, _⟩ => ⟨S256, .f32⟩
  | .hbm, ⟨5, _⟩ => ⟨S256, .f32⟩
  | .hbm, ⟨6, _⟩ => ⟨S100000x64, .f32⟩
  | .hbm, ⟨7, _⟩ => ⟨S100000, .f32⟩
  | .hbm, ⟨8, _⟩ => ⟨S64x256, .f32⟩
  | .hbm, ⟨9, _⟩ => ⟨S64x256, .f32⟩
  | .hbm, ⟨10, _⟩ => ⟨S256, .f32⟩
  | .hbm, ⟨11, _⟩ => ⟨S1x256, .f32⟩
  | .hbm, ⟨12, _⟩ => ⟨S8x12500x64, .f32⟩
  | .hbm, ⟨13, _⟩ => ⟨S8x64x12500, .f32⟩
  | .hbm, ⟨14, _⟩ => ⟨S8x12500, .f32⟩
  | .hbm, ⟨15, _⟩ => ⟨S50, .i32⟩
  | .hbm, ⟨16, _⟩ => ⟨S50, .i32⟩
  | .hbm, ⟨17, _⟩ => ⟨S50x8x12500, .f32⟩
  | .local _ .vmem, ⟨0, _⟩ => ⟨S64x256, .f32⟩
  | .local _ .vmem, ⟨1, _⟩ => ⟨S64x256, .f32⟩
  | .local _ .vmem, ⟨2, _⟩ => ⟨S1x256, .f32⟩
  | .local _ .vmem, ⟨3, _⟩ => ⟨S8x64x12500, .f32⟩
  | .local _ .vmem, ⟨4, _⟩ => ⟨S8x12500, .f32⟩
  | .local _ .vmem, ⟨5, _⟩ => ⟨S1x8x12500, .f32⟩
  | .local _ .vmem, ⟨6, _⟩ => ⟨S1x8x12500, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S8x12500, .f32⟩
  | .local _ .vmem, ⟨12, _⟩ => ⟨S8x12500, .f32⟩
  | .local _ .vmem, ⟨13, _⟩ => ⟨S8x12500, .f32⟩
  | .local _ .vmem, ⟨14, _⟩ => ⟨S8x12500, .f32⟩
  | .local _ .smem, ⟨0, _⟩ => ⟨S50, .i32⟩
  | .local _ .smem, ⟨1, _⟩ => ⟨S50, .i32⟩
  | .local _ .smem, ⟨2, _⟩ => ⟨S50, .i32⟩
  | .local _ .smem, ⟨3, _⟩ => ⟨S2, .i32⟩
  | .local _ .smem, ⟨4, _⟩ => ⟨S1, .f32⟩
  | _, _ => ⟨S50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg8_0 : Ref sig .tc := ⟨.vmem, 5, rfl⟩
abbrev cc0_stg8_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_stg0_0 : Ref sig .tc := ⟨.smem, 0, rfl⟩
abbrev cc0_stg6_0 : Ref sig .tc := ⟨.smem, 1, rfl⟩
abbrev cc0_stg7_0 : Ref sig .tc := ⟨.smem, 2, rfl⟩
abbrev cc0_scratch8 : Ref sig .tc := ⟨.smem, 3, rfl⟩
abbrev cc0_scratch9 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_0 : BitVec 32 := 0#32
  let v7 : BitVec 1 := Scalar.cmpi .ne v6 c0_i32_0
  v7

@[reducible] def k0_t1_loop : Scf.Loop 32 :=
  let c0_i32_170 : BitVec 32 := 0#32
  let c50_i32 : BitVec 32 := 50#32
  let v276 : BitVec 32 := Scalar.addi c0_i32_170 c50_i32
  let c1_i32_171 : BitVec 32 := 1#32
  ⟨c0_i32_170, v276, c1_i32_171⟩
def k0_off1 (k0_t1 : Fin k0_t1_loop.trips) : Fin 1 → Nat :=
  let c0_i32_170 : BitVec 32 := 0#32
  let c1_i32_171 : BitVec 32 := 1#32
  let arg22 : BitVec 32 := Scf.iv c0_i32_170 c1_i32_171 k0_t1
  let v281 : Index := Scalar.indexCast arg22
  ![v281.toNat]
def k0_cond2 (i : grid0.Coords) : BitVec 1 :=
  let arg0 : BitVec 32 := BitVec.ofNat 32 (i 0).val
  let c0_i32_1 : BitVec 32 := 0#32
  let v8 : BitVec 1 := Scalar.cmpi .sgt arg0 c0_i32_1
  let v9 : BitVec 32 := Scalar.extui v8
  let c0_i32_2 : BitVec 32 := 0#32
  let v10 : BitVec 1 := Scalar.cmpi .ne v9 c0_i32_2
  v10

def k0_off2 (v252 : BitVec 32) : Fin 2 → Nat :=
  let c0_i32_150 : BitVec 32 := 0#32
  ![v252.toNat, 0]

def k0_chk1 (i : grid0.Coords) (v252 : BitVec 32) : Prop :=
  (∀ (k0_h2 : k0_cond2 i = 1#1), ∀ a, (k0_off2 v252) a + S1x64.size a ≤ S100000x64.size a)
theorem k0_off2_inb : ∀ (i : grid0.Coords) (v252 : BitVec 32) (k0_hw1 : k0_chk1 i v252), ∀ (k0_h2 : k0_cond2 i = 1#1), ∀ a, (k0_off2 v252) a + S1x64.size a ≤ S100000x64.size a := fun i v252 k0_hw1 k0_h2 => k0_hw1 k0_h2

def k0_off3 (v256 : BitVec 32) : Fin 2 → Nat :=
  let c0_i32_153 : BitVec 32 := 0#32
  ![v256.toNat, 0]

def k0_chk2 (i : grid0.Coords) (v256 : BitVec 32) : Prop :=
  (∀ (k0_h2 : k0_cond2 i = 1#1), ∀ a, (k0_off3 v256) a + S1x64.size a ≤ S100000x64.size a)
theorem k0_off3_inb : ∀ (i : grid0.Coords) (v256 : BitVec 32) (k0_hw2 : k0_chk2 i v256), ∀ (k0_h2 : k0_cond2 i = 1#1), ∀ a, (k0_off3 v256) a + S1x64.size a ≤ S100000x64.size a := fun i v256 k0_hw2 k0_h2 => k0_hw2 k0_h2

def k0_cond3 (i : grid0.Coords) : BitVec 1 :=
  let arg0 : BitVec 32 := BitVec.ofNat 32 (i 0).val
  let c49_i32 : BitVec 32 := 49#32
  let v183 : BitVec 1 := Scalar.cmpi .slt arg0 c49_i32
  let v184 : BitVec 32 := Scalar.extui v183
  let c0_i32_117 : BitVec 32 := 0#32
  let v185 : BitVec 1 := Scalar.cmpi .ne v184 c0_i32_117
  v185

def k0_off4 (v252 : BitVec 32) : Fin 2 → Nat :=
  let c0_i32_150 : BitVec 32 := 0#32
  ![v252.toNat, 0]

def k0_chk3 (i : grid0.Coords) (v252 : BitVec 32) : Prop :=
  (∀ (k0_h3 : k0_cond3 i = 1#1), ∀ a, (k0_off4 v252) a + S1x64.size a ≤ S100000x64.size a)
theorem k0_off4_inb : ∀ (i : grid0.Coords) (v252 : BitVec 32) (k0_hw3 : k0_chk3 i v252), ∀ (k0_h3 : k0_cond3 i = 1#1), ∀ a, (k0_off4 v252) a + S1x64.size a ≤ S100000x64.size a := fun i v252 k0_hw3 k0_h3 => k0_hw3 k0_h3

def k0_cond4 (i : grid0.Coords) : BitVec 1 :=
  let arg0 : BitVec 32 := BitVec.ofNat 32 (i 0).val
  let c49_i32_124 : BitVec 32 := 49#32
  let v201 : BitVec 1 := Scalar.cmpi .slt arg0 c49_i32_124
  let v202 : BitVec 32 := Scalar.extui v201
  let c0_i32_125 : BitVec 32 := 0#32
  let v203 : BitVec 1 := Scalar.cmpi .ne v202 c0_i32_125
  v203

def k0_off5 (v252 : BitVec 32) : Fin 2 → Nat :=
  let c0_i32_150 : BitVec 32 := 0#32
  ![v252.toNat, 0]

def k0_chk4 (i : grid0.Coords) (v252 : BitVec 32) : Prop :=
  (∀ (k0_h4 : k0_cond4 i = 1#1), ∀ a, (k0_off5 v252) a + S1x64.size a ≤ S100000x64.size a)
theorem k0_off5_inb : ∀ (i : grid0.Coords) (v252 : BitVec 32) (k0_hw4 : k0_chk4 i v252), ∀ (k0_h4 : k0_cond4 i = 1#1), ∀ a, (k0_off5 v252) a + S1x64.size a ≤ S100000x64.size a := fun i v252 k0_hw4 k0_h4 => k0_hw4 k0_h4

def k0_off6 (i : grid0.Coords) : Fin 1 → Nat :=
  let arg0 : BitVec 32 := BitVec.ofNat 32 (i 0).val
  let v245 : Index := Scalar.indexCast arg0
  ![v245.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S50 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64x12500 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x12500 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S50 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S50 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x12500 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S50 : Shape := ⟨1, ![50]⟩
abbrev S100000x64 : Shape := ⟨2, ![100000, 64]⟩
abbrev S256x64 : Shape := ⟨2, ![256, 64]⟩
abbrev S256 : Shape := ⟨1, ![256]⟩
abbrev S100000 : Shape := ⟨1, ![100000]⟩
abbrev S_ : Shape := ⟨0, ![]⟩
abbrev S64 : Shape := ⟨1, ![64]⟩
abbrev S50x100000 : Shape := ⟨2, ![50, 100000]⟩
abbrev S1 : Shape := ⟨1, ![1]⟩
abbrev S1x64 : Shape := ⟨2, ![1, 64]⟩
abbrev S100 : Shape := ⟨1, ![100]⟩
abbrev S100x1 : Shape := ⟨2, ![100, 1]⟩
abbrev S1x50 : Shape := ⟨2, ![1, 50]⟩
abbrev S100x50 : Shape := ⟨2, ![100, 50]⟩
abbrev S1x100000 : Shape := ⟨2, ![1, 100000]⟩
abbrev S50x8x12500 : Shape := ⟨3, ![50, 8, 12500]⟩

abbrev nBuf : Space → Nat
  | .hbm => 180
  | .vmem => 0
  | .smem => 0
  | _ => 0

abbrev hbmTy0_0 (i : Nat) : BufTy := match i % 128 with
  | 0 => ⟨S50, .i32⟩
  | 1 => ⟨S100000x64, .f32⟩
  | 2 => ⟨S256x64, .f32⟩
  | 3 => ⟨S256x64, .f32⟩
  | 4 => ⟨S256, .f32⟩
  | 5 => ⟨S256, .f32⟩
  | 6 => ⟨S100000x64, .f32⟩
  | 7 => ⟨S100000, .f32⟩
  | 8 => ⟨S_, .f32⟩
  | 9 => ⟨S64, .f32⟩
  | 10 => ⟨S_, .f32⟩
  | 11 => ⟨S64, .f32⟩
  | 12 => ⟨S_, .f32⟩
  | 13 => ⟨S100000, .f32⟩
  | 14 => ⟨S50, .i32⟩
  | 15 => ⟨S_, .i32⟩
  | 16 => ⟨S_, .f32⟩
  | 17 => ⟨S_, .i32⟩
  | 18 => ⟨S50, .i32⟩
  | 19 => ⟨S_, .i32⟩
  | 20 => ⟨S50, .i32⟩
  | 21 => ⟨S_, .f32⟩
  | 22 => ⟨S50x100000, .f32⟩
  | 23 => ⟨S_, .i32⟩
  | 24 => ⟨S50, .i32⟩
  | 25 => ⟨S100000x64, .f32⟩
  | 26 => ⟨S256x64, .f32⟩
  | 27 => ⟨S256, .f32⟩
  | 28 => ⟨S256x64, .f32⟩
  | 29 => ⟨S256, .f32⟩
  | 30 => ⟨S100000x64, .f32⟩
  | 31 => ⟨S100000, .f32⟩
  | 32 => ⟨S50, .i32⟩
  | 33 => ⟨S_, .i32⟩
  | 34 => ⟨S64, .f32⟩
  | 35 => ⟨S64, .f32⟩
  | 36 => ⟨S100000, .f32⟩
  | 37 => ⟨S_, .i32⟩
  | 38 => ⟨S_, .f32⟩
  | 39 => ⟨S50, .i32⟩
  | 40 => ⟨S50, .i32⟩
  | 41 => ⟨S50x100000, .f32⟩
  | 42 => ⟨S_, .i32⟩
  | 43 => ⟨S_, .i1⟩
  | 44 => ⟨S1, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S1x64, .f32⟩
  | 60 => ⟨S64, .f32⟩
  | 61 => ⟨S_, .i32⟩
  | 62 => ⟨S_, .i1⟩
  | 63 => ⟨S64, .f32⟩
  | 64 => ⟨S64, .f32⟩
  | 65 => ⟨S_, .f32⟩
  | 66 => ⟨S64, .f32⟩
  | 67 => ⟨S64, .f32⟩
  | 68 => ⟨S256, .f32⟩
  | 69 => ⟨S256, .f32⟩
  | 70 => ⟨S256, .f32⟩
  | 71 => ⟨S256, .f32⟩
  | 72 => ⟨S256, .f32⟩
  | 73 => ⟨S64, .f32⟩
  | 74 => ⟨S64, .f32⟩
  | 75 => ⟨S64, .f32⟩
  | 76 => ⟨S64, .f32⟩
  | 77 => ⟨S64, .f32⟩
  | 78 => ⟨S64, .f32⟩
  | 79 => ⟨S_, .f32⟩
  | 80 => ⟨S64, .f32⟩
  | 81 => ⟨S64, .f32⟩
  | 82 => ⟨S_, .f32⟩
  | 83 => ⟨S64, .f32⟩
  | 84 => ⟨S64, .f32⟩
  | 85 => ⟨S64, .f32⟩
  | 86 => ⟨S64, .f32⟩
  | 87 => ⟨S_, .f32⟩
  | 88 => ⟨S64, .f32⟩
  | 89 => ⟨S64, .f32⟩
  | 90 => ⟨S_, .f32⟩
  | 91 => ⟨S64, .f32⟩
  | 92 => ⟨S64, .f32⟩
  | 93 => ⟨S64, .f32⟩
  | 94 => ⟨S64, .f32⟩
  | 95 => ⟨S64, .f32⟩
  | 96 => ⟨S_, .f32⟩
  | 97 => ⟨S64, .f32⟩
  | 98 => ⟨S64, .f32⟩
  | 99 => ⟨S_, .f32⟩
  | 100 => ⟨S64, .f32⟩
  | 101 => ⟨S64, .f32⟩
  | 102 => ⟨S64, .f32⟩
  | 103 => ⟨S64, .f32⟩
  | 104 => ⟨S64, .f32⟩
  | 105 => ⟨S64, .f32⟩
  | 106 => ⟨S64, .f32⟩
  | 107 => ⟨S100000, .f32⟩
  | 108 => ⟨S100000, .f32⟩
  | 109 => ⟨S_, .f32⟩
  | 110 => ⟨S_, .f32⟩
  | 111 => ⟨S_, .f32⟩
  | 112 => ⟨S_, .f32⟩
  | 113 => ⟨S1, .f32⟩
  | 114 => ⟨S100000, .f32⟩
  | 115 => ⟨S100000, .f32⟩
  | 116 => ⟨S100000, .f32⟩
  | 117 => ⟨S_, .f32⟩
  | 118 => ⟨S_, .f32⟩
  | 119 => ⟨S1, .f32⟩
  | 120 => ⟨S100000, .f32⟩
  | 121 => ⟨S100000, .f32⟩
  | 122 => ⟨S100000, .f32⟩
  | 123 => ⟨S100, .f32⟩
  | 124 => ⟨S100, .i32⟩
  | 125 => ⟨S100x1, .i32⟩
  | 126 => ⟨S_, .i32⟩
  | 127 => ⟨S100x1, .i32⟩
  | _ => ⟨S50, .i32⟩

abbrev hbmTy0_1 (i : Nat) : BufTy := match i % 128 with
  | 0 => ⟨S100x1, .i32⟩
  | 1 => ⟨S1x50, .i32⟩
  | 2 => ⟨S100x50, .i32⟩
  | 3 => ⟨S100x50, .i32⟩
  | 4 => ⟨S100x50, .i1⟩
  | 5 => ⟨S_, .i1⟩
  | 6 => ⟨S100, .i1⟩
  | 7 => ⟨S_, .i1⟩
  | 8 => ⟨S_, .i1⟩
  | 9 => ⟨S_, .f32⟩
  | 10 => ⟨S_, .f32⟩
  | 11 => ⟨S_, .f32⟩
  | 12 => ⟨S_, .f32⟩
  | 13 => ⟨S100, .i32⟩
  | 14 => ⟨S_, .i32⟩
  | 15 => ⟨S_, .i32⟩
  | 16 => ⟨S100, .i32⟩
  | 17 => ⟨S100, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S1, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S1, .i32⟩
  | 36 => ⟨S_, .f32⟩
  | 37 => ⟨S100000, .f32⟩
  | 38 => ⟨S_, .i32⟩
  | 39 => ⟨S_, .i32⟩
  | 40 => ⟨S_, .i32⟩
  | 41 => ⟨S_, .i32⟩
  | 42 => ⟨S1, .i32⟩
  | 43 => ⟨S50, .i32⟩
  | 44 => ⟨S1, .i32⟩
  | 45 => ⟨S50, .i32⟩
  | 46 => ⟨S1x100000, .f32⟩
  | 47 => ⟨S_, .i32⟩
  | 48 => ⟨S50x100000, .f32⟩
  | 49 => ⟨S_, .i32⟩
  | 50 => ⟨S_, .i32⟩
  | 51 => ⟨S50x8x12500, .f32⟩
  | _ => ⟨S50, .i32⟩

abbrev hbmTy (i : Nat) : BufTy := match i / 128 with
  | 0 => hbmTy0_0 i
  | 1 => hbmTy0_1 i
  | _ => ⟨S50, .i32⟩

abbrev bufTy : (tb : Table) → Fin (tcTables nBuf tb) → BufTy
  | .hbm, ⟨i, _⟩ => hbmTy i
  | _, _ => ⟨S50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_cst_2 : Ref sig .tc := ⟨.hbm, 16, rfl⟩
abbrev main_c_3 : Ref sig .tc := ⟨.hbm, 17, rfl⟩
abbrev main_v4 : Ref sig .tc := ⟨.hbm, 18, rfl⟩
abbrev main_c_4 : Ref sig .tc := ⟨.hbm, 19, rfl⟩
abbrev main_v5 : Ref sig .tc := ⟨.hbm, 20, rfl⟩
abbrev main_cst_5 : Ref sig .tc := ⟨.hbm, 21, rfl⟩
abbrev main_v6 : Ref sig .tc := ⟨.hbm, 22, rfl⟩
abbrev main_c_6 : Ref sig .tc := ⟨.hbm, 23, rfl⟩
abbrev main_v7_0 : Ref sig .tc := ⟨.hbm, 24, rfl⟩
abbrev main_v7_1 : Ref sig .tc := ⟨.hbm, 25, rfl⟩
abbrev main_v7_2 : Ref sig .tc := ⟨.hbm, 26, rfl⟩
abbrev main_v7_3 : Ref sig .tc := ⟨.hbm, 27, rfl⟩
abbrev main_v7_4 : Ref sig .tc := ⟨.hbm, 28, rfl⟩
abbrev main_v7_5 : Ref sig .tc := ⟨.hbm, 29, rfl⟩
abbrev main_v7_6 : Ref sig .tc := ⟨.hbm, 30, rfl⟩
abbrev main_v7_7 : Ref sig .tc := ⟨.hbm, 31, rfl⟩
abbrev main_v7_8 : Ref sig .tc := ⟨.hbm, 32, rfl⟩
abbrev main_v7_9 : Ref sig .tc := ⟨.hbm, 33, rfl⟩
abbrev main_v7_10 : Ref sig .tc := ⟨.hbm, 34, rfl⟩
abbrev main_v7_11 : Ref sig .tc := ⟨.hbm, 35, rfl⟩
abbrev main_v7_12 : Ref sig .tc := ⟨.hbm, 36, rfl⟩
abbrev main_v7_13 : Ref sig .tc := ⟨.hbm, 37, rfl⟩
abbrev main_v7_14 : Ref sig .tc := ⟨.hbm, 38, rfl⟩
abbrev main_v7_15 : Ref sig .tc := ⟨.hbm, 39, rfl⟩
abbrev main_v7_16 : Ref sig .tc := ⟨.hbm, 40, rfl⟩
abbrev main_v7_17 : Ref sig .tc := ⟨.hbm, 41, rfl⟩
abbrev main_while0c_c_24 : Ref sig .tc := ⟨.hbm, 42, rfl⟩
abbrev main_while0c_v9 : Ref sig .tc := ⟨.hbm, 43, rfl⟩
abbrev main_while0b_call0_v0 : Ref sig .tc := ⟨.hbm, 44, rfl⟩
abbrev main_while0b_v9 : Ref sig .tc := ⟨.hbm, 45, rfl⟩
abbrev main_while0b_c_24 : Ref sig .tc := ⟨.hbm, 46, rfl⟩
abbrev main_while0b_v10 : Ref sig .tc := ⟨.hbm, 47, rfl⟩
abbrev main_while0b_c_25 : Ref sig .tc := ⟨.hbm, 48, rfl⟩
abbrev main_while0b_v11 : Ref sig .tc := ⟨.hbm, 49, rfl⟩
abbrev main_while0b_v12 : Ref sig .tc := ⟨.hbm, 50, rfl⟩
abbrev main_while0b_c_26 : Ref sig .tc := ⟨.hbm, 51, rfl⟩
abbrev main_while0b_c_27 : Ref sig .tc := ⟨.hbm, 52, rfl⟩
abbrev main_while0b_v13 : Ref sig .tc := ⟨.hbm, 53, rfl⟩
abbrev main_while0b_c_28 : Ref sig .tc := ⟨.hbm, 54, rfl⟩
abbrev main_while0b_c_29 : Ref sig .tc := ⟨.hbm, 55, rfl⟩
abbrev main_while0b_v14 : Ref sig .tc := ⟨.hbm, 56, rfl⟩
abbrev main_while0b_c_30 : Ref sig .tc := ⟨.hbm, 57, rfl⟩
abbrev main_while0b_v15 : Ref sig .tc := ⟨.hbm, 58, rfl⟩
abbrev main_while0b_v16 : Ref sig .tc := ⟨.hbm, 59, rfl⟩
abbrev main_while0b_v17 : Ref sig .tc := ⟨.hbm, 60, rfl⟩
abbrev main_while0b_c_31 : Ref sig .tc := ⟨.hbm, 61, rfl⟩
abbrev main_while0b_v18 : Ref sig .tc := ⟨.hbm, 62, rfl⟩
abbrev main_while0b_v19 : Ref sig .tc := ⟨.hbm, 63, rfl⟩
abbrev main_while0b_v20 : Ref sig .tc := ⟨.hbm, 64, rfl⟩
abbrev main_while0b_cst_32 : Ref sig .tc := ⟨.hbm, 65, rfl⟩
abbrev main_while0b_v21 : Ref sig .tc := ⟨.hbm, 66, rfl⟩
abbrev main_while0b_v22 : Ref sig .tc := ⟨.hbm, 67, rfl⟩
abbrev main_while0b_v23 : Ref sig .tc := ⟨.hbm, 68, rfl⟩
abbrev main_while0b_v24 : Ref sig .tc := ⟨.hbm, 69, rfl⟩
abbrev main_while0b_v25 : Ref sig .tc := ⟨.hbm, 70, rfl⟩
abbrev main_while0b_v26 : Ref sig .tc := ⟨.hbm, 71, rfl⟩
abbrev main_while0b_v27 : Ref sig .tc := ⟨.hbm, 72, rfl⟩
abbrev main_while0b_v28 : Ref sig .tc := ⟨.hbm, 73, rfl⟩
abbrev main_while0b_v29 : Ref sig .tc := ⟨.hbm, 74, rfl⟩
abbrev main_while0b_v30 : Ref sig .tc := ⟨.hbm, 75, rfl⟩
abbrev main_while0b_v31 : Ref sig .tc := ⟨.hbm, 76, rfl⟩
abbrev main_while0b_v32 : Ref sig .tc := ⟨.hbm, 77, rfl⟩
abbrev main_while0b_v33 : Ref sig .tc := ⟨.hbm, 78, rfl⟩
abbrev main_while0b_cst_33 : Ref sig .tc := ⟨.hbm, 79, rfl⟩
abbrev main_while0b_v34 : Ref sig .tc := ⟨.hbm, 80, rfl⟩
abbrev main_while0b_v35 : Ref sig .tc := ⟨.hbm, 81, rfl⟩
abbrev main_while0b_cst_34 : Ref sig .tc := ⟨.hbm, 82, rfl⟩
abbrev main_while0b_v36 : Ref sig .tc := ⟨.hbm, 83, rfl⟩
abbrev main_while0b_v37 : Ref sig .tc := ⟨.hbm, 84, rfl⟩
abbrev main_while0b_v38 : Ref sig .tc := ⟨.hbm, 85, rfl⟩
abbrev main_while0b_v39 : Ref sig .tc := ⟨.hbm, 86, rfl⟩
abbrev main_while0b_cst_35 : Ref sig .tc := ⟨.hbm, 87, rfl⟩
abbrev main_while0b_v40 : Ref sig .tc := ⟨.hbm, 88, rfl⟩
abbrev main_while0b_v41 : Ref sig .tc := ⟨.hbm, 89, rfl⟩
abbrev main_while0b_cst_36 : Ref sig .tc := ⟨.hbm, 90, rfl⟩
abbrev main_while0b_v42 : Ref sig .tc := ⟨.hbm, 91, rfl⟩
abbrev main_while0b_v43 : Ref sig .tc := ⟨.hbm, 92, rfl⟩
abbrev main_while0b_v44 : Ref sig .tc := ⟨.hbm, 93, rfl⟩
abbrev main_while0b_v45 : Ref sig .tc := ⟨.hbm, 94, rfl⟩
abbrev main_while0b_v46 : Ref sig .tc := ⟨.hbm, 95, rfl⟩
abbrev main_while0b_cst_37 : Ref sig .tc := ⟨.hbm, 96, rfl⟩
abbrev main_while0b_v47 : Ref sig .tc := ⟨.hbm, 97, rfl⟩
abbrev main_while0b_v48 : Ref sig .tc := ⟨.hbm, 98, rfl⟩
abbrev main_while0b_cst_38 : Ref sig .tc := ⟨.hbm, 99, rfl⟩
abbrev main_while0b_v49 : Ref sig .tc := ⟨.hbm, 100, rfl⟩
abbrev main_while0b_v50 : Ref sig .tc := ⟨.hbm, 101, rfl⟩
abbrev main_while0b_v51 : Ref sig .tc := ⟨.hbm, 102, rfl⟩
abbrev main_while0b_v52 : Ref sig .tc := ⟨.hbm, 103, rfl⟩
abbrev main_while0b_v53 : Ref sig .tc := ⟨.hbm, 104, rfl⟩
abbrev main_while0b_v54 : Ref sig .tc := ⟨.hbm, 105, rfl⟩
abbrev main_while0b_v55 : Ref sig .tc := ⟨.hbm, 106, rfl⟩
abbrev main_while0b_v56 : Ref sig .tc := ⟨.hbm, 107, rfl⟩
abbrev main_while0b_v57 : Ref sig .tc := ⟨.hbm, 108, rfl⟩
abbrev main_while0b_cst_39 : Ref sig .tc := ⟨.hbm, 109, rfl⟩
abbrev main_while0b_v58 : Ref sig .tc := ⟨.hbm, 110, rfl⟩
abbrev main_while0b_cst_40 : Ref sig .tc := ⟨.hbm, 111, rfl⟩
abbrev main_while0b_v59 : Ref sig .tc := ⟨.hbm, 112, rfl⟩
abbrev main_while0b_v60 : Ref sig .tc := ⟨.hbm, 113, rfl⟩
abbrev main_while0b_v61 : Ref sig .tc := ⟨.hbm, 114, rfl⟩
abbrev main_while0b_v62 : Ref sig .tc := ⟨.hbm, 115, rfl⟩
abbrev main_while0b_v63 : Ref sig .tc := ⟨.hbm, 116, rfl⟩
abbrev main_while0b_cst_41 : Ref sig .tc := ⟨.hbm, 117, rfl⟩
abbrev main_while0b_v64 : Ref sig .tc := ⟨.hbm, 118, rfl⟩
abbrev main_while0b_v65 : Ref sig .tc := ⟨.hbm, 119, rfl⟩
abbrev main_while0b_v66 : Ref sig .tc := ⟨.hbm, 120, rfl⟩
abbrev main_while0b_v67 : Ref sig .tc := ⟨.hbm, 121, rfl⟩
abbrev main_while0b_v68 : Ref sig .tc := ⟨.hbm, 122, rfl⟩
abbrev main_while0b_values : Ref sig .tc := ⟨.hbm, 123, rfl⟩
abbrev main_while0b_indices : Ref sig .tc := ⟨.hbm, 124, rfl⟩
abbrev main_while0b_v69 : Ref sig .tc := ⟨.hbm, 125, rfl⟩
abbrev main_while0b_c_42 : Ref sig .tc := ⟨.hbm, 126, rfl⟩
abbrev main_while0b_v70 : Ref sig .tc := ⟨.hbm, 127, rfl⟩
abbrev main_while0b_v71 : Ref sig .tc := ⟨.hbm, 128, rfl⟩
abbrev main_while0b_v72 : Ref sig .tc := ⟨.hbm, 129, rfl⟩
abbrev main_while0b_v73 : Ref sig .tc := ⟨.hbm, 130, rfl⟩
abbrev main_while0b_v74 : Ref sig .tc := ⟨.hbm, 131, rfl⟩
abbrev main_while0b_v75 : Ref sig .tc := ⟨.hbm, 132, rfl⟩
abbrev main_while0b_c_43 : Ref sig .tc := ⟨.hbm, 133, rfl⟩
abbrev main_while0b_v76 : Ref sig .tc := ⟨.hbm, 134, rfl⟩
abbrev main_while0b_c_44 : Ref sig .tc := ⟨.hbm, 135, rfl⟩
abbrev main_while0b_v77 : Ref sig .tc := ⟨.hbm, 136, rfl⟩
abbrev main_while0b_cst_45 : Ref sig .tc := ⟨.hbm, 137, rfl⟩
abbrev main_while0b_cst_46 : Ref sig .tc := ⟨.hbm, 138, rfl⟩
abbrev main_while0b_v78 : Ref sig .tc := ⟨.hbm, 139, rfl⟩
abbrev main_while0b_v79 : Ref sig .tc := ⟨.hbm, 140, rfl⟩
abbrev main_while0b_v80 : Ref sig .tc := ⟨.hbm, 141, rfl⟩
abbrev main_while0b_c_47 : Ref sig .tc := ⟨.hbm, 142, rfl⟩
abbrev main_while0b_call3_v0 : Ref sig .tc := ⟨.hbm, 143, rfl⟩
abbrev main_while0b_call3_v1 : Ref sig .tc := ⟨.hbm, 144, rfl⟩
abbrev main_while0b_v81 : Ref sig .tc := ⟨.hbm, 145, rfl⟩
abbrev main_while0b_c_48 : Ref sig .tc := ⟨.hbm, 146, rfl⟩
abbrev main_while0b_v82 : Ref sig .tc := ⟨.hbm, 147, rfl⟩
abbrev main_while0b_c_49 : Ref sig .tc := ⟨.hbm, 148, rfl⟩
abbrev main_while0b_call4_v0 : Ref sig .tc := ⟨.hbm, 149, rfl⟩
abbrev main_while0b_v83 : Ref sig .tc := ⟨.hbm, 150, rfl⟩
abbrev main_while0b_c_50 : Ref sig .tc := ⟨.hbm, 151, rfl⟩
abbrev main_while0b_v84 : Ref sig .tc := ⟨.hbm, 152, rfl⟩
abbrev main_while0b_c_51 : Ref sig .tc := ⟨.hbm, 153, rfl⟩
abbrev main_while0b_v85 : Ref sig .tc := ⟨.hbm, 154, rfl⟩
abbrev main_while0b_v86 : Ref sig .tc := ⟨.hbm, 155, rfl⟩
abbrev main_while0b_v87 : Ref sig .tc := ⟨.hbm, 156, rfl⟩
abbrev main_while0b_v88 : Ref sig .tc := ⟨.hbm, 157, rfl⟩
abbrev main_while0b_c_52 : Ref sig .tc := ⟨.hbm, 158, rfl⟩
abbrev main_while0b_v89 : Ref sig .tc := ⟨.hbm, 159, rfl⟩
abbrev main_while0b_c_53 : Ref sig .tc := ⟨.hbm, 160, rfl⟩
abbrev main_while0b_v90 : Ref sig .tc := ⟨.hbm, 161, rfl⟩
abbrev main_while0b_v91 : Ref sig .tc := ⟨.hbm, 162, rfl⟩
abbrev main_while0b_v92 : Ref sig .tc := ⟨.hbm, 163, rfl⟩
abbrev main_while0b_cst_54 : Ref sig .tc := ⟨.hbm, 164, rfl⟩
abbrev main_while0b_v93 : Ref sig .tc := ⟨.hbm, 165, rfl⟩
abbrev main_while0b_c_55 : Ref sig .tc := ⟨.hbm, 166, rfl⟩
abbrev main_while0b_c_56 : Ref sig .tc := ⟨.hbm, 167, rfl⟩
abbrev main_while0b_v94 : Ref sig .tc := ⟨.hbm, 168, rfl⟩
abbrev main_while0b_v95 : Ref sig .tc := ⟨.hbm, 169, rfl⟩
abbrev main_while0b_call6_v0 : Ref sig .tc := ⟨.hbm, 170, rfl⟩
abbrev main_while0b_v96 : Ref sig .tc := ⟨.hbm, 171, rfl⟩
abbrev main_while0b_call7_v0 : Ref sig .tc := ⟨.hbm, 172, rfl⟩
abbrev main_while0b_v97 : Ref sig .tc := ⟨.hbm, 173, rfl⟩
abbrev main_while0b_call8_v0 : Ref sig .tc := ⟨.hbm, 174, rfl⟩
abbrev main_while0b_call8_c : Ref sig .tc := ⟨.hbm, 175, rfl⟩
abbrev main_while0b_v98 : Ref sig .tc := ⟨.hbm, 176, rfl⟩
abbrev main_while0b_c_57 : Ref sig .tc := ⟨.hbm, 177, rfl⟩
abbrev main_while0b_v99 : Ref sig .tc := ⟨.hbm, 178, rfl⟩
abbrev main_v8 : Ref sig .tc := ⟨.hbm, 179, rfl⟩

abbrev nD : Nat := 1
abbrev τ : Topo := Topo.v7x

variable {F : FTy → Type} [FloatOps F]

abbrev main_while0_count : Scf.Loop 32 := ⟨0#32, 50#32, 1#32⟩
-- ==== Proof.Range.lean ====
/- The two argument-maxima name items: over the extended reals a maximum is attained, so the smallest
index that attains it is an index of the table. -/
module

public import proofs.«01_k».proof.Proof.Gen.KernelIdeal.Skeleton
public import Idealize.ShloMosaic.PureOps.Ideal.Laws
public import Idealize.ShloMosaic.Lib.SortNet.Extract
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.ValueIdx

/-- A fold of the signed minimum is at most each word, and is its start or one of them. -/
theorem fold_minsi_spec {ι : Type} [DecidableEq ι] (g : ι → BitVec 32) (s : Finset ι) (init : BitVec 32) :
    (∀ i ∈ s, (s.fold IntOp.minsi init g).toInt ≤ (g i).toInt) ∧
      (s.fold IntOp.minsi init g = init ∨ ∃ i ∈ s, s.fold IntOp.minsi init g = g i) := by
  induction s using Finset.induction_on with
  | empty => exact ⟨fun i hi => absurd hi (Finset.notMem_empty i), Or.inl (by rw [Finset.fold_empty])⟩
  | insert a s has ih =>
    obtain ⟨h2, h3⟩ := ih
    rw [Finset.fold_insert has]
    have hm : (IntOp.minsi (g a) (s.fold IntOp.minsi init g)).toInt = min (g a).toInt (s.fold IntOp.minsi init g).toInt := SortNet.toInt_minsi _ _
    refine ⟨fun i hi => ?_, ?_⟩
    · rcases Finset.mem_insert.mp hi with rfl | hi
      · rw [hm]; exact min_le_left _ _
      · exact le_trans (by rw [hm]; exact min_le_right _ _) (h2 i hi)
    · rcases min_choice (g a).toInt (s.fold IntOp.minsi init g).toInt with h | h
      · exact Or.inr ⟨a, Finset.mem_insert_self a s, BitVec.eq_of_toInt_eq (hm.trans h)⟩
      · rcases h3 with h3 | ⟨i, hi, h3⟩
        · exact Or.inl ((BitVec.eq_of_toInt_eq (hm.trans h)).trans h3)
        · exact Or.inr ⟨i, Finset.mem_insert_of_mem hi, (BitVec.eq_of_toInt_eq (hm.trans h)).trans h3⟩

/-- A fold of the maximum from minus infinity over a set that is not empty is one of the values, and at least each. -/
theorem fold_max_spec {ι : Type} [DecidableEq ι] (g : ι → EReal) (s : Finset ι) :
    (∀ i ∈ s, g i ≤ s.fold max ⊥ g) ∧ (s.Nonempty → ∃ i ∈ s, s.fold max ⊥ g = g i) := by
  induction s using Finset.induction_on with
  | empty => exact ⟨fun i hi => absurd hi (Finset.notMem_empty i), fun h => absurd h (by simp)⟩
  | insert a s has ih =>
    obtain ⟨h2, h3⟩ := ih
    rw [Finset.fold_insert has]
    refine ⟨fun i hi => ?_, fun _ => ?_⟩
    · rcases Finset.mem_insert.mp hi with rfl | hi
      · exact le_max_left _ _
      · exact le_trans (h2 i hi) (le_max_right _ _)
    · rcases max_choice (g a) (s.fold max ⊥ g) with h | h
      · exact ⟨a, Finset.mem_insert_self a s, h⟩
      · rcases s.eq_empty_or_nonempty with rfl | hs
        · exact ⟨a, Finset.mem_insert_self a _, by simp⟩
        · obtain ⟨i, hi, h3⟩ := h3 hs
          exact ⟨i, Finset.mem_insert_of_mem hi, h.trans h3⟩

theorem gi_eq (i : S8x12500.Idx) : k0_pay10 i = IntOp.addi (IntOp.muli (BitVec.ofNat 32 (0 * 8 + (i 0).val)) 12500#32) (BitVec.ofNat 32 (0 * 12500 + (i 1).val)) := rfl
theorem select_at (x : FVec Ideal S8x12500 .f32) (b : EReal) (g : IVec S8x12500 32) (i : S8x12500.Idx) :
    select (cmpf (F := Ideal) .oeq x (broadcast S8x12500 b)) g (broadcast S8x12500 1073741824#32) i = Scalar.select (Ideal.cmp .oeq (x i) b) (g i) 1073741824#32 := rfl

/-- The item's index at a place of the table. -/
theorem gi_toNat (i : S8x12500.Idx) : (k0_pay10 i).toNat = (i 0).val * 12500 + (i 1).val := by
  have h0 : (i 0).val < 8 := (i 0).isLt
  have h1 : (i 1).val < 12500 := (i 1).isLt
  rw [gi_eq]
  simp only [IntOp.addi, IntOp.muli, BitVec.toNat_add, BitVec.toNat_mul, BitVec.toNat_ofNat]
  omega
theorem gi_lt (i : S8x12500.Idx) : (k0_pay10 i).toNat < 100000 := by
  have h0 : (i 0).val < 8 := (i 0).isLt
  have h1 : (i 1).val < 12500 := (i 1).isLt
  rw [gi_toNat]; omega

/-- A single value read out of a cast is one of the values cast. -/
theorem extract_cast {α : Type} (v : S1.Idx → α) : ∃ j, extractAt ![0, 0, 0] (shapeCast S1x1x1 v shapeCasts_S1_S1x1x1) inpos_S1x1x1_p0_0_0 = v j :=
  ⟨_, rfl⟩
/-- A place of a cast table is a place of the table. -/
theorem cast_at (k : S1x8x12500.Idx) : ∃ i : S8x12500.Idx, ∀ {α : Type} (x : S8x12500.Idx → α), shapeCast S1x8x12500 x shapeCasts_S8x12500_S1x8x12500 k = x i :=
  ⟨_, fun _ => rfl⟩

/-- The greatest value of a table, and the smallest item that has it, as the kernel computes them. -/
abbrev best (x : FVec Ideal S8x12500 .f32) : EReal :=
  extractAt ![0, 0, 0] (shapeCast S1x1x1 (multiReduction (F := Ideal) .maximumf [1, 2] S1 (shapeCast S1x8x12500 x shapeCasts_S8x12500_S1x8x12500) 0xFF800000#32 reduces_S1x8x12500_S1 (.inl rfl) rfl) shapeCasts_S1_S1x1x1) inpos_S1x1x1_p0_0_0
abbrev firstBest (x : FVec Ideal S8x12500 .f32) : BitVec 32 :=
  extractAt ![0, 0, 0] (shapeCast S1x1x1 (multiReductionI .minsi [1, 2] S1
    (shapeCast S1x8x12500 (select (cmpf (F := Ideal) .oeq x (broadcast S8x12500 (best x))) k0_pay10 (broadcast S8x12500 1073741824#32)) shapeCasts_S8x12500_S1x8x12500)
    2147483647#32 reduces_S1x8x12500_S1 rfl) shapeCasts_S1_S1x1x1) inpos_S1x1x1_p0_0_0

theorem ofBits_negInf : (FloatOps.ofBits (F := Ideal) .f32 0xFF800000#32 : EReal) = ⊥ := by
  show Ideal.ofBits .f32 0xFF800000#32 = ⊥
  simp [Ideal.ofBits, Ideal.ieee]

theorem best_mem (x : FVec Ideal S8x12500 .f32) :
    ∃ k : S1x8x12500.Idx, best x = shapeCast S1x8x12500 x shapeCasts_S8x12500_S1x8x12500 k := by
  obtain ⟨j, hj⟩ : ∃ j : S1.Idx, best x = multiReduction (F := Ideal) .maximumf [1, 2] S1 (shapeCast S1x8x12500 x shapeCasts_S8x12500_S1x8x12500) 0xFF800000#32 reduces_S1x8x12500_S1 (.inl rfl) rfl j := extract_cast _
  rw [hj]
  refine (Exists.imp fun k (hk : _ = _) => (multiReduction_maximumf_eq_fold ..).trans hk) ?_
  rw [ofBits_negInf]
  obtain ⟨k, -, hk⟩ := (fold_max_spec (shapeCast S1x8x12500 x shapeCasts_S8x12500_S1x8x12500) (Finset.univ.filter fun i => reduces_S1x8x12500_S1.drop i = j)).2
    ⟨ix3 0 0 0, Finset.mem_filter.mpr ⟨Finset.mem_univ _, funext fun b => Fin.ext (by
      have := (reduces_S1x8x12500_S1.drop (ix3 0 0 0) b).isLt; have := (j b).isLt
      have : S1.size b = 1 := by fin_cases b; rfl
      omega)⟩⟩
  exact ⟨k, hk⟩

theorem firstBest_lt (x : FVec Ideal S8x12500 .f32) : (firstBest x).toNat < 100000 := by
  obtain ⟨k, hk⟩ := best_mem x
  set w : IVec S1x8x12500 32 := shapeCast S1x8x12500 (select (cmpf (F := Ideal) .oeq x (broadcast S8x12500 (best x))) k0_pay10 (broadcast S8x12500 1073741824#32)) shapeCasts_S8x12500_S1x8x12500 with hw
  obtain ⟨j, hj⟩ : ∃ j : S1.Idx, firstBest x = multiReductionI .minsi [1, 2] S1 w 2147483647#32 reduces_S1x8x12500_S1 rfl j := extract_cast _
  have hall : ∀ k, (w k).toNat < 100000 ∨ (w k).toNat = 1073741824 := fun k => by
    obtain ⟨i, hi⟩ := cast_at k
    replace hi : w k = Scalar.select (Ideal.cmp .oeq (x i) (best x)) (k0_pay10 i) 1073741824#32 := (hi _).trans (select_at x (best x) k0_pay10 i)
    rw [hi]; unfold Scalar.select; split
    · exact Or.inl (gi_lt i)
    · exact Or.inr rfl
  have hat : (w k).toNat < 100000 := by
    obtain ⟨i, hi⟩ := cast_at k
    have hx := hi x
    replace hi : w k = Scalar.select (Ideal.cmp .oeq (x i) (best x)) (k0_pay10 i) 1073741824#32 := (hi _).trans (select_at x (best x) k0_pay10 i)
    have : Ideal.cmp .oeq (x i) (best x) = 1#1 := by
      rw [hk, hx]; simp [Ideal.cmp]
    rw [hi, this]; exact gi_lt i
  obtain ⟨h1, h2⟩ := fold_minsi_spec w (Finset.univ.filter fun i => reduces_S1x8x12500_S1.drop i = j) 2147483647#32
  have hkj : k ∈ Finset.univ.filter fun i => reduces_S1x8x12500_S1.drop i = j :=
    Finset.mem_filter.mpr ⟨Finset.mem_univ _, funext fun b => Fin.ext (by
      have := (reduces_S1x8x12500_S1.drop k b).isLt; have := (j b).isLt
      have : S1.size b = 1 := by fin_cases b; rfl
      omega)⟩
  have h3 := h1 k hkj
  have hi : ∀ v : BitVec 32, v.toNat < 2147483648 → v.toInt = v.toNat := fun v hv => by
    rw [BitVec.toInt_eq_toNat_cond, if_pos (by omega)]
  have hf : firstBest x = Finset.fold IntOp.minsi 2147483647#32 w (Finset.univ.filter fun i => reduces_S1x8x12500_S1.drop i = j) :=
    hj.trans (multiReductionI_eq_fold ..)
  rw [hf]
  rw [hi (w k) (by omega)] at h3
  rcases h2 with h2 | ⟨i, -, h2⟩
  · rw [h2] at h3; exfalso
    have : (2147483647#32 : BitVec 32).toInt = 2147483647 := by decide
    omega
  · have h4 := hall i
    rw [h2, hi (w i) (by omega)] at h3
    rw [h2]; omega

theorem range_all (U : Vec Ideal S8x12500 .f32) :
    (extractAt ![0, 0, 0] (k0_pay47 (F := Ideal) k0_pay10 U) inpos_S1x1x1_p0_0_0 : BitVec 32).toNat < 100000 := firstBest_lt U
theorem range_members (U M : Vec Ideal S8x12500 .f32) :
    (extractAt ![0, 0, 0] (k0_pay50 (F := Ideal) k0_pay10 U M) inpos_S1x1x1_p0_0_0 : BitVec 32).toNat < 100000 := firstBest_lt (k0_pay48 U M)

end Cert.KernelIdeal.Hand
end
-- ==== Proof.Step.lean ====
module

public import proofs.«01_k».proof.Proof.Gen.KernelIdeal.Skeleton
public import Idealize.ShloMosaic.Lib.Pipeline.FrameBody
public import Idealize.ShloMosaic.Lib.VecWindow
public import Idealize.ShloMosaic.Lib.ValueIdxCore

@[expose] public section

/-! # One step of the kernel as a function

What one grid point of the kernel computes from what its buffers hold, as plain functions of the loaded
values. Nothing here mentions memory: the runs of the body (`Body`) are stated in these words. -/

set_option maxRecDepth 16384

open Idealize.ShloMosaic Idealize.ShloMosaic.ValueIdx

namespace Cert.KernelIdeal.Hand

open Cert.KernelIdeal Cert.KernelIdeal.Gen

noncomputable section

variable {F : FTy → Type} [FloatOps F]

/-! The scratch buffers and the embedding table, as the body is handed them. -/

abbrev sc0 : Memref sig .tc .vmem S1x64 .f32 := Memref.whole cc0_scratch0
abbrev sc1 : Memref sig .tc .vmem S1x64 .f32 := Memref.whole cc0_scratch1
abbrev sc2 : Memref sig .tc .vmem S1x64 .f32 := Memref.whole cc0_scratch2
abbrev sc3 : Memref sig .tc .vmem S1x64 .f32 := Memref.whole cc0_scratch3
abbrev sc4 : Memref sig .tc .vmem S8x12500 .f32 := Memref.whole cc0_scratch4
abbrev sc5 : Memref sig .tc .vmem S8x12500 .f32 := Memref.whole cc0_scratch5
abbrev sc6 : Memref sig .tc .vmem S8x12500 .f32 := Memref.whole cc0_scratch6
abbrev sc7 : Memref sig .tc .vmem S8x12500 .f32 := Memref.whole cc0_scratch7
abbrev sc8 : Memref sig .tc .smem S2 .i32 := Memref.whole cc0_scratch8
abbrev sc9 : Memref sig .tc .smem S1 .f32 := Memref.whole cc0_scratch9
abbrev hbE : Memref sig .tc .hbm S100000x64 .f32 := Memref.whole main_arg1

/-- What one grid point loads: the feedback sign, the two embedding rows, the weights, the state, the
eight rows of the output layer and of the mask, the membership table and the mask whole. -/
structure Loads (F : FTy → Type) [FloatOps F] where
  sf : F .f32
  e2 : FVec F S1x64 .f32
  e1 : FVec F S1x64 .f32
  wih : FVec F S64x256 .f32
  h : FVec F S1x64 .f32
  whh : FVec F S64x256 .f32
  bg : FVec F S1x256 .f32
  c : FVec F S1x64 .f32
  w0 : Vec F S1x64x12500 .f32
  w1 : Vec F S1x64x12500 .f32
  w2 : Vec F S1x64x12500 .f32
  w3 : Vec F S1x64x12500 .f32
  w4 : Vec F S1x64x12500 .f32
  w5 : Vec F S1x64x12500 .f32
  w6 : Vec F S1x64x12500 .f32
  w7 : Vec F S1x64x12500 .f32
  b0 : Vec F S1x12500 .f32
  b1 : Vec F S1x12500 .f32
  b2 : Vec F S1x12500 .f32
  b3 : Vec F S1x12500 .f32
  b4 : Vec F S1x12500 .f32
  b5 : Vec F S1x12500 .f32
  b6 : Vec F S1x12500 .f32
  b7 : Vec F S1x12500 .f32
  m0 : Vec F S1x12500 .f32
  m1 : Vec F S1x12500 .f32
  m2 : Vec F S1x12500 .f32
  m3 : Vec F S1x12500 .f32
  m4 : Vec F S1x12500 .f32
  m5 : Vec F S1x12500 .f32
  m6 : Vec F S1x12500 .f32
  m7 : Vec F S1x12500 .f32
  mem : Vec F S8x12500 .f32
  mask : Vec F S8x12500 .f32

namespace Loads

variable (L : Loads F)

/-- The four gates, before the last one's logistic. -/
abbrev gI : FVec F S1x64 .f32 := k0_pay13 L.sf L.e2 L.e1 L.wih L.h L.whh L.bg
abbrev gF : FVec F S1x64 .f32 := k0_pay14 L.sf L.e2 L.e1 L.wih L.h L.whh L.bg
abbrev gG : FVec F S1x64 .f32 := k0_pay15 L.sf L.e2 L.e1 L.wih L.h L.whh L.bg
abbrev gO : FVec F S1x64 .f32 := k0_pay16 L.sf L.e2 L.e1 L.wih L.h L.whh L.bg

/-- The hidden state that the output layer reads. -/
abbrev hid : FVec F S1x64 .f32 := k0_pay18 L.gI L.gF L.gG L.gO L.c

/-- The cell state and the hidden state that are stored. -/
abbrev cNew : FVec F S1x64 .f32 := k0_pay19 L.gI L.gF L.gG L.c
abbrev hNew : FVec F S1x64 .f32 := k0_pay20 L.gI L.gF L.gG L.gO L.c

/-- The exponentials of the logits, row after row (last row first, as they are written). -/
abbrev eList : List (View.Piece (Elt F) S8x12500 .f32) :=
  [⟨Rect.unit ![7, 0] ![1, 12500] inb_S8x12500_S1x12500_7_0, k0_pay45 (k0_pay44 L.hid L.w7 L.b7)⟩,
   ⟨Rect.unit ![6, 0] ![1, 12500] inb_S8x12500_S1x12500_6_0, k0_pay42 L.hid L.w6 L.b6⟩,
   ⟨Rect.unit ![5, 0] ![1, 12500] inb_S8x12500_S1x12500_5_0, k0_pay39 (k0_pay38 L.hid L.w5 L.b5)⟩,
   ⟨Rect.unit ![4, 0] ![1, 12500] inb_S8x12500_S1x12500_4_0, k0_pay36 L.hid L.w4 L.b4⟩,
   ⟨Rect.unit ![3, 0] ![1, 12500] inb_S8x12500_S1x12500_3_0, k0_pay33 (k0_pay31 L.hid L.w3 L.b3)⟩,
   ⟨Rect.unit ![2, 0] ![1, 12500] inb_S8x12500_S1x12500_2_0, k0_pay29 L.hid L.w2 L.b2⟩,
   ⟨Rect.unit ![1, 0] ![1, 12500] inb_S8x12500_S1x12500_1_0, k0_pay26 (k0_pay24 L.gI L.gF L.gG L.gO L.c L.w1) L.b1⟩,
   ⟨Rect.unit ![0, 0] ![1, 12500] inb_S8x12500_S1x12500_0_0, k0_pay22 L.gI L.gF L.gG L.gO L.c L.w0 L.b0⟩]

/-- The exponentials times the mask, row after row. -/
abbrev uList : List (View.Piece (Elt F) S8x12500 .f32) :=
  [⟨Rect.unit ![7, 0] ![1, 12500] inb_S8x12500_S1x12500_7_0, k0_pay46 (k0_pay44 L.hid L.w7 L.b7) L.m7⟩,
   ⟨Rect.unit ![6, 0] ![1, 12500] inb_S8x12500_S1x12500_6_0, k0_pay43 L.hid L.w6 L.b6 L.m6⟩,
   ⟨Rect.unit ![5, 0] ![1, 12500] inb_S8x12500_S1x12500_5_0, k0_pay40 (k0_pay38 L.hid L.w5 L.b5) L.m5⟩,
   ⟨Rect.unit ![4, 0] ![1, 12500] inb_S8x12500_S1x12500_4_0, k0_pay37 L.hid L.w4 L.b4 L.m4⟩,
   ⟨Rect.unit ![3, 0] ![1, 12500] inb_S8x12500_S1x12500_3_0, k0_pay34 (k0_pay31 L.hid L.w3 L.b3) L.m3⟩,
   ⟨Rect.unit ![2, 0] ![1, 12500] inb_S8x12500_S1x12500_2_0, k0_pay30 L.hid L.w2 L.b2 L.m2⟩,
   ⟨Rect.unit ![1, 0] ![1, 12500] inb_S8x12500_S1x12500_1_0, k0_pay27 (k0_pay24 L.gI L.gF L.gG L.gO L.c L.w1) L.b1 L.m1⟩,
   ⟨Rect.unit ![0, 0] ![1, 12500] inb_S8x12500_S1x12500_0_0, k0_pay23 L.gI L.gF L.gG L.gO L.c L.w0 L.b0 L.m0⟩]

/-- The two tables as they are loaded again whole. -/
def E : Vec F S8x12500 .f32 :=
  sc5.view.readCov L.eList (Rect.unit (s := S8x12500) ![0, 0] ![8, 12500] inb_S8x12500_S8x12500_0_0).toLoadRect
def U : Vec F S8x12500 .f32 :=
  sc6.view.readCov L.uList (Rect.unit (s := S8x12500) ![0, 0] ![8, 12500] inb_S8x12500_S8x12500_0_0).toLoadRect

/-- The best item over all. -/
def a1 : BitVec 32 := extractAt ![0, 0, 0] (k0_pay47 (F := F) k0_pay10 L.U) inpos_S1x1x1_p0_0_0
/-- The best value among the members, and the item that has it. -/
def vb : F .f32 := k0_pay49 L.U L.mem
def ib : BitVec 32 := extractAt ![0, 0, 0] (k0_pay50 (F := F) k0_pay10 L.U L.mem) inpos_S1x1x1_p0_0_0
/-- Whether the best member is one of the first hundred. -/
def has : BitVec 1 :=
  Scalar.andi (Scalar.cmpf .ogt L.vb (FloatOps.ofBits FTy.f32 0#32))
    (Scalar.cmpf .olt (k0_pay51 k0_pay10 L.U L.vb L.ib) (FloatOps.ofBits FTy.f32 1120403456#32))
/-- The item chosen, the feedback, the masked probabilities. -/
def ahat : BitVec 32 := Scalar.select L.has L.ib L.a1
def fb : BitVec 32 := Scalar.select L.has 1#32 4294967295#32
def mp : FVec F S1x8x12500 .f32 := k0_pay52 L.U L.E
/-- The mask and the sign that the next point reads. -/
def maskNew : FVec F S8x12500 .f32 := k0_pay1 (k0_pay53 k0_pay10 L.U L.a1 L.vb L.ib) L.mask
def sfNew : F .f32 := k0_pay2 L.has

end Loads

/-- The kernel's inputs as the body sees them. -/
structure Inp (F : FTy → Type) [FloatOps F] where
  x : IVec S50 32
  emb : FVec F S100000x64 .f32
  wih : FVec F S64x256 .f32
  whh : FVec F S64x256 .f32
  bg : FVec F S1x256 .f32
  wot : FVec F S8x64x12500 .f32
  bo : FVec F S8x12500 .f32

/-- What the scratch buffers hold between two grid points. -/
structure St (F : FTy → Type) [FloatOps F] where
  h : FVec F S1x64 .f32
  c : FVec F S1x64 .f32
  e1 : FVec F S1x64 .f32
  e2 : FVec F S1x64 .f32
  mask : FVec F S8x12500 .f32
  sf : F .f32
  a1 : BitVec 32
  ib : BitVec 32

/-- The membership loop's carried table after `k` trips. -/
def memSt (v4 : IVec S8x12500 32) (x : Vec F S50 .i32) (init : FVec F S8x12500 .f32) : ℕ → FVec F S8x12500 .f32
  | 0 => init
  | k + 1 => k0_pay9 v4 (memSt v4 x init k) (if h : k < 50 then x (ix1 ⟨k, h⟩) else 0#32)

/-- The membership table. -/
def Inp.mem (I : Inp F) : FVec F S8x12500 .f32 := k0_pay11 (memSt k0_pay10 I.x k0_pay8 50)

/-- Row `w` of the embedding table. -/
def embRow (emb : FVec F S100000x64 .f32) (w : BitVec 32) : FVec F S1x64 .f32 := fun j =>
  emb (ix2 ⟨w.toNat % 100000, Nat.mod_lt _ (by decide)⟩ (j 1))

/-- A row of the mask or the bias, and a row of the output layer. -/
abbrev mrow (X : FVec F S8x12500 .f32) (o : ℕ) (h : ∀ a, (![o, 0] : Fin 2 → ℕ) a + (![1, 12500] : Fin 2 → ℕ) a ≤ S8x12500.size a) :
    Vec F S1x12500 .f32 := fun j => X ((Rect.unit (s := S8x12500) ![o, 0] ![1, 12500] h).toLoadRect.idx j)
abbrev wrow (X : FVec F S8x64x12500 .f32) (o : ℕ) (h : ∀ a, (![o, 0, 0] : Fin 3 → ℕ) a + (![1, 64, 12500] : Fin 3 → ℕ) a ≤ S8x64x12500.size a) :
    Vec F S1x64x12500 .f32 := fun j => X ((Rect.unit (s := S8x64x12500) ![o, 0, 0] ![1, 64, 12500] h).toLoadRect.idx j)

/-- What a grid point loads, from the inputs and the state. -/
def loads (I : Inp F) (s : St F) : Loads F where
  sf := s.sf
  e2 := s.e2
  e1 := s.e1
  wih := I.wih
  h := s.h
  whh := I.whh
  bg := I.bg
  c := s.c
  w0 := wrow I.wot 0 inb_S8x64x12500_S1x64x12500_0_0_0
  w1 := wrow I.wot 1 inb_S8x64x12500_S1x64x12500_1_0_0
  w2 := wrow I.wot 2 inb_S8x64x12500_S1x64x12500_2_0_0
  w3 := wrow I.wot 3 inb_S8x64x12500_S1x64x12500_3_0_0
  w4 := wrow I.wot 4 inb_S8x64x12500_S1x64x12500_4_0_0
  w5 := wrow I.wot 5 inb_S8x64x12500_S1x64x12500_5_0_0
  w6 := wrow I.wot 6 inb_S8x64x12500_S1x64x12500_6_0_0
  w7 := wrow I.wot 7 inb_S8x64x12500_S1x64x12500_7_0_0
  b0 := mrow I.bo 0 inb_S8x12500_S1x12500_0_0
  b1 := mrow I.bo 1 inb_S8x12500_S1x12500_1_0
  b2 := mrow I.bo 2 inb_S8x12500_S1x12500_2_0
  b3 := mrow I.bo 3 inb_S8x12500_S1x12500_3_0
  b4 := mrow I.bo 4 inb_S8x12500_S1x12500_4_0
  b5 := mrow I.bo 5 inb_S8x12500_S1x12500_5_0
  b6 := mrow I.bo 6 inb_S8x12500_S1x12500_6_0
  b7 := mrow I.bo 7 inb_S8x12500_S1x12500_7_0
  m0 := mrow s.mask 0 inb_S8x12500_S1x12500_0_0
  m1 := mrow s.mask 1 inb_S8x12500_S1x12500_1_0
  m2 := mrow s.mask 2 inb_S8x12500_S1x12500_2_0
  m3 := mrow s.mask 3 inb_S8x12500_S1x12500_3_0
  m4 := mrow s.mask 4 inb_S8x12500_S1x12500_4_0
  m5 := mrow s.mask 5 inb_S8x12500_S1x12500_5_0
  m6 := mrow s.mask 6 inb_S8x12500_S1x12500_6_0
  m7 := mrow s.mask 7 inb_S8x12500_S1x12500_7_0
  mem := I.mem
  mask := s.mask

/-- The state after the first point's initialisation. -/
def St.init : St F where
  h := k0_pay3
  c := k0_pay4
  e1 := k0_pay5
  e2 := k0_pay6
  mask := k0_pay7
  sf := FloatOps.ofBits FTy.f32 0#32
  a1 := 0#32
  ib := 0#32

/-- The state that the next point reads, its two rows fetched. -/
def St.next (I : Inp F) (s : St F) : St F where
  h := (loads I s).hNew
  c := (loads I s).cNew
  e1 := embRow I.emb (loads I s).a1
  e2 := embRow I.emb (loads I s).ib
  mask := (loads I s).maskNew
  sf := (loads I s).sfNew
  a1 := (loads I s).a1
  ib := (loads I s).ib

/-- The state before point `t`. -/
def stAt (I : Inp F) : ℕ → St F
  | 0 => St.init
  | t + 1 => (stAt I t).next I

/-- What point `t` loads. -/
def ldAt (I : Inp F) (t : ℕ) : Loads F := loads I (stAt I t)

end

end Cert.KernelIdeal.Hand
-- ==== Proof.Loop.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.DatRel
public import Idealize.ShloMosaic.Lib.Tactic
public import Idealize.ShloMosaic.Lib.WordCmp
public import Idealize.ShloMosaic.Lib.WordArith.Masks
public import Idealize.ShloMosaic.Lib.ValueIdxCore
public import proofs.«01_k».proof.Proof.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (Pipeline.UD sig nD τ) ℕ

abbrev pt (c : Dev nD) {sp : Space} {S : Shape} {e : EltTy} (M : Memref sig .tc sp S e) (q : PosShare TreeShare) (f : Buf (Elt F) (M.view.loc (c : Thread nD τ))) : sProp 𝕄 :=
  M.view.loc (c : Thread nD τ) ↦[M.view.set]{q} f

set_option warn.classDefReducibility false in
/-- The membership loop by its invariant: the history stays, the carried table is the fold so far. -/
@[sl_loop] def memLoop (𝒱 : Variants) (c : Dev nD) (bd : Option 𝒱.V) (E : Set ℕ) (i : grid0.Coords)
    (A1 : Memref sig .tc .smem S50 .i32) (h1 : A1.IsWhole)
    (A3 : Memref sig .tc .vmem S64x256 .f32) (h3 : A3.IsWhole)
    (A4 : Memref sig .tc .vmem S64x256 .f32) (h4 : A4.IsWhole)
    (A5 : Memref sig .tc .vmem S1x256 .f32) (h5 : A5.IsWhole)
    (A6 : Memref sig .tc .vmem S8x64x12500 .f32) (h6 : A6.IsWhole)
    (A7 : Memref sig .tc .vmem S8x12500 .f32) (h7 : A7.IsWhole)
    (A8 : Memref sig .tc .smem S50 .i32) (h8 : A8.IsWhole)
    (A9 : Memref sig .tc .smem S50 .i32) (h9 : A9.IsWhole)
    (A10 : Memref sig .tc .vmem S1x8x12500 .f32) (h10 : A10.IsWhole)
    (v4 : IVec S8x12500 32) (k0_h1 : k0_cond1 i = 1#1)
    (f1 : Buf (Elt F) (A1.view.loc (c : Thread nD τ))) (init : FVec F S8x12500 .f32) :
    LoopInvTy_k0_t1 (F := F) Unit ℕ (Pipeline.UD sig nD τ) ℕ 𝒱 c bd E i A1 h1 hbE (Memref.isWhole_whole _) A3 h3 A4 h4 A5 h5 A6 h6 A7 h7 A8 h8 A9 h9 A10 h10 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) cc0_scratch10 v4 k0_h1 init where
  inv k acc := iprop(pt c A1 fullShare f1 ∗ ⌜acc = memSt v4 (View.read (Elt F) A1.view f1) init k⌝)
  step k acc := by
    have hk : k.val < 50 := Nat.lt_of_lt_of_le k.isLt k0_t1_abs.2.1
    iintro ⟨H1, %hacc⟩
    subst hacc
    unfold k0_t1_body
    sl_exec
    sl_step
    isplitl [H1]
    · iexact H1
    ipureintro
    unfold memLoop.sl.r
    have hw : View.readAt (Elt F) A1.view (Rect.unit (s := S50) (k0_off1 k) S1.size (k0_off1_inb i k k0_h1)).toLoadRect f1 (Shape.Idx.first (show 0 < (1 : ℕ) from Nat.one_pos))
        = View.read (Elt F) A1.view f1 (ix1 ⟨k, hk⟩) := by
      show View.read (Elt F) A1.view f1 _ = _
      congr 1
      funext a
      apply Fin.ext
      fin_cases a
      have := Idealize.ShloMosaic.WordArith.toNat_iv_zero_one k.val (by omega)
      simp [Rect.unit, Rect.toLoadRect, LoadRect.idx, k0_off1, Scalar.indexCast, this]
      rfl
    rw [memSt, dif_pos hk, ← hw]

end Cert.KernelIdeal.Hand
end
-- ==== Proof.BodyWords.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.DatRel
public import Idealize.ShloMosaic.Lib.Tactic
public import Idealize.ShloMosaic.Lib.WordCmp
public import Idealize.ShloMosaic.Lib.WordArith.Masks
public import Idealize.ShloMosaic.Lib.ValueIdxCore
public import Idealize.ShloMosaic.Lib.CellWrites
public import Idealize.ShloMosaic.Lib.SparseCore.Scatter
public import proofs.«01_k».proof.Proof.Loop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (Pipeline.UD sig nD τ) ℕ

/-- A transfer under way takes back the rest of the array it reads, so that what it delivers is the
whole share again. -/
theorem flight_join {c : Thread nD τ} {sm : SemLoc sig} {N : ℕ} {D : sProp 𝕄} {ℓ : Loc nD τ sig} {I S : Finset (Idx ℓ)}
    {q : PosShare TreeShare} {f : Buf (Elt F) ℓ} (h : I ⊆ S) :
    iprop((ℓ ↦[S \ I]{q} f) ∗ Transfers.Flight countersEmb c sm default N iprop(D ∗ (ℓ ↦[I]{q} f)))
      ⊢ (Transfers.Flight countersEmb c sm default N iprop(D ∗ (ℓ ↦[S]{q} f)) : sProp 𝕄) := by
  refine (Transfers.Flight_frame countersEmb c).trans (Transfers.Flight_mono countersEmb c ?_)
  iintro ⟨H1, H2, H3⟩
  isplitl [H2]; · iexact H2
  iapply (pointsTo_split_subset h).2
  isplitl [H3]; · iexact H3
  iexact H1

/-- The same for the table of embeddings, whose whole is every index. -/
theorem flight_joinE {c : Dev nD} {sm : SemLoc sig} {N : ℕ} {D : sProp 𝕄}
    {I : Finset (Idx (hbE.view.loc (c : Thread nD τ)))}
    {q : PosShare TreeShare} {f : Buf (Elt F) (hbE.view.loc (c : Thread nD τ))} :
    iprop((hbE.view.loc (c : Thread nD τ) ↦[hbE.view.set \ I]{q} f) ∗ Transfers.Flight countersEmb (c : Thread nD τ) sm default N iprop(D ∗ (hbE.view.loc (c : Thread nD τ) ↦[I]{q} f)))
      ⊢ (Transfers.Flight countersEmb (c : Thread nD τ) sm default N iprop(D ∗ pt c hbE q f) : sProp 𝕄) :=
  flight_join (by
    intro x _
    rw [show hbE.view.set = Finset.univ from View.set_whole _]
    exact Finset.mem_univ x)

theorem chk1_of (i : grid0.Coords) {w : BitVec 32} (h : w.toNat < 100000) : k0_chk1 i w := by
  intro _ a; unfold k0_off2; fin_cases a
  · show w.toNat + 1 ≤ 100000; omega
  · show 0 + 64 ≤ 64; omega
theorem chk2_of (i : grid0.Coords) {w : BitVec 32} (h : w.toNat < 100000) : k0_chk2 i w := by
  intro _ a; unfold k0_off3; fin_cases a
  · show w.toNat + 1 ≤ 100000; omega
  · show 0 + 64 ≤ 64; omega
theorem chk3_of (i : grid0.Coords) {w : BitVec 32} (h : w.toNat < 100000) : k0_chk3 i w := by
  intro _ a; unfold k0_off4; fin_cases a
  · show w.toNat + 1 ≤ 100000; omega
  · show 0 + 64 ≤ 64; omega
theorem chk4_of (i : grid0.Coords) {w : BitVec 32} (h : w.toNat < 100000) : k0_chk4 i w := by
  intro _ a; unfold k0_off5; fin_cases a
  · show w.toNat + 1 ≤ 100000; omega
  · show 0 + 64 ≤ 64; omega

theorem off6_zero (i : grid0.Coords) : k0_off6 i 0 = (i 0).val := by
  have h : (i 0).val < 50 := (i 0).isLt
  show (Scalar.indexCast (BitVec.ofNat 32 (i 0).val)).toNat = _
  simp [Scalar.indexCast]; omega

/-- What a whole store leaves. -/
theorem read_writes_whole {sp : Space} {s : Shape} {e : EltTy} (v : View sig .tc sp s e) (f : v.ty.Contents (Elt F))
    (w : (Rect.whole s).shape.Idx → Elt F e) (L : List (View.Piece (Elt F) s e)) :
    v.read (Elt F) (v.writes (Elt F) f (⟨Rect.whole s, w⟩ :: L)) = w :=
  View.read_writes_full v f _ w L

/-- Row `w` of the table, read through the transfer's window. -/
theorem read_row (c : Dev nD)
    (fE : Buf (Elt F) (hbE.view.loc (c : Thread nD τ))) (w : BitVec 32) (off : Fin 2 → ℕ) (hoff : off = ![w.toNat, 0])
    (inb : ∀ a, off a + S1x64.size a ≤ S100000x64.size a) (hw : w.toNat < 100000) :
    View.read (Elt F) (hbE.slice (Rect.unit (s := S100000x64) off S1x64.size inb) (fun _ => rfl)).view fE
      = embRow (F := F) (View.read (Elt F) hbE.view fE) w := by
  subst hoff
  funext j
  show View.read (Elt F) hbE.view fE _ = View.read (Elt F) hbE.view fE _
  congr 1; funext a; apply Fin.ext
  fin_cases a
  · show w.toNat + 1 * (j 0).val = w.toNat % 100000
    have : (j 0).val < 1 := (j 0).isLt
    rw [Nat.mod_eq_of_lt hw]; omega
  · show 0 + 1 * (j 1).val = (j 1).val
    omega

/-- What every run leaves besides the two rows: the inputs as they were, the outputs of this point, the
state of the next. -/
def common (c : Dev nD) (i : grid0.Coords)
    (A1 : Memref sig .tc .smem S50 .i32)
    (A3 : Memref sig .tc .vmem S64x256 .f32)
    (A4 : Memref sig .tc .vmem S64x256 .f32)
    (A5 : Memref sig .tc .vmem S1x256 .f32)
    (A6 : Memref sig .tc .vmem S8x64x12500 .f32)
    (A7 : Memref sig .tc .vmem S8x12500 .f32)
    (A8 : Memref sig .tc .smem S50 .i32)
    (A9 : Memref sig .tc .smem S50 .i32)
    (A10 : Memref sig .tc .vmem S1x8x12500 .f32)
    (f1 : Buf (Elt F) (A1.view.loc (c : Thread nD τ))) (f3 : Buf (Elt F) (A3.view.loc (c : Thread nD τ))) (f4 : Buf (Elt F) (A4.view.loc (c : Thread nD τ))) (f5 : Buf (Elt F) (A5.view.loc (c : Thread nD τ))) (f6 : Buf (Elt F) (A6.view.loc (c : Thread nD τ))) (f7 : Buf (Elt F) (A7.view.loc (c : Thread nD τ))) (f8 : Buf (Elt F) (A8.view.loc (c : Thread nD τ))) (f9 : Buf (Elt F) (A9.view.loc (c : Thread nD τ)))
    (g7 : FVec F S8x12500 .f32) (L : Loads F) : sProp 𝕄 :=
  iprop(pt c A1 fullShare f1 ∗ pt c A3 fullShare f3 ∗ pt c A4 fullShare f4 ∗ pt c A5 fullShare f5 ∗ pt c A6 fullShare f6 ∗ pt c A7 fullShare f7
    ∗ owns (c : Thread nD τ) A8 fullShare (fun y => if (y 0).val = (i 0).val then L.ahat else View.read (Elt F) A8.view f8 y)
    ∗ owns (c : Thread nD τ) A9 fullShare (fun y => if (y 0).val = (i 0).val then L.fb else View.read (Elt F) A9.view f9 y)
    ∗ owns (c : Thread nD τ) A10 fullShare L.mp
    ∗ owns (c : Thread nD τ) sc0 fullShare L.hNew ∗ owns (c : Thread nD τ) sc1 fullShare L.cNew
    ∗ owns (c : Thread nD τ) sc4 fullShare L.maskNew
    ∗ (∃ g, pt c sc5 fullShare g) ∗ (∃ g, pt c sc6 fullShare g)
    ∗ owns (c : Thread nD τ) sc7 fullShare g7
    ∗ owns (c : Thread nD τ) sc8 fullShare (fun y => if (y 0).val = 1 then L.ib else L.a1)
    ∗ owns (c : Thread nD τ) sc9 fullShare (fun _ => L.sfNew)
    ∗ (∃ W, owes (c : Thread nD τ) 0 W))

/-- The two rows on their way. -/
def flying (c : Dev nD)    (fE : Buf (Elt F) (hbE.view.loc (c : Thread nD τ))) (X2 X3 : FVec F S1x64 .f32) : sProp 𝕄 :=
  iprop(∃ g2 g3, ⌜View.read (Elt F) sc2.view g2 = X2 ∧ View.read (Elt F) sc3.view g3 = X3⌝
    ∗ Transfers.Flight countersEmb (c : Thread nD τ) (SemLoc.dma (10 : DmaSem sig)) default 16 iprop(pt c sc2 fullShare g2 ∗ pt c hbE (Transfers.shareTokN fullShare 10) fE)
    ∗ Transfers.Flight countersEmb (c : Thread nD τ) (SemLoc.dma (11 : DmaSem sig)) default 16 iprop(pt c sc3 fullShare g3 ∗ pt c hbE (Transfers.shareTokN fullShare 11) fE))

/-- Both transfers landed, none under way. -/
def landed (c : Dev nD)    (fE : Buf (Elt F) (hbE.view.loc (c : Thread nD τ))) : sProp 𝕄 :=
  iprop((∃ g, pt c sc2 fullShare g) ∗ (∃ g, pt c sc3 fullShare g)
    ∗ pt c hbE (Transfers.shareTokN fullShare 10) fE ∗ pt c hbE (Transfers.shareTokN fullShare 11) fE
    ∗ semVal ((c : Thread nD τ), SemLoc.dma (10 : DmaSem sig)) 0 ∗ semVal ((c : Thread nD τ), SemLoc.dma (11 : DmaSem sig)) 0)

end Cert.KernelIdeal.Hand
end
-- ==== Proof.Hand.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.DatRel
public import Idealize.ShloMosaic.Lib.Tactic
public import Idealize.ShloMosaic.Lib.WordCmp
public import Idealize.ShloMosaic.Lib.WordArith.Masks
public import Idealize.ShloMosaic.Lib.ValueIdxCore
public import Idealize.ShloMosaic.Lib.CellWrites
public import Idealize.ShloMosaic.Lib.SparseCore.Scatter
public import proofs.«01_k».proof.Proof.Gen.KernelIdeal.Frame
public import Idealize.ShloMosaic.Lib.Pipeline.ArrRel
public import Idealize.ShloMosaic.Lib.Pipeline.ValueKit.Point
public import proofs.«01_k».proof.Proof.BodyWords

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Idealize.ShloMosaic.ValueIdx

variable {F : FTy → Type} [FloatOps F]

local notation "𝕄" => MT nD τ sig Unit (Elt F) ℕ (Pipeline.UD sig nD τ) ℕ

/-! # What the windows are handed

The inputs of the pipeline as the body finds them, and the window relation: the words chosen so far, the
feedback so far, this point's probabilities. -/

variable (m : (ℓ : Loc nD τ sig) → Buf (Elt F) ℓ)

/-- The inputs as the body is handed them. -/
def inp (c : Dev nD) : Inp F where
  x := View.read (Elt F) (Memref.whole main_arg0).view (V m c main_arg0)
  emb := View.read (Elt F) hbE.view (V m c main_arg1)
  wih := View.read (Elt F) (Memref.whole main_v0).view (V m c main_v0)
  whh := View.read (Elt F) (Memref.whole main_v1).view (V m c main_v1)
  bg := View.read (Elt F) (Memref.whole main_v3).view (V m c main_v3)
  wot := View.read (Elt F) (Memref.whole main_v5).view (V m c main_v5)
  bo := View.read (Elt F) (Memref.whole main_v6).view (V m c main_v6)

/-- What is kept of what the points leave. -/
def rl (c : Dev nD) (w : Fin cfg0.W) (t : Fin cfg0.N) (X : (cfg0.win w).block.Idx → Elt F (cfg0.win w).elt) : Prop := match w, X with
  | ⟨0, _⟩, X => X = (inp m c).x
  | ⟨1, _⟩, X => X = (inp m c).wih
  | ⟨2, _⟩, X => X = (inp m c).whh
  | ⟨3, _⟩, X => X = (inp m c).bg
  | ⟨4, _⟩, X => X = (inp m c).wot
  | ⟨5, _⟩, X => X = (inp m c).bo
  | ⟨6, _⟩, X => ∀ y : S50.Idx, (y 0).val ≤ t.val → X y = (ldAt (inp m c) (y 0).val).ahat
  | ⟨7, _⟩, X => ∀ y : S50.Idx, (y 0).val ≤ t.val → X y = (ldAt (inp m c) (y 0).val).fb
  | ⟨8, _⟩, X => X = (ldAt (inp m c) t.val).mp

/-- The two cells of the kernel's own transfers. -/
abbrev osem0 : Fin 2 → SemLoc sig := fun j => (![SemLoc.dma 10, SemLoc.dma 11] : Fin 2 → SemLoc sig) j
theorem ownSemFacts0 : Pipeline.OwnSemFacts spec0 osem0 := by decide
theorem ownSems0_pair (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (10 : DmaSem sig)) 0 ∗ semVal ((c : Thread nD τ), SemLoc.dma (11 : DmaSem sig)) 0) := by
  rw [Pipeline.ownSems0_eq_of_list c osem0 [0, 1] (by decide) (by decide)]; rfl
/-- The table of embeddings, which the kernel reads itself. -/
def H0 : Finset (Ref sig .tc) := {main_arg1}
theorem H0_sub : H0 ⊆ Pipeline.restRefs sig spec0 := by decide

theorem pt_whole (c : Dev nD) (b : Ref sig .tc) (q : PosShare TreeShare) (f : Buf (Elt F) ((c : Thread nD τ).loc b)) :
    (pt c (Memref.whole b) q f : sProp 𝕄) = iprop(((c : Thread nD τ).loc b) ↦{q} f) := by
  show ((c : Thread nD τ).loc b ↦[(Memref.whole b).view.set]{q} f : sProp 𝕄) = _
  rw [show (Memref.whole b).view.set = Finset.univ from View.set_whole _]

theorem pt_some (c : Dev nD) (b : Ref sig .tc) :
    (iprop(∃ g : Buf (Elt F) ((c : Thread nD τ).loc b), pt c (Memref.whole b) fullShare g) : sProp 𝕄)
      = iprop(∃ f : Buf (Elt F) ((c : Thread nD τ).loc b), ((c : Thread nD τ).loc b) ↦{fullShare} f) :=
  congrArg BIBase.exists (funext fun f => pt_whole c b fullShare f)

theorem hbm_eq (c : Dev nD) :
    (bigSep H0 (fun b => ((c : Thread nD τ).loc b) ↦{fullShare} V m c b) : sProp 𝕄) = pt c hbE fullShare (V m c main_arg1) := by
  rw [BI.bigSep_eq_bigSepL_of_eq [main_arg1] (by decide) (by decide)]; exact (pt_whole c main_arg1 fullShare (V m c main_arg1)).symm

/-- Everything of the kernel's own, nothing under way. -/
theorem idle_eq (c : Dev nD) :
    (Pipeline.ΦD osem0 spec0 H0 (V m) c : sProp 𝕄)
      = iprop(iprop((∃ g, pt c sc0 fullShare g) ∗ (∃ g, pt c sc1 fullShare g) ∗ (∃ g, pt c sc2 fullShare g) ∗ (∃ g, pt c sc3 fullShare g)
                ∗ (∃ g, pt c sc4 fullShare g) ∗ (∃ g, pt c sc5 fullShare g) ∗ (∃ g, pt c sc6 fullShare g) ∗ (∃ g, pt c sc7 fullShare g)
                ∗ (∃ g, pt c sc8 fullShare g) ∗ (∃ g, pt c sc9 fullShare g))
          ∗ (∃ r, prngReg c r)
          ∗ iprop(semVal ((c : Thread nD τ), SemLoc.dma (10 : DmaSem sig)) 0 ∗ semVal ((c : Thread nD τ), SemLoc.dma (11 : DmaSem sig)) 0)
          ∗ pt c hbE fullShare (V m c main_arg1)) := by
  rw [Pipeline.ΦD_eq, scopedRest0_eq, ownSems0_pair, hbm_eq]
  exact congrArg₂ BIBase.sep (congrArg₂ BIBase.sep (pt_some c cc0_scratch0).symm (congrArg₂ BIBase.sep (pt_some c cc0_scratch1).symm (congrArg₂ BIBase.sep (pt_some c cc0_scratch2).symm (congrArg₂ BIBase.sep (pt_some c cc0_scratch3).symm (congrArg₂ BIBase.sep (pt_some c cc0_scratch4).symm (congrArg₂ BIBase.sep (pt_some c cc0_scratch5).symm (congrArg₂ BIBase.sep (pt_some c cc0_scratch6).symm (congrArg₂ BIBase.sep (pt_some c cc0_scratch7).symm (congrArg₂ BIBase.sep (pt_some c cc0_scratch8).symm ((pt_some c cc0_scratch9).symm)))))))))) rfl

/-- The share of the table that no transfer reads. -/
def restE (c : Dev nD) (fE : Buf (Elt F) (hbE.view.loc (c : Thread nD τ))) : sProp 𝕄 :=
  iprop(pt c hbE (Transfers.shareDrop fullShare 12) fE ∗ bigSep (Finset.range 10) fun i => pt c hbE (Transfers.shareTokN fullShare i) fE)
theorem splitE (c : Dev nD) (fE : Buf (Elt F) (hbE.view.loc (c : Thread nD τ))) :
    (pt c hbE fullShare fE : sProp 𝕄)
      ⊣⊢ iprop(pt c hbE (Transfers.shareTokN fullShare 10) fE ∗ pt c hbE (Transfers.shareTokN fullShare 11) fE ∗ restE c fE) := by
  have h := Transfers.pointsTo_toks_range (Lvl := ℕ) (ℓ := hbE.view.loc (c : Thread nD τ)) (S := hbE.view.set) (f := fE) (Ix := Unit) (Name := ℕ) (U := Pipeline.UD sig nD τ) fullShare 12
  have h1 : ∀ n, (bigSep (Finset.range (n + 1)) fun i => (pt c hbE (Transfers.shareTokN fullShare i) fE : sProp 𝕄))
      = iprop(pt c hbE (Transfers.shareTokN fullShare n) fE ∗ bigSep (Finset.range n) fun i => pt c hbE (Transfers.shareTokN fullShare i) fE) := fun n => by
    rw [Finset.range_add_one, BI.bigSep_insert Finset.notMem_range_self]; rfl
  have h2 : (pt c hbE fullShare fE : sProp 𝕄) ⊣⊢ iprop(pt c hbE (Transfers.shareDrop fullShare 12) fE ∗ pt c hbE (Transfers.shareTokN fullShare 11) fE
      ∗ pt c hbE (Transfers.shareTokN fullShare 10) fE ∗ bigSep (Finset.range 10) fun i => pt c hbE (Transfers.shareTokN fullShare i) fE) := by
    rw [← h1 10, ← h1 11]; exact h
  unfold restE
  constructor
  · refine h2.1.trans ?_
    iintro ⟨H0, H11, H10, HR⟩
    isplitl [H10]; · iexact H10
    isplitl [H11]; · iexact H11
    isplitl [H0]; · iexact H0
    iexact HR
  · refine BIBase.Entails.trans ?_ h2.2
    iintro ⟨H10, H11, H0, HR⟩
    isplitl [H0]; · iexact H0
    isplitl [H11]; · iexact H11
    isplitl [H10]; · iexact H10
    iexact HR

/-- What is handed on besides the two rows. -/
def carry (c : Dev nD) (s : St F) (M : FVec F S8x12500 .f32) : sProp 𝕄 :=
  iprop(owns (c : Thread nD τ) sc0 fullShare s.h ∗ owns (c : Thread nD τ) sc1 fullShare s.c
    ∗ owns (c : Thread nD τ) sc4 fullShare s.mask
    ∗ (∃ g, pt c sc5 fullShare g) ∗ (∃ g, pt c sc6 fullShare g)
    ∗ owns (c : Thread nD τ) sc7 fullShare M
    ∗ owns (c : Thread nD τ) sc8 fullShare (fun y => if (y 0).val = 1 then s.ib else s.a1)
    ∗ owns (c : Thread nD τ) sc9 fullShare (fun _ => s.sf))

/-- The same, opened. -/
theorem carry_open (c : Dev nD) (s : St F) (M : FVec F S8x12500 .f32) : (carry c s M : sProp 𝕄) ⊢
  iprop((∃ g, ⌜View.read (Elt F) sc0.view g = s.h⌝ ∗ pt c sc0 fullShare g) ∗ (∃ g, ⌜View.read (Elt F) sc1.view g = s.c⌝ ∗ pt c sc1 fullShare g)
    ∗ (∃ g, ⌜View.read (Elt F) sc4.view g = s.mask⌝ ∗ pt c sc4 fullShare g)
    ∗ (∃ g, pt c sc5 fullShare g) ∗ (∃ g, pt c sc6 fullShare g)
    ∗ (∃ g, ⌜View.read (Elt F) sc7.view g = M⌝ ∗ pt c sc7 fullShare g)
    ∗ (∃ g, ⌜View.read (Elt F) sc8.view g = (fun y => if (y 0).val = 1 then s.ib else s.a1)⌝ ∗ pt c sc8 fullShare g)
    ∗ (∃ g, ⌜View.read (Elt F) sc9.view g = (fun _ => s.sf)⌝ ∗ pt c sc9 fullShare g)) := by
  unfold carry owns; exact .rfl

theorem flying_open (c : Dev nD) (fE : Buf (Elt F) (hbE.view.loc (c : Thread nD τ))) (X2 X3 : FVec F S1x64 .f32) : (flying c fE X2 X3 : sProp 𝕄) ⊢
  iprop(∃ g2 g3, ⌜View.read (Elt F) sc2.view g2 = X2 ∧ View.read (Elt F) sc3.view g3 = X3⌝
    ∗ Transfers.Flight countersEmb (c : Thread nD τ) (SemLoc.dma (10 : DmaSem sig)) default 16 iprop(pt c sc2 fullShare g2 ∗ pt c hbE (Transfers.shareTokN fullShare 10) fE)
    ∗ Transfers.Flight countersEmb (c : Thread nD τ) (SemLoc.dma (11 : DmaSem sig)) default 16 iprop(pt c sc3 fullShare g3 ∗ pt c hbE (Transfers.shareTokN fullShare 11) fE)) := by
  unfold flying; exact .rfl

/-- What the step hands on, in the step's own words. -/
def keeps (c : Dev nD) (L : Loads F) (M : FVec F S8x12500 .f32) : sProp 𝕄 :=
  iprop(owns (c : Thread nD τ) sc0 fullShare L.hNew ∗ owns (c : Thread nD τ) sc1 fullShare L.cNew
    ∗ owns (c : Thread nD τ) sc4 fullShare L.maskNew
    ∗ (∃ g, pt c sc5 fullShare g) ∗ (∃ g, pt c sc6 fullShare g)
    ∗ owns (c : Thread nD τ) sc7 fullShare M
    ∗ owns (c : Thread nD τ) sc8 fullShare (fun y => if (y 0).val = 1 then L.ib else L.a1)
    ∗ owns (c : Thread nD τ) sc9 fullShare (fun _ => L.sfNew))

theorem stAt_succ (I : Inp F) (t : ℕ) : stAt I (t + 1) = (stAt I t).next I := rfl
theorem carry_next (c : Dev nD) (I : Inp F) (s : St F) (M : FVec F S8x12500 .f32) : carry c (s.next I) M = keeps c (loads I s) M := by
  simp only [St.next, carry, keeps]
theorem e1_next (I : Inp F) (s : St F) : (s.next I).e1 = embRow I.emb (loads I s).a1 := rfl
theorem e2_next (I : Inp F) (s : St F) : (s.next I).e2 = embRow I.emb (loads I s).ib := rfl
theorem a1_next (I : Inp F) (s : St F) : (s.next I).a1 = (loads I s).a1 := by simp only [St.next]
theorem ib_next (I : Inp F) (s : St F) : (s.next I).ib = (loads I s).ib := by simp only [St.next]

/-- Between two points: before the first and after the last nothing is under way, in between both rows are. -/
def between (c : Dev nD) (p : ℕ) : sProp 𝕄 :=
  if p = 0 ∨ p = 50 then Pipeline.ΦD osem0 spec0 H0 (V m) c
  else iprop(carry c (stAt (inp m c) p) (inp m c).mem ∗ flying c (V m c main_arg1) (stAt (inp m c) p).e1 (stAt (inp m c) p).e2 ∗ (∃ r, prngReg c r) ∗ restE c (V m c main_arg1))

theorem between_idle (c : Dev nD) {p : ℕ} (h : p = 0 ∨ p = 50) : between m c p = Pipeline.ΦD osem0 spec0 H0 (V m) c := if_pos h
theorem between_busy (c : Dev nD) {p : ℕ} (h : ¬(p = 0 ∨ p = 50)) :
    between m c p = iprop(carry c (stAt (inp m c) p) (inp m c).mem ∗ flying c (V m c main_arg1) (stAt (inp m c) p).e1 (stAt (inp m c) p).e2 ∗ (∃ r, prngReg c r) ∗ restE c (V m c main_arg1)) := if_neg h
theorem between_next (c : Dev nD) {p : ℕ} (h : ¬(p + 1 = 0 ∨ p + 1 = 50)) :
    between m c (p + 1) = iprop(keeps c (ldAt (inp m c) p) (inp m c).mem
      ∗ flying c (V m c main_arg1) (embRow (View.read (Elt F) hbE.view (V m c main_arg1)) (ldAt (inp m c) p).a1) (embRow (View.read (Elt F) hbE.view (V m c main_arg1)) (ldAt (inp m c) p).ib)
      ∗ (∃ r, prngReg c r) ∗ restE c (V m c main_arg1)) := by
  rw [between_busy m c h, stAt_succ, carry_next, e1_next, e2_next]
  rfl

def dats (_ : Fin 1) (c : Dev nD) : Dat τ (Elt F) Unit ℕ (Pipeline.UD sig nD τ) ℕ cfg0 c where
  A w := V m c (Pipeline.arrRef spec0 w)
  after w t := Classical.arbitrary _
  Φ t := between m c t.val
  q _ := fullShare
  owed _ := 0

abbrev every (_ : Fin cfg0.W) : Bool := true
abbrev rdat (c : Dev nD) := (dats m 0 c).toRRel every (rl m c)

theorem A_eq (c : Dev nD) (w : Fin cfg0.W) : (dats m 0 c).A w = V m c (Pipeline.arrRef spec0 w) := by
  dsimp only [dats]

theorem coords_val : ∀ t : Fin grid0.N, (grid0.coords t 0).val = t.val := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val ≠ 0 := by decide +kernel
theorem cond3_iff : ∀ t : Fin grid0.N, k0_cond3 (grid0.coords t) = 1#1 ↔ t.val ≠ 49 := by decide +kernel
theorem cond4_iff : ∀ t : Fin grid0.N, k0_cond4 (grid0.coords t) = 1#1 ↔ t.val ≠ 49 := by decide +kernel

theorem st_lt (hA : ∀ U, (extractAt ![0, 0, 0] (k0_pay47 (F := F) k0_pay10 U) inpos_S1x1x1_p0_0_0 : BitVec 32).toNat < 100000)
    (hB : ∀ U M, (extractAt ![0, 0, 0] (k0_pay50 (F := F) k0_pay10 U M) inpos_S1x1x1_p0_0_0 : BitVec 32).toNat < 100000) (I : Inp F) :
    ∀ t, (stAt I t).a1.toNat < 100000 ∧ (stAt I t).ib.toNat < 100000
  | 0 => ⟨by show (0#32 : BitVec 32).toNat < 100000; decide, by show (0#32 : BitVec 32).toNat < 100000; decide⟩
  | t + 1 => by
    rw [stAt_succ, a1_next, ib_next]; unfold Loads.a1 Loads.ib
    exact ⟨hA _, hB _ _⟩

/-- What a point finds in the two lists of words: what the point before it left. -/
theorem found6 (c : Dev nD) (t : Fin cfg0.N) (Y : S50.Idx → Elt F .i32) (h : (rdat m c).Finds 6 t Y) (y : S50.Idx) (hy : (y 0).val < t.val) :
    Y y = (ldAt (inp m c) (y 0).val).ahat := by
  have hN : cfg0.N = 50 := N_0
  have ht := t.isLt
  rcases ((rdat m c).finds_of_pos (w := 6) rfl (by omega) Y).mp h with h | h
  · have := (flush0_6 _).mp h; dsimp only at this; omega
  · exact (Dat.toRRel_leaves (dats m 0 c) (w := 6) rfl h : ∀ y : S50.Idx, _ → _) y (by dsimp only; omega)
theorem found7 (c : Dev nD) (t : Fin cfg0.N) (Y : S50.Idx → Elt F .i32) (h : (rdat m c).Finds 7 t Y) (y : S50.Idx) (hy : (y 0).val < t.val) :
    Y y = (ldAt (inp m c) (y 0).val).fb := by
  have hN : cfg0.N = 50 := N_0
  have ht := t.isLt
  rcases ((rdat m c).finds_of_pos (w := 7) rfl (by omega) Y).mp h with h | h
  · have := (flush0_7 _).mp h; dsimp only at this; omega
  · exact (Dat.toRRel_leaves (dats m 0 c) (w := 7) rfl h : ∀ y : S50.Idx, _ → _) y (by dsimp only; omega)

/-- What a point finds in an input's window: the whole input. -/
theorem found_in (c : Dev nD) (w : Fin cfg0.W) (hw : (cfg0.win w).isOut = false)
    (hf : ∀ t : Fin cfg0.N, (cfg0.win w).fetch t = true ↔ t.val % 50 = 0)
    (X : (cfg0.win w).block.Idx → Elt F (cfg0.win w).elt) (hX : ∀ t d, (rdat m c).fetched w t d = X)
    (hrl : ∀ t Y, rl m c w t Y → Y = X) (t : Fin cfg0.N) (Y) (h : (rdat m c).Finds w t Y) : Y = X := by
  have hN : cfg0.N = 50 := N_0
  have ht := t.isLt
  by_cases h0 : t.val = 0
  · obtain ⟨d, rfl⟩ := ((rdat m c).finds_of_fetch ((hf t).mpr (by omega)) Y).mp h
    exact hX t d
  · have hn : (cfg0.win w).fetch t = false := by
      rw [← Bool.not_eq_true]; intro hc; have := (hf t).mp hc; omega
    rcases ((rdat m c).finds_of_pos hn h0 Y).mp h with h | h
    · rw [(cfg0.win w).flush_in hw] at h; exact absurd h Bool.false_ne_true
    · exact hrl _ _ (Dat.toRRel_leaves (dats m 0 c) rfl h)

/-- What a fetch of an uncut block at the array's start brings, at an index. -/
theorem fetched_apply (c : Dev nD) (w : Fin cfg0.W) (t : Fin cfg0.N) (d : (cfg0.win w).block.Idx → Elt F (cfg0.win w).elt) (j : (cfg0.win w).block.Idx)
    (hclip : ∀ a, (cfg0.win w).clip (cfg0.grid.coords t) a = none) (hix : ∀ a, (cfg0.win w).kind.off ((cfg0.win w).index t a) ((cfg0.win w).size a) = 0) :
    ∃ i : (cfg0.win w).shape.Idx, (∀ a, (i a).val = (j a).val) ∧
      (rdat m c).fetched w t d j = View.read (Elt F) (cfg0.win w).arr.view ((rdat m c).A w) i := by
  have hm : (cfg0.win w).moved (cfg0.grid.coords t) j = true :=
    ((cfg0.win w).moved_iff _ j).mpr fun a => by have := (j a).isLt; unfold Pipeline.Window.xsize; rw [hclip a]; exact this
  unfold RDat.fetched Pipeline.Window.fill
  rw [dif_pos hm]
  refine ⟨((cfg0.win w).rect t).emb _, fun a => ?_, rfl⟩
  rw [Rect.emb_apply]
  show (cfg0.win w).kind.off ((cfg0.win w).index t a) ((cfg0.win w).size a) + 1 * (j a).val = (j a).val
  rw [hix a]; omega

theorem found0 (c : Dev nD) (t : Fin cfg0.N) (Y) (h : (rdat m c).Finds 0 t Y) : Y = (inp m c).x := by
  refine found_in m c 0 rfl fetch0_0 _ (fun t d => ?_) (fun _ _ h => h) t Y h
  funext j
  have h1 : ∀ a, (cfg0.win 0).clip (cfg0.grid.coords t) a = none := fun _ => rfl
  have h2 : ∀ a, (cfg0.win 0).kind.off ((cfg0.win 0).index t a) ((cfg0.win 0).size a) = 0 := by
    intro a; fin_cases a <;> exact Nat.zero_mul _
  obtain ⟨i, hi, e⟩ := fetched_apply m c 0 t d j h1 h2
  refine e.trans (congrArg (View.read (Elt F) (Memref.whole main_arg0).view (V m c main_arg0)) ?_)
  funext a; exact Fin.ext (hi a)

theorem found1 (c : Dev nD) (t : Fin cfg0.N) (Y) (h : (rdat m c).Finds 1 t Y) : Y = (inp m c).wih := by
  refine found_in m c 1 rfl fetch0_1 _ (fun t d => ?_) (fun _ _ h => h) t Y h
  funext j
  have h1 : ∀ a, (cfg0.win 1).clip (cfg0.grid.coords t) a = none := fun _ => rfl
  have h2 : ∀ a, (cfg0.win 1).kind.off ((cfg0.win 1).index t a) ((cfg0.win 1).size a) = 0 := by
    intro a; fin_cases a <;> exact Nat.zero_mul _
  obtain ⟨i, hi, e⟩ := fetched_apply m c 1 t d j h1 h2
  refine e.trans (congrArg (View.read (Elt F) (Memref.whole main_v0).view (V m c main_v0)) ?_)
  funext a; exact Fin.ext (hi a)

theorem found2 (c : Dev nD) (t : Fin cfg0.N) (Y) (h : (rdat m c).Finds 2 t Y) : Y = (inp m c).whh := by
  refine found_in m c 2 rfl fetch0_2 _ (fun t d => ?_) (fun _ _ h => h) t Y h
  funext j
  have h1 : ∀ a, (cfg0.win 2).clip (cfg0.grid.coords t) a = none := fun _ => rfl
  have h2 : ∀ a, (cfg0.win 2).kind.off ((cfg0.win 2).index t a) ((cfg0.win 2).size a) = 0 := by
    intro a; fin_cases a <;> exact Nat.zero_mul _
  obtain ⟨i, hi, e⟩ := fetched_apply m c 2 t d j h1 h2
  refine e.trans (congrArg (View.read (Elt F) (Memref.whole main_v1).view (V m c main_v1)) ?_)
  funext a; exact Fin.ext (hi a)

theorem found3 (c : Dev nD) (t : Fin cfg0.N) (Y) (h : (rdat m c).Finds 3 t Y) : Y = (inp m c).bg := by
  refine found_in m c 3 rfl fetch0_3 _ (fun t d => ?_) (fun _ _ h => h) t Y h
  funext j
  have h1 : ∀ a, (cfg0.win 3).clip (cfg0.grid.coords t) a = none := fun _ => rfl
  have h2 : ∀ a, (cfg0.win 3).kind.off ((cfg0.win 3).index t a) ((cfg0.win 3).size a) = 0 := by
    intro a; fin_cases a <;> exact Nat.zero_mul _
  obtain ⟨i, hi, e⟩ := fetched_apply m c 3 t d j h1 h2
  refine e.trans (congrArg (View.read (Elt F) (Memref.whole main_v3).view (V m c main_v3)) ?_)
  funext a; exact Fin.ext (hi a)

theorem found4 (c : Dev nD) (t : Fin cfg0.N) (Y) (h : (rdat m c).Finds 4 t Y) : Y = (inp m c).wot := by
  refine found_in m c 4 rfl fetch0_4 _ (fun t d => ?_) (fun _ _ h => h) t Y h
  funext j
  have h1 : ∀ a, (cfg0.win 4).clip (cfg0.grid.coords t) a = none := fun _ => rfl
  have h2 : ∀ a, (cfg0.win 4).kind.off ((cfg0.win 4).index t a) ((cfg0.win 4).size a) = 0 := by
    intro a; fin_cases a <;> exact Nat.zero_mul _
  obtain ⟨i, hi, e⟩ := fetched_apply m c 4 t d j h1 h2
  refine e.trans (congrArg (View.read (Elt F) (Memref.whole main_v5).view (V m c main_v5)) ?_)
  funext a; exact Fin.ext (hi a)

theorem found5 (c : Dev nD) (t : Fin cfg0.N) (Y) (h : (rdat m c).Finds 5 t Y) : Y = (inp m c).bo := by
  refine found_in m c 5 rfl fetch0_5 _ (fun t d => ?_) (fun _ _ h => h) t Y h
  funext j
  have h1 : ∀ a, (cfg0.win 5).clip (cfg0.grid.coords t) a = none := fun _ => rfl
  have h2 : ∀ a, (cfg0.win 5).kind.off ((cfg0.win 5).index t a) ((cfg0.win 5).size a) = 0 := by
    intro a; fin_cases a <;> exact Nat.zero_mul _
  obtain ⟨i, hi, e⟩ := fetched_apply m c 5 t d j h1 h2
  refine e.trans (congrArg (View.read (Elt F) (Memref.whole main_v6).view (V m c main_v6)) ?_)
  funext a; exact Fin.ext (hi a)

end Cert.KernelIdeal.Hand
end
-- ==== Proof.RunFirst.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.DatRel
public import Idealize.ShloMosaic.Lib.Tactic
public import Idealize.ShloMosaic.Lib.WordCmp
public import Idealize.ShloMosaic.Lib.WordArith.Masks
public import Idealize.ShloMosaic.Lib.ValueIdxCore
public import proofs.«01_k».proof.Proof.BodyWords

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (Pipeline.UD sig nD τ) ℕ

/-! # The first point: the scratch is set up, the membership table is filled, both rows are sent for. -/

/-- What this point's loads return. -/
def loadsFirst (c : Dev nD)
    (A1 : Memref sig .tc .smem S50 .i32)
    (A3 : Memref sig .tc .vmem S64x256 .f32)
    (A4 : Memref sig .tc .vmem S64x256 .f32)
    (A5 : Memref sig .tc .vmem S1x256 .f32)
    (A6 : Memref sig .tc .vmem S8x64x12500 .f32)
    (A7 : Memref sig .tc .vmem S8x12500 .f32)
    (f1 : Buf (Elt F) (A1.view.loc (c : Thread nD τ))) (f3 : Buf (Elt F) (A3.view.loc (c : Thread nD τ))) (f4 : Buf (Elt F) (A4.view.loc (c : Thread nD τ))) (f5 : Buf (Elt F) (A5.view.loc (c : Thread nD τ))) (f6 : Buf (Elt F) (A6.view.loc (c : Thread nD τ))) (f7 : Buf (Elt F) (A7.view.loc (c : Thread nD τ)))
    : Loads F where
  sf := FloatOps.ofBits .f32 0#32
  e2 := sc3.view.readCov (Val := Elt F) [⟨Rect.unit (s := S1x64) ![0, 0] ![1, 64] inb_S1x64_S1x64_0_0, k0_pay6⟩] (Rect.unit (s := S1x64) ![0, 0] ![1, 64] inb_S1x64_S1x64_0_0).toLoadRect
  e1 := sc2.view.readCov (Val := Elt F) [⟨Rect.unit (s := S1x64) ![0, 0] ![1, 64] inb_S1x64_S1x64_0_0, k0_pay5⟩] (Rect.unit (s := S1x64) ![0, 0] ![1, 64] inb_S1x64_S1x64_0_0).toLoadRect
  wih := View.readAt (Elt F) A3.view (Rect.unit (s := S64x256) ![0, 0] ![64, 256] inb_S64x256_S64x256_0_0).toLoadRect f3
  h := sc0.view.readCov (Val := Elt F) [⟨Rect.unit (s := S1x64) ![0, 0] ![1, 64] inb_S1x64_S1x64_0_0, k0_pay3⟩] (Rect.unit (s := S1x64) ![0, 0] ![1, 64] inb_S1x64_S1x64_0_0).toLoadRect
  whh := View.readAt (Elt F) A4.view (Rect.unit (s := S64x256) ![0, 0] ![64, 256] inb_S64x256_S64x256_0_0).toLoadRect f4
  bg := View.readAt (Elt F) A5.view (Rect.unit (s := S1x256) ![0, 0] ![1, 256] inb_S1x256_S1x256_0_0).toLoadRect f5
  c := sc1.view.readCov (Val := Elt F) [⟨Rect.unit (s := S1x64) ![0, 0] ![1, 64] inb_S1x64_S1x64_0_0, k0_pay4⟩] (Rect.unit (s := S1x64) ![0, 0] ![1, 64] inb_S1x64_S1x64_0_0).toLoadRect
  w0 := View.readAt (Elt F) A6.view (Rect.unit (s := S8x64x12500) ![0, 0, 0] ![1, 64, 12500] inb_S8x64x12500_S1x64x12500_0_0_0).toLoadRect f6
  w1 := View.readAt (Elt F) A6.view (Rect.unit (s := S8x64x12500) ![1, 0, 0] ![1, 64, 12500] inb_S8x64x12500_S1x64x12500_1_0_0).toLoadRect f6
  w2 := View.readAt (Elt F) A6.view (Rect.unit (s := S8x64x12500) ![2, 0, 0] ![1, 64, 12500] inb_S8x64x12500_S1x64x12500_2_0_0).toLoadRect f6
  w3 := View.readAt (Elt F) A6.view (Rect.unit (s := S8x64x12500) ![3, 0, 0] ![1, 64, 12500] inb_S8x64x12500_S1x64x12500_3_0_0).toLoadRect f6
  w4 := View.readAt (Elt F) A6.view (Rect.unit (s := S8x64x12500) ![4, 0, 0] ![1, 64, 12500] inb_S8x64x12500_S1x64x12500_4_0_0).toLoadRect f6
  w5 := View.readAt (Elt F) A6.view (Rect.unit (s := S8x64x12500) ![5, 0, 0] ![1, 64, 12500] inb_S8x64x12500_S1x64x12500_5_0_0).toLoadRect f6
  w6 := View.readAt (Elt F) A6.view (Rect.unit (s := S8x64x12500) ![6, 0, 0] ![1, 64, 12500] inb_S8x64x12500_S1x64x12500_6_0_0).toLoadRect f6
  w7 := View.readAt (Elt F) A6.view (Rect.unit (s := S8x64x12500) ![7, 0, 0] ![1, 64, 12500] inb_S8x64x12500_S1x64x12500_7_0_0).toLoadRect f6
  b0 := View.readAt (Elt F) A7.view (Rect.unit (s := S8x12500) ![0, 0] ![1, 12500] inb_S8x12500_S1x12500_0_0).toLoadRect f7
  b1 := View.readAt (Elt F) A7.view (Rect.unit (s := S8x12500) ![1, 0] ![1, 12500] inb_S8x12500_S1x12500_1_0).toLoadRect f7
  b2 := View.readAt (Elt F) A7.view (Rect.unit (s := S8x12500) ![2, 0] ![1, 12500] inb_S8x12500_S1x12500_2_0).toLoadRect f7
  b3 := View.readAt (Elt F) A7.view (Rect.unit (s := S8x12500) ![3, 0] ![1, 12500] inb_S8x12500_S1x12500_3_0).toLoadRect f7
  b4 := View.readAt (Elt F) A7.view (Rect.unit (s := S8x12500) ![4, 0] ![1, 12500] inb_S8x12500_S1x12500_4_0).toLoadRect f7
  b5 := View.readAt (Elt F) A7.view (Rect.unit (s := S8x12500) ![5, 0] ![1, 12500] inb_S8x12500_S1x12500_5_0).toLoadRect f7
  b6 := View.readAt (Elt F) A7.view (Rect.unit (s := S8x12500) ![6, 0] ![1, 12500] inb_S8x12500_S1x12500_6_0).toLoadRect f7
  b7 := View.readAt (Elt F) A7.view (Rect.unit (s := S8x12500) ![7, 0] ![1, 12500] inb_S8x12500_S1x12500_7_0).toLoadRect f7
  m0 := sc4.view.readCov (Val := Elt F) [⟨Rect.unit (s := S8x12500) ![0, 0] ![8, 12500] inb_S8x12500_S8x12500_0_0, k0_pay7⟩] (Rect.unit (s := S8x12500) ![0, 0] ![1, 12500] inb_S8x12500_S1x12500_0_0).toLoadRect
  m1 := sc4.view.readCov (Val := Elt F) [⟨Rect.unit (s := S8x12500) ![0, 0] ![8, 12500] inb_S8x12500_S8x12500_0_0, k0_pay7⟩] (Rect.unit (s := S8x12500) ![1, 0] ![1, 12500] inb_S8x12500_S1x12500_1_0).toLoadRect
  m2 := sc4.view.readCov (Val := Elt F) [⟨Rect.unit (s := S8x12500) ![0, 0] ![8, 12500] inb_S8x12500_S8x12500_0_0, k0_pay7⟩] (Rect.unit (s := S8x12500) ![2, 0] ![1, 12500] inb_S8x12500_S1x12500_2_0).toLoadRect
  m3 := sc4.view.readCov (Val := Elt F) [⟨Rect.unit (s := S8x12500) ![0, 0] ![8, 12500] inb_S8x12500_S8x12500_0_0, k0_pay7⟩] (Rect.unit (s := S8x12500) ![3, 0] ![1, 12500] inb_S8x12500_S1x12500_3_0).toLoadRect
  m4 := sc4.view.readCov (Val := Elt F) [⟨Rect.unit (s := S8x12500) ![0, 0] ![8, 12500] inb_S8x12500_S8x12500_0_0, k0_pay7⟩] (Rect.unit (s := S8x12500) ![4, 0] ![1, 12500] inb_S8x12500_S1x12500_4_0).toLoadRect
  m5 := sc4.view.readCov (Val := Elt F) [⟨Rect.unit (s := S8x12500) ![0, 0] ![8, 12500] inb_S8x12500_S8x12500_0_0, k0_pay7⟩] (Rect.unit (s := S8x12500) ![5, 0] ![1, 12500] inb_S8x12500_S1x12500_5_0).toLoadRect
  m6 := sc4.view.readCov (Val := Elt F) [⟨Rect.unit (s := S8x12500) ![0, 0] ![8, 12500] inb_S8x12500_S8x12500_0_0, k0_pay7⟩] (Rect.unit (s := S8x12500) ![6, 0] ![1, 12500] inb_S8x12500_S1x12500_6_0).toLoadRect
  m7 := sc4.view.readCov (Val := Elt F) [⟨Rect.unit (s := S8x12500) ![0, 0] ![8, 12500] inb_S8x12500_S8x12500_0_0, k0_pay7⟩] (Rect.unit (s := S8x12500) ![7, 0] ![1, 12500] inb_S8x12500_S1x12500_7_0).toLoadRect
  mem := sc7.view.readCov (Val := Elt F) [⟨Rect.unit (s := S8x12500) ![0, 0] ![8, 12500] inb_S8x12500_S8x12500_0_0, k0_pay11 (memSt k0_pay10 (View.read (Elt F) A1.view f1) k0_pay8 (Scf.trips k0_t1_loop.lb k0_t1_loop.ub k0_t1_loop.st))⟩] (Rect.unit (s := S8x12500) ![0, 0] ![8, 12500] inb_S8x12500_S8x12500_0_0).toLoadRect
  mask := sc4.view.readCov (Val := Elt F) [⟨Rect.unit (s := S8x12500) ![0, 0] ![8, 12500] inb_S8x12500_S8x12500_0_0, k0_pay7⟩] (Rect.unit (s := S8x12500) ![0, 0] ![8, 12500] inb_S8x12500_S8x12500_0_0).toLoadRect

theorem memSt_zero (v4 : IVec S8x12500 32) (x : Vec F S50 .i32) (init : FVec F S8x12500 .f32) : init = memSt v4 x init 0 := rfl

attribute [local irreducible] memSt

set_option maxHeartbeats 16000000 in
set_option sl_exec.dischHeartbeats 40000 in
theorem runFirst (c : Dev nD) (i : grid0.Coords)
    (hc1 : k0_cond1 i = 1#1) (hc2 : ¬ k0_cond2 i = 1#1) (hc3 : k0_cond3 i = 1#1) (hc4 : k0_cond4 i = 1#1)
    (A1 : Memref sig .tc .smem S50 .i32) (h1 : A1.IsWhole)
    (A3 : Memref sig .tc .vmem S64x256 .f32) (h3 : A3.IsWhole)
    (A4 : Memref sig .tc .vmem S64x256 .f32) (h4 : A4.IsWhole)
    (A5 : Memref sig .tc .vmem S1x256 .f32) (h5 : A5.IsWhole)
    (A6 : Memref sig .tc .vmem S8x64x12500 .f32) (h6 : A6.IsWhole)
    (A7 : Memref sig .tc .vmem S8x12500 .f32) (h7 : A7.IsWhole)
    (A8 : Memref sig .tc .smem S50 .i32) (h8 : A8.IsWhole)
    (A9 : Memref sig .tc .smem S50 .i32) (h9 : A9.IsWhole)
    (A10 : Memref sig .tc .vmem S1x8x12500 .f32) (h10 : A10.IsWhole)
    (f1 : Buf (Elt F) (A1.view.loc (c : Thread nD τ))) (f3 : Buf (Elt F) (A3.view.loc (c : Thread nD τ))) (f4 : Buf (Elt F) (A4.view.loc (c : Thread nD τ))) (f5 : Buf (Elt F) (A5.view.loc (c : Thread nD τ))) (f6 : Buf (Elt F) (A6.view.loc (c : Thread nD τ))) (f7 : Buf (Elt F) (A7.view.loc (c : Thread nD τ))) (f8 : Buf (Elt F) (A8.view.loc (c : Thread nD τ))) (f9 : Buf (Elt F) (A9.view.loc (c : Thread nD τ))) (f10 : Buf (Elt F) (A10.view.loc (c : Thread nD τ)))
    (g0 : Buf (Elt F) (sc0.view.loc (c : Thread nD τ))) (g1 : Buf (Elt F) (sc1.view.loc (c : Thread nD τ))) (g2 : Buf (Elt F) (sc2.view.loc (c : Thread nD τ))) (g3 : Buf (Elt F) (sc3.view.loc (c : Thread nD τ))) (g4 : Buf (Elt F) (sc4.view.loc (c : Thread nD τ))) (g5 : Buf (Elt F) (sc5.view.loc (c : Thread nD τ))) (g6 : Buf (Elt F) (sc6.view.loc (c : Thread nD τ))) (g7 : Buf (Elt F) (sc7.view.loc (c : Thread nD τ))) (g8 : Buf (Elt F) (sc8.view.loc (c : Thread nD τ))) (g9 : Buf (Elt F) (sc9.view.loc (c : Thread nD τ)))
    (fE : Buf (Elt F) (hbE.view.loc (c : Thread nD τ)))
    (W : Waits sig Unit) (K : PUnit → sProp 𝕄)
    (hA : ∀ U, (extractAt ![0, 0, 0] (k0_pay47 (F := F) k0_pay10 U) inpos_S1x1x1_p0_0_0 : BitVec 32).toNat < 100000)
    (hB : ∀ U M, (extractAt ![0, 0, 0] (k0_pay50 (F := F) k0_pay10 U M) inpos_S1x1x1_p0_0_0 : BitVec 32).toNat < 100000) :
    iprop(pt c A1 fullShare f1 ∗ pt c A3 fullShare f3 ∗ pt c A4 fullShare f4 ∗ pt c A5 fullShare f5 ∗ pt c A6 fullShare f6 ∗ pt c A7 fullShare f7 ∗ pt c A8 fullShare f8 ∗ pt c A9 fullShare f9 ∗ pt c A10 fullShare f10
      ∗ pt c sc0 fullShare g0 ∗ pt c sc1 fullShare g1 ∗ pt c sc2 fullShare g2 ∗ pt c sc3 fullShare g3 ∗ pt c sc4 fullShare g4 ∗ pt c sc5 fullShare g5 ∗ pt c sc6 fullShare g6 ∗ pt c sc7 fullShare g7 ∗ pt c sc8 fullShare g8 ∗ pt c sc9 fullShare g9
      ∗ pt c hbE (Transfers.shareTokN fullShare 10) fE ∗ pt c hbE (Transfers.shareTokN fullShare 11) fE
      ∗ semVal ((c : Thread nD τ), SemLoc.dma (10 : DmaSem sig)) 0 ∗ semVal ((c : Thread nD τ), SemLoc.dma (11 : DmaSem sig)) 0
      ∗ owes (c : Thread nD τ) 0 W
      ∗ (iprop(common c i A1 A3 A4 A5 A6 A7 A8 A9 A10 f1 f3 f4 f5 f6 f7 f8 f9 (loadsFirst c A1 A3 A4 A5 A6 A7 f1 f3 f4 f5 f6 f7).mem (loadsFirst c A1 A3 A4 A5 A6 A7 f1 f3 f4 f5 f6 f7) ∗ flying c fE (embRow (View.read (Elt F) hbE.view fE) (loadsFirst c A1 A3 A4 A5 A6 A7 f1 f3 f4 f5 f6 f7).a1) (embRow (View.read (Elt F) hbE.view fE) (loadsFirst c A1 A3 A4 A5 A6 A7 f1 f3 f4 f5 f6 f7).ib)) -∗ K ⟨⟩))
    ⊢ wp frame (wpE (defs₀ (F := F)) Variants.none c none) Set.univ
        (cc0__step_kernel i A1 h1 hbE (Memref.isWhole_whole _) A3 h3 A4 h4 A5 h5 A6 h6 A7 h7 A8 h8 A9 h9 A10 h10 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) cc0_scratch10) K := by
  simp only [cc0__step_kernel_eq_skeleton]; unfold cc0__step_kernel_skel
  simp only [k0_part2_eq_skeleton, k0_part3_eq_skeleton, k0_part4_eq_skeleton, k0_part5_eq_skeleton, k0_part6_eq_skeleton, k0_part7_eq_skeleton, k0_part8_eq_skeleton]
  unfold k0_part2_skel
  simp only [dif_pos hc1, dif_neg hc2, dif_pos hc3, dif_pos hc4, k0_part1_eq_skeleton]
  unfold k0_part1_skel k0_part3_skel k0_part4_skel k0_part5_skel k0_part6_skel k0_part7_skel k0_part8_skel
  simp only [dif_pos hc1, dif_neg hc2, dif_pos hc3, dif_pos hc4]
  iintro ⟨H1, H3, H4, H5, H6, H7, H8, H9, H10, G0, G1, G2, G3, G4, G5, G6, G7, G8, G9, T10, T11, S10, S11, HW, Hk⟩
  have hz := memSt_zero (F := F) k0_pay10 (View.read (Elt F) A1.view f1) k0_pay8
  sl_exec
  rw [Prog.bind_assoc]
  sl_exec (disch := first | ((with_reducible refine chk3_of _ ?_); unfold runFirst.sl.r_4; exact hA _) | ((with_reducible refine chk4_of _ ?_); unfold runFirst.sl.r_5; exact hB _ _))
  sl_step
  have hM : runFirst.sl.v186 c A1 f1 = (loadsFirst c A1 A3 A4 A5 A6 A7 f1 f3 f4 f5 f6 f7).mem := by
    unfold runFirst.sl.v186 runFirst.sl.G7_1 loadsFirst
    dsimp only
  have hU : runFirst.sl.v169 c i A3 A4 A5 A6 A7 f3 f4 f5 f6 f7 g5 = (loadsFirst c A1 A3 A4 A5 A6 A7 f1 f3 f4 f5 f6 f7).U := by
    unfold runFirst.sl.v169 runFirst.sl.G6_8 Loads.U loadsFirst
    dsimp only [Loads.uList, Loads.hid, Loads.gI, Loads.gF, Loads.gG, Loads.gO]
    rfl
  have hE : runFirst.sl.v204 c i A3 A4 A5 A6 A7 f3 f4 f5 f6 f7 g5 = (loadsFirst c A1 A3 A4 A5 A6 A7 f1 f3 f4 f5 f6 f7).E := by
    unfold runFirst.sl.v204 runFirst.sl.G5_8 Loads.E loadsFirst
    dsimp only [Loads.eList, Loads.hid, Loads.gI, Loads.gF, Loads.gG, Loads.gO]
    rfl
  have hQ : runFirst.sl.v239 (F := F) = (loadsFirst c A1 A3 A4 A5 A6 A7 f1 f3 f4 f5 f6 f7).mask := by
    unfold runFirst.sl.v239 loadsFirst
    dsimp only
  ihave F10 := (flight_joinE (F := F)) $$ [T10 S10]
  · isplitl [T10]; · iexact T10
    iexact S10
  ihave F11 := (flight_joinE (F := F)) $$ [T11 S11]
  · isplitl [T11]; · iexact T11
    iexact S11
  iapply Hk
  isplitl [H1 H3 H4 H5 H6 H7 H8 H9 H10 G0 G1 G4 G5 G6 G7 G8 G9 HW]
  · unfold common
    isplitl [H1]; · iexact H1
    isplitl [H3]; · iexact H3
    isplitl [H4]; · iexact H4
    isplitl [H5]; · iexact H5
    isplitl [H6]; · iexact H6
    isplitl [H7]; · iexact H7
    isplitl [H8]
    · unfold owns; iexists _; isplitr; swap
      · iexact H8
      · ipureintro; funext y
        refine (View.read_writes_cons_cell _ _ _ _ _ y).trans ?_
        rw [off6_zero]
        rw [hU, hM]; generalize (loadsFirst c A1 A3 A4 A5 A6 A7 f1 f3 f4 f5 f6 f7) = L; rfl
    isplitl [H9]
    · unfold owns; iexists _; isplitr; swap
      · iexact H9
      · ipureintro; funext y
        refine (View.read_writes_cons_cell _ _ _ _ _ y).trans ?_
        rw [off6_zero]
        rw [hU, hM]; generalize (loadsFirst c A1 A3 A4 A5 A6 A7 f1 f3 f4 f5 f6 f7) = L; rfl
    isplitl [H10]
    · unfold owns; iexists _; isplitr; swap
      · iexact H10
      · ipureintro; refine (View.read_writes_full _ _ _ _ _).trans ?_
        rw [hU, hE]; generalize (loadsFirst c A1 A3 A4 A5 A6 A7 f1 f3 f4 f5 f6 f7) = L; rfl
    isplitl [G0]
    · unfold owns; iexists _; isplitr; swap
      · iexact G0
      · ipureintro; exact (View.read_writes_full _ _ _ _ _).trans rfl
    isplitl [G1]
    · unfold owns; iexists _; isplitr; swap
      · iexact G1
      · ipureintro; exact (View.read_writes_full _ _ _ _ _).trans rfl
    isplitl [G4]
    · unfold owns; iexists _; isplitr; swap
      · iexact G4
      · ipureintro; refine (View.read_writes_full _ _ _ _ _).trans ?_
        dsimp only
        rw [hU, hM, hQ]; generalize (loadsFirst c A1 A3 A4 A5 A6 A7 f1 f3 f4 f5 f6 f7) = L; rfl
    isplitl [G5]; · iexists _; iexact G5
    isplitl [G6]; · iexists _; iexact G6
    isplitl [G7]
    · unfold owns; iexists _; isplitr; swap
      · iexact G7
      · ipureintro; refine (View.read_writes_full _ _ _ _ _).trans ?_
        rw [← hM]; unfold runFirst.sl.v186 runFirst.sl.G7_1
        exact (View.readCov_full (Val := Elt F) sc7.view _ _ _ _).symm
    isplitl [G8]
    · unfold owns; iexists _; isplitr; swap
      · iexact G8
      · ipureintro; funext y
        have hy : (y 0).val < 2 := (y 0).isLt
        refine (View.read_writes_cons_cell _ _ _ _ _ y).trans ?_
        show (if (y 0).val = 1 then _ else _) = _
        by_cases h : (y 0).val = 1
        · rw [if_pos h, if_pos h]
          rw [hU, hM]; generalize (loadsFirst c A1 A3 A4 A5 A6 A7 f1 f3 f4 f5 f6 f7) = L; rfl
        · rw [if_neg h, if_neg h]
          refine (View.read_writes_cons_cell _ _ _ _ _ y).trans ?_
          show (if (y 0).val = 0 then _ else _) = _
          rw [if_pos (by omega)]
          rw [hU]; generalize (loadsFirst c A1 A3 A4 A5 A6 A7 f1 f3 f4 f5 f6 f7) = L; rfl
    isplitl [G9]
    · unfold owns; iexists _; isplitr; swap
      · iexact G9
      · ipureintro; refine (View.read_writes_full _ _ _ _ _).trans ?_
        rw [hU, hM]; generalize (loadsFirst c A1 A3 A4 A5 A6 A7 f1 f3 f4 f5 f6 f7) = L; rfl
    iexists _; iexact HW
  · unfold flying
    iexists _; iexists _
    isplitr; swap
    · isplitl [F10]; · iexact F10
      iexact F11
    · ipureintro
      unfold Loads.a1 Loads.ib
      rw [← hU, ← hM]
      exact ⟨(read_writes_whole _ _ _ _).trans (read_row c fE _ _ rfl _ (hA _)), (read_writes_whole _ _ _ _).trans (read_row c fE _ _ rfl _ (hB _ _))⟩

end Cert.KernelIdeal.Hand
end
-- ==== Proof.RunMid.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.DatRel
public import Idealize.ShloMosaic.Lib.Tactic
public import Idealize.ShloMosaic.Lib.WordCmp
public import Idealize.ShloMosaic.Lib.WordArith.Masks
public import Idealize.ShloMosaic.Lib.ValueIdxCore
public import proofs.«01_k».proof.Proof.BodyWords

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (Pipeline.UD sig nD τ) ℕ

/-! # A point between: both rows arrive, the step is computed, the next two rows are sent for. -/

/-- What this point's loads return. -/
def loadsMid (c : Dev nD)
    (A1 : Memref sig .tc .smem S50 .i32)
    (A3 : Memref sig .tc .vmem S64x256 .f32)
    (A4 : Memref sig .tc .vmem S64x256 .f32)
    (A5 : Memref sig .tc .vmem S1x256 .f32)
    (A6 : Memref sig .tc .vmem S8x64x12500 .f32)
    (A7 : Memref sig .tc .vmem S8x12500 .f32)
    (f1 : Buf (Elt F) (A1.view.loc (c : Thread nD τ))) (f3 : Buf (Elt F) (A3.view.loc (c : Thread nD τ))) (f4 : Buf (Elt F) (A4.view.loc (c : Thread nD τ))) (f5 : Buf (Elt F) (A5.view.loc (c : Thread nD τ))) (f6 : Buf (Elt F) (A6.view.loc (c : Thread nD τ))) (f7 : Buf (Elt F) (A7.view.loc (c : Thread nD τ)))
    (g0 : Buf (Elt F) (sc0.view.loc (c : Thread nD τ))) (g1 : Buf (Elt F) (sc1.view.loc (c : Thread nD τ))) (g2 : Buf (Elt F) (sc2.view.loc (c : Thread nD τ))) (g3 : Buf (Elt F) (sc3.view.loc (c : Thread nD τ))) (g4 : Buf (Elt F) (sc4.view.loc (c : Thread nD τ))) (g7 : Buf (Elt F) (sc7.view.loc (c : Thread nD τ))) (g9 : Buf (Elt F) (sc9.view.loc (c : Thread nD τ)))
    : Loads F where
  sf := View.readAt (Elt F) sc9.view (Rect.unit (s := S1) ![0] ![1] inb_S1_S1_0).toLoadRect g9 (Shape.Idx.first (show 0 < (1 : ℕ) from Nat.one_pos))
  e2 := View.readAt (Elt F) sc3.view (Rect.unit (s := S1x64) ![0, 0] ![1, 64] inb_S1x64_S1x64_0_0).toLoadRect g3
  e1 := View.readAt (Elt F) sc2.view (Rect.unit (s := S1x64) ![0, 0] ![1, 64] inb_S1x64_S1x64_0_0).toLoadRect g2
  wih := View.readAt (Elt F) A3.view (Rect.unit (s := S64x256) ![0, 0] ![64, 256] inb_S64x256_S64x256_0_0).toLoadRect f3
  h := View.readAt (Elt F) sc0.view (Rect.unit (s := S1x64) ![0, 0] ![1, 64] inb_S1x64_S1x64_0_0).toLoadRect g0
  whh := View.readAt (Elt F) A4.view (Rect.unit (s := S64x256) ![0, 0] ![64, 256] inb_S64x256_S64x256_0_0).toLoadRect f4
  bg := View.readAt (Elt F) A5.view (Rect.unit (s := S1x256) ![0, 0] ![1, 256] inb_S1x256_S1x256_0_0).toLoadRect f5
  c := View.readAt (Elt F) sc1.view (Rect.unit (s := S1x64) ![0, 0] ![1, 64] inb_S1x64_S1x64_0_0).toLoadRect g1
  w0 := View.readAt (Elt F) A6.view (Rect.unit (s := S8x64x12500) ![0, 0, 0] ![1, 64, 12500] inb_S8x64x12500_S1x64x12500_0_0_0).toLoadRect f6
  w1 := View.readAt (Elt F) A6.view (Rect.unit (s := S8x64x12500) ![1, 0, 0] ![1, 64, 12500] inb_S8x64x12500_S1x64x12500_1_0_0).toLoadRect f6
  w2 := View.readAt (Elt F) A6.view (Rect.unit (s := S8x64x12500) ![2, 0, 0] ![1, 64, 12500] inb_S8x64x12500_S1x64x12500_2_0_0).toLoadRect f6
  w3 := View.readAt (Elt F) A6.view (Rect.unit (s := S8x64x12500) ![3, 0, 0] ![1, 64, 12500] inb_S8x64x12500_S1x64x12500_3_0_0).toLoadRect f6
  w4 := View.readAt (Elt F) A6.view (Rect.unit (s := S8x64x12500) ![4, 0, 0] ![1, 64, 12500] inb_S8x64x12500_S1x64x12500_4_0_0).toLoadRect f6
  w5 := View.readAt (Elt F) A6.view (Rect.unit (s := S8x64x12500) ![5, 0, 0] ![1, 64, 12500] inb_S8x64x12500_S1x64x12500_5_0_0).toLoadRect f6
  w6 := View.readAt (Elt F) A6.view (Rect.unit (s := S8x64x12500) ![6, 0, 0] ![1, 64, 12500] inb_S8x64x12500_S1x64x12500_6_0_0).toLoadRect f6
  w7 := View.readAt (Elt F) A6.view (Rect.unit (s := S8x64x12500) ![7, 0, 0] ![1, 64, 12500] inb_S8x64x12500_S1x64x12500_7_0_0).toLoadRect f6
  b0 := View.readAt (Elt F) A7.view (Rect.unit (s := S8x12500) ![0, 0] ![1, 12500] inb_S8x12500_S1x12500_0_0).toLoadRect f7
  b1 := View.readAt (Elt F) A7.view (Rect.unit (s := S8x12500) ![1, 0] ![1, 12500] inb_S8x12500_S1x12500_1_0).toLoadRect f7
  b2 := View.readAt (Elt F) A7.view (Rect.unit (s := S8x12500) ![2, 0] ![1, 12500] inb_S8x12500_S1x12500_2_0).toLoadRect f7
  b3 := View.readAt (Elt F) A7.view (Rect.unit (s := S8x12500) ![3, 0] ![1, 12500] inb_S8x12500_S1x12500_3_0).toLoadRect f7
  b4 := View.readAt (Elt F) A7.view (Rect.unit (s := S8x12500) ![4, 0] ![1, 12500] inb_S8x12500_S1x12500_4_0).toLoadRect f7
  b5 := View.readAt (Elt F) A7.view (Rect.unit (s := S8x12500) ![5, 0] ![1, 12500] inb_S8x12500_S1x12500_5_0).toLoadRect f7
  b6 := View.readAt (Elt F) A7.view (Rect.unit (s := S8x12500) ![6, 0] ![1, 12500] inb_S8x12500_S1x12500_6_0).toLoadRect f7
  b7 := View.readAt (Elt F) A7.view (Rect.unit (s := S8x12500) ![7, 0] ![1, 12500] inb_S8x12500_S1x12500_7_0).toLoadRect f7
  m0 := View.readAt (Elt F) sc4.view (Rect.unit (s := S8x12500) ![0, 0] ![1, 12500] inb_S8x12500_S1x12500_0_0).toLoadRect g4
  m1 := View.readAt (Elt F) sc4.view (Rect.unit (s := S8x12500) ![1, 0] ![1, 12500] inb_S8x12500_S1x12500_1_0).toLoadRect g4
  m2 := View.readAt (Elt F) sc4.view (Rect.unit (s := S8x12500) ![2, 0] ![1, 12500] inb_S8x12500_S1x12500_2_0).toLoadRect g4
  m3 := View.readAt (Elt F) sc4.view (Rect.unit (s := S8x12500) ![3, 0] ![1, 12500] inb_S8x12500_S1x12500_3_0).toLoadRect g4
  m4 := View.readAt (Elt F) sc4.view (Rect.unit (s := S8x12500) ![4, 0] ![1, 12500] inb_S8x12500_S1x12500_4_0).toLoadRect g4
  m5 := View.readAt (Elt F) sc4.view (Rect.unit (s := S8x12500) ![5, 0] ![1, 12500] inb_S8x12500_S1x12500_5_0).toLoadRect g4
  m6 := View.readAt (Elt F) sc4.view (Rect.unit (s := S8x12500) ![6, 0] ![1, 12500] inb_S8x12500_S1x12500_6_0).toLoadRect g4
  m7 := View.readAt (Elt F) sc4.view (Rect.unit (s := S8x12500) ![7, 0] ![1, 12500] inb_S8x12500_S1x12500_7_0).toLoadRect g4
  mem := View.readAt (Elt F) sc7.view (Rect.unit (s := S8x12500) ![0, 0] ![8, 12500] inb_S8x12500_S8x12500_0_0).toLoadRect g7
  mask := View.readAt (Elt F) sc4.view (Rect.unit (s := S8x12500) ![0, 0] ![8, 12500] inb_S8x12500_S8x12500_0_0).toLoadRect g4

set_option maxHeartbeats 4000000 in
set_option sl_exec.dischHeartbeats 40000 in
theorem runMid (c : Dev nD) (i : grid0.Coords)
    (hc1 : ¬ k0_cond1 i = 1#1) (hc2 : k0_cond2 i = 1#1) (hc3 : k0_cond3 i = 1#1) (hc4 : k0_cond4 i = 1#1)
    (A1 : Memref sig .tc .smem S50 .i32) (h1 : A1.IsWhole)
    (A3 : Memref sig .tc .vmem S64x256 .f32) (h3 : A3.IsWhole)
    (A4 : Memref sig .tc .vmem S64x256 .f32) (h4 : A4.IsWhole)
    (A5 : Memref sig .tc .vmem S1x256 .f32) (h5 : A5.IsWhole)
    (A6 : Memref sig .tc .vmem S8x64x12500 .f32) (h6 : A6.IsWhole)
    (A7 : Memref sig .tc .vmem S8x12500 .f32) (h7 : A7.IsWhole)
    (A8 : Memref sig .tc .smem S50 .i32) (h8 : A8.IsWhole)
    (A9 : Memref sig .tc .smem S50 .i32) (h9 : A9.IsWhole)
    (A10 : Memref sig .tc .vmem S1x8x12500 .f32) (h10 : A10.IsWhole)
    (f1 : Buf (Elt F) (A1.view.loc (c : Thread nD τ))) (f3 : Buf (Elt F) (A3.view.loc (c : Thread nD τ))) (f4 : Buf (Elt F) (A4.view.loc (c : Thread nD τ))) (f5 : Buf (Elt F) (A5.view.loc (c : Thread nD τ))) (f6 : Buf (Elt F) (A6.view.loc (c : Thread nD τ))) (f7 : Buf (Elt F) (A7.view.loc (c : Thread nD τ))) (f8 : Buf (Elt F) (A8.view.loc (c : Thread nD τ))) (f9 : Buf (Elt F) (A9.view.loc (c : Thread nD τ))) (f10 : Buf (Elt F) (A10.view.loc (c : Thread nD τ)))
    (g0 : Buf (Elt F) (sc0.view.loc (c : Thread nD τ))) (g1 : Buf (Elt F) (sc1.view.loc (c : Thread nD τ))) (g2 : Buf (Elt F) (sc2.view.loc (c : Thread nD τ))) (g3 : Buf (Elt F) (sc3.view.loc (c : Thread nD τ))) (g4 : Buf (Elt F) (sc4.view.loc (c : Thread nD τ))) (g5 : Buf (Elt F) (sc5.view.loc (c : Thread nD τ))) (g6 : Buf (Elt F) (sc6.view.loc (c : Thread nD τ))) (g7 : Buf (Elt F) (sc7.view.loc (c : Thread nD τ))) (g8 : Buf (Elt F) (sc8.view.loc (c : Thread nD τ))) (g9 : Buf (Elt F) (sc9.view.loc (c : Thread nD τ)))
    (fE : Buf (Elt F) (hbE.view.loc (c : Thread nD τ)))
    (W : Waits sig Unit) (K : PUnit → sProp 𝕄)
    (hr1 : (View.readAt (Elt F) sc8.view (Rect.unit (s := S2) ![0] ![1] inb_S2_S1_0).toLoadRect g8 (Shape.Idx.first (show 0 < (1 : ℕ) from Nat.one_pos)) : BitVec 32).toNat < 100000)
    (hr2 : (View.readAt (Elt F) sc8.view (Rect.unit (s := S2) ![1] ![1] inb_S2_S1_1).toLoadRect g8 (Shape.Idx.first (show 0 < (1 : ℕ) from Nat.one_pos)) : BitVec 32).toNat < 100000)
    (hA : ∀ U, (extractAt ![0, 0, 0] (k0_pay47 (F := F) k0_pay10 U) inpos_S1x1x1_p0_0_0 : BitVec 32).toNat < 100000)
    (hB : ∀ U M, (extractAt ![0, 0, 0] (k0_pay50 (F := F) k0_pay10 U M) inpos_S1x1x1_p0_0_0 : BitVec 32).toNat < 100000) :
    iprop(pt c A1 fullShare f1 ∗ pt c A3 fullShare f3 ∗ pt c A4 fullShare f4 ∗ pt c A5 fullShare f5 ∗ pt c A6 fullShare f6 ∗ pt c A7 fullShare f7 ∗ pt c A8 fullShare f8 ∗ pt c A9 fullShare f9 ∗ pt c A10 fullShare f10
      ∗ pt c sc0 fullShare g0 ∗ pt c sc1 fullShare g1 ∗ pt c sc4 fullShare g4 ∗ pt c sc5 fullShare g5 ∗ pt c sc6 fullShare g6 ∗ pt c sc7 fullShare g7 ∗ pt c sc8 fullShare g8 ∗ pt c sc9 fullShare g9
      ∗ Transfers.Flight countersEmb (c : Thread nD τ) (SemLoc.dma (10 : DmaSem sig)) default 16 iprop(pt c sc2 fullShare g2 ∗ pt c hbE (Transfers.shareTokN fullShare 10) fE)
      ∗ Transfers.Flight countersEmb (c : Thread nD τ) (SemLoc.dma (11 : DmaSem sig)) default 16 iprop(pt c sc3 fullShare g3 ∗ pt c hbE (Transfers.shareTokN fullShare 11) fE)
      ∗ owes (c : Thread nD τ) 0 W
      ∗ (iprop(common c i A1 A3 A4 A5 A6 A7 A8 A9 A10 f1 f3 f4 f5 f6 f7 f8 f9 (View.read (Elt F) sc7.view g7) (loadsMid c A1 A3 A4 A5 A6 A7 f1 f3 f4 f5 f6 f7 g0 g1 g2 g3 g4 g7 g9) ∗ flying c fE (embRow (View.read (Elt F) hbE.view fE) (loadsMid c A1 A3 A4 A5 A6 A7 f1 f3 f4 f5 f6 f7 g0 g1 g2 g3 g4 g7 g9).a1) (embRow (View.read (Elt F) hbE.view fE) (loadsMid c A1 A3 A4 A5 A6 A7 f1 f3 f4 f5 f6 f7 g0 g1 g2 g3 g4 g7 g9).ib)) -∗ K ⟨⟩))
    ⊢ wp frame (wpE (defs₀ (F := F)) Variants.none c none) Set.univ
        (cc0__step_kernel i A1 h1 hbE (Memref.isWhole_whole _) A3 h3 A4 h4 A5 h5 A6 h6 A7 h7 A8 h8 A9 h9 A10 h10 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) cc0_scratch10) K := by
  simp only [cc0__step_kernel_eq_skeleton]; unfold cc0__step_kernel_skel
  simp only [k0_part2_eq_skeleton, k0_part3_eq_skeleton, k0_part4_eq_skeleton, k0_part5_eq_skeleton, k0_part6_eq_skeleton, k0_part7_eq_skeleton, k0_part8_eq_skeleton]
  unfold k0_part2_skel
  simp only [dif_neg hc1, dif_pos hc2, dif_pos hc3, dif_pos hc4]
  unfold k0_part3_skel k0_part4_skel k0_part5_skel k0_part6_skel k0_part7_skel k0_part8_skel
  simp only [dif_neg hc1, dif_pos hc2, dif_pos hc3, dif_pos hc4]
  iintro ⟨H1, H3, H4, H5, H6, H7, H8, H9, H10, G0, G1, G4, G5, G6, G7, G8, G9, S10, S11, HW, Hk⟩
  sl_exec (disch := first | ((with_reducible refine chk1_of _ ?_); exact hr1) | ((with_reducible refine chk2_of _ ?_); exact hr2) | ((with_reducible refine chk3_of _ ?_); unfold runMid.sl.r_3; exact hA _) | ((with_reducible refine chk4_of _ ?_); unfold runMid.sl.r_5; exact hB _ _))
  sl_step
  have hU : runMid.sl.v169 c i A3 A4 A5 A6 A7 f3 f4 f5 f6 f7 g0 g1 g2 g3 g4 g5 g9 = (loadsMid c A1 A3 A4 A5 A6 A7 f1 f3 f4 f5 f6 f7 g0 g1 g2 g3 g4 g7 g9).U := by
    unfold runMid.sl.v169 runMid.sl.G6_8 Loads.U loadsMid
    dsimp only [Loads.uList, Loads.hid, Loads.gI, Loads.gF, Loads.gG, Loads.gO]
    rfl
  have hE : runMid.sl.v204 c i A3 A4 A5 A6 A7 f3 f4 f5 f6 f7 g0 g1 g2 g3 g5 g9 = (loadsMid c A1 A3 A4 A5 A6 A7 f1 f3 f4 f5 f6 f7 g0 g1 g2 g3 g4 g7 g9).E := by
    unfold runMid.sl.v204 runMid.sl.G5_8 Loads.E loadsMid
    dsimp only [Loads.eList, Loads.hid, Loads.gI, Loads.gF, Loads.gG, Loads.gO]
    rfl
  have hM : View.readAt (Elt F) sc7.view (Rect.unit (s := S8x12500) ![0, 0] ![8, 12500] inb_S8x12500_S8x12500_0_0).toLoadRect g7 = (loadsMid c A1 A3 A4 A5 A6 A7 f1 f3 f4 f5 f6 f7 g0 g1 g2 g3 g4 g7 g9).mem := rfl
  ihave F10 := (flight_joinE (F := F)) $$ [S10_src S10]
  · isplitl [S10_src]; · iexact S10_src
    iexact S10
  ihave F11 := (flight_joinE (F := F)) $$ [S11_src S11]
  · isplitl [S11_src]; · iexact S11_src
    iexact S11
  iapply Hk
  isplitl [H1 H3 H4 H5 H6 H7 H8 H9 H10 G0 G1 G4 G5 G6 G7 G8 G9 HW]
  · unfold common
    isplitl [H1]; · iexact H1
    isplitl [H3]; · iexact H3
    isplitl [H4]; · iexact H4
    isplitl [H5]; · iexact H5
    isplitl [H6]; · iexact H6
    isplitl [H7]; · iexact H7
    isplitl [H8]
    · unfold owns; iexists _; isplitr; swap
      · iexact H8
      · ipureintro; funext y
        refine (View.read_writes_cons_cell _ _ _ _ _ y).trans ?_
        rw [off6_zero]; rfl
    isplitl [H9]
    · unfold owns; iexists _; isplitr; swap
      · iexact H9
      · ipureintro; funext y
        refine (View.read_writes_cons_cell _ _ _ _ _ y).trans ?_
        rw [off6_zero]; rfl
    isplitl [H10]
    · unfold owns; iexists _; isplitr; swap
      · iexact H10
      · ipureintro; exact (View.read_writes_full _ _ _ _ _).trans rfl
    isplitl [G0]
    · unfold owns; iexists _; isplitr; swap
      · iexact G0
      · ipureintro; exact (View.read_writes_full _ _ _ _ _).trans rfl
    isplitl [G1]
    · unfold owns; iexists _; isplitr; swap
      · iexact G1
      · ipureintro; exact (View.read_writes_full _ _ _ _ _).trans rfl
    isplitl [G4]
    · unfold owns; iexists _; isplitr; swap
      · iexact G4
      · ipureintro; exact (View.read_writes_full _ _ _ _ _).trans rfl
    isplitl [G5]; · iexists _; iexact G5
    isplitl [G6]; · iexists _; iexact G6
    isplitl [G7]
    · unfold owns; iexists _; isplitr; swap
      · iexact G7
      · ipureintro; rfl
    isplitl [G8]
    · unfold owns; iexists _; isplitr; swap
      · iexact G8
      · ipureintro; funext y
        have hy : (y 0).val < 2 := (y 0).isLt
        refine (View.read_writes_cons_cell _ _ _ _ _ y).trans ?_
        show (if (y 0).val = 1 then _ else _) = _
        by_cases h : (y 0).val = 1
        · rw [if_pos h, if_pos h]; rfl
        · rw [if_neg h, if_neg h]
          refine (View.read_writes_cons_cell _ _ _ _ _ y).trans ?_
          show (if (y 0).val = 0 then _ else _) = _
          rw [if_pos (by omega)]; rfl
    isplitl [G9]
    · unfold owns; iexists _; isplitr; swap
      · iexact G9
      · ipureintro; exact (View.read_writes_full _ _ _ _ _).trans rfl
    iexists _; iexact HW
  · unfold flying
    iexists _; iexists _
    isplitr; swap
    · isplitl [F10]; · iexact F10
      iexact F11
    · ipureintro
      exact ⟨(read_writes_whole _ _ _ _).trans (read_row c fE _ _ rfl _ (hA _)), (read_writes_whole _ _ _ _).trans (read_row c fE _ _ rfl _ (hB _ _))⟩

end Cert.KernelIdeal.Hand
end
-- ==== Proof.RunLast.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.DatRel
public import Idealize.ShloMosaic.Lib.Tactic
public import Idealize.ShloMosaic.Lib.WordCmp
public import Idealize.ShloMosaic.Lib.WordArith.Masks
public import Idealize.ShloMosaic.Lib.ValueIdxCore
public import proofs.«01_k».proof.Proof.BodyWords

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (Pipeline.UD sig nD τ) ℕ

/-! # The last point: both rows arrive, the step is computed, nothing more is sent for. -/

/-- What this point's loads return. -/
def loadsLast (c : Dev nD)
    (A1 : Memref sig .tc .smem S50 .i32)
    (A3 : Memref sig .tc .vmem S64x256 .f32)
    (A4 : Memref sig .tc .vmem S64x256 .f32)
    (A5 : Memref sig .tc .vmem S1x256 .f32)
    (A6 : Memref sig .tc .vmem S8x64x12500 .f32)
    (A7 : Memref sig .tc .vmem S8x12500 .f32)
    (f1 : Buf (Elt F) (A1.view.loc (c : Thread nD τ))) (f3 : Buf (Elt F) (A3.view.loc (c : Thread nD τ))) (f4 : Buf (Elt F) (A4.view.loc (c : Thread nD τ))) (f5 : Buf (Elt F) (A5.view.loc (c : Thread nD τ))) (f6 : Buf (Elt F) (A6.view.loc (c : Thread nD τ))) (f7 : Buf (Elt F) (A7.view.loc (c : Thread nD τ)))
    (g0 : Buf (Elt F) (sc0.view.loc (c : Thread nD τ))) (g1 : Buf (Elt F) (sc1.view.loc (c : Thread nD τ))) (g2 : Buf (Elt F) (sc2.view.loc (c : Thread nD τ))) (g3 : Buf (Elt F) (sc3.view.loc (c : Thread nD τ))) (g4 : Buf (Elt F) (sc4.view.loc (c : Thread nD τ))) (g7 : Buf (Elt F) (sc7.view.loc (c : Thread nD τ))) (g9 : Buf (Elt F) (sc9.view.loc (c : Thread nD τ)))
    : Loads F where
  sf := View.readAt (Elt F) sc9.view (Rect.unit (s := S1) ![0] ![1] inb_S1_S1_0).toLoadRect g9 (Shape.Idx.first (show 0 < (1 : ℕ) from Nat.one_pos))
  e2 := View.readAt (Elt F) sc3.view (Rect.unit (s := S1x64) ![0, 0] ![1, 64] inb_S1x64_S1x64_0_0).toLoadRect g3
  e1 := View.readAt (Elt F) sc2.view (Rect.unit (s := S1x64) ![0, 0] ![1, 64] inb_S1x64_S1x64_0_0).toLoadRect g2
  wih := View.readAt (Elt F) A3.view (Rect.unit (s := S64x256) ![0, 0] ![64, 256] inb_S64x256_S64x256_0_0).toLoadRect f3
  h := View.readAt (Elt F) sc0.view (Rect.unit (s := S1x64) ![0, 0] ![1, 64] inb_S1x64_S1x64_0_0).toLoadRect g0
  whh := View.readAt (Elt F) A4.view (Rect.unit (s := S64x256) ![0, 0] ![64, 256] inb_S64x256_S64x256_0_0).toLoadRect f4
  bg := View.readAt (Elt F) A5.view (Rect.unit (s := S1x256) ![0, 0] ![1, 256] inb_S1x256_S1x256_0_0).toLoadRect f5
  c := View.readAt (Elt F) sc1.view (Rect.unit (s := S1x64) ![0, 0] ![1, 64] inb_S1x64_S1x64_0_0).toLoadRect g1
  w0 := View.readAt (Elt F) A6.view (Rect.unit (s := S8x64x12500) ![0, 0, 0] ![1, 64, 12500] inb_S8x64x12500_S1x64x12500_0_0_0).toLoadRect f6
  w1 := View.readAt (Elt F) A6.view (Rect.unit (s := S8x64x12500) ![1, 0, 0] ![1, 64, 12500] inb_S8x64x12500_S1x64x12500_1_0_0).toLoadRect f6
  w2 := View.readAt (Elt F) A6.view (Rect.unit (s := S8x64x12500) ![2, 0, 0] ![1, 64, 12500] inb_S8x64x12500_S1x64x12500_2_0_0).toLoadRect f6
  w3 := View.readAt (Elt F) A6.view (Rect.unit (s := S8x64x12500) ![3, 0, 0] ![1, 64, 12500] inb_S8x64x12500_S1x64x12500_3_0_0).toLoadRect f6
  w4 := View.readAt (Elt F) A6.view (Rect.unit (s := S8x64x12500) ![4, 0, 0] ![1, 64, 12500] inb_S8x64x12500_S1x64x12500_4_0_0).toLoadRect f6
  w5 := View.readAt (Elt F) A6.view (Rect.unit (s := S8x64x12500) ![5, 0, 0] ![1, 64, 12500] inb_S8x64x12500_S1x64x12500_5_0_0).toLoadRect f6
  w6 := View.readAt (Elt F) A6.view (Rect.unit (s := S8x64x12500) ![6, 0, 0] ![1, 64, 12500] inb_S8x64x12500_S1x64x12500_6_0_0).toLoadRect f6
  w7 := View.readAt (Elt F) A6.view (Rect.unit (s := S8x64x12500) ![7, 0, 0] ![1, 64, 12500] inb_S8x64x12500_S1x64x12500_7_0_0).toLoadRect f6
  b0 := View.readAt (Elt F) A7.view (Rect.unit (s := S8x12500) ![0, 0] ![1, 12500] inb_S8x12500_S1x12500_0_0).toLoadRect f7
  b1 := View.readAt (Elt F) A7.view (Rect.unit (s := S8x12500) ![1, 0] ![1, 12500] inb_S8x12500_S1x12500_1_0).toLoadRect f7
  b2 := View.readAt (Elt F) A7.view (Rect.unit (s := S8x12500) ![2, 0] ![1, 12500] inb_S8x12500_S1x12500_2_0).toLoadRect f7
  b3 := View.readAt (Elt F) A7.view (Rect.unit (s := S8x12500) ![3, 0] ![1, 12500] inb_S8x12500_S1x12500_3_0).toLoadRect f7
  b4 := View.readAt (Elt F) A7.view (Rect.unit (s := S8x12500) ![4, 0] ![1, 12500] inb_S8x12500_S1x12500_4_0).toLoadRect f7
  b5 := View.readAt (Elt F) A7.view (Rect.unit (s := S8x12500) ![5, 0] ![1, 12500] inb_S8x12500_S1x12500_5_0).toLoadRect f7
  b6 := View.readAt (Elt F) A7.view (Rect.unit (s := S8x12500) ![6, 0] ![1, 12500] inb_S8x12500_S1x12500_6_0).toLoadRect f7
  b7 := View.readAt (Elt F) A7.view (Rect.unit (s := S8x12500) ![7, 0] ![1, 12500] inb_S8x12500_S1x12500_7_0).toLoadRect f7
  m0 := View.readAt (Elt F) sc4.view (Rect.unit (s := S8x12500) ![0, 0] ![1, 12500] inb_S8x12500_S1x12500_0_0).toLoadRect g4
  m1 := View.readAt (Elt F) sc4.view (Rect.unit (s := S8x12500) ![1, 0] ![1, 12500] inb_S8x12500_S1x12500_1_0).toLoadRect g4
  m2 := View.readAt (Elt F) sc4.view (Rect.unit (s := S8x12500) ![2, 0] ![1, 12500] inb_S8x12500_S1x12500_2_0).toLoadRect g4
  m3 := View.readAt (Elt F) sc4.view (Rect.unit (s := S8x12500) ![3, 0] ![1, 12500] inb_S8x12500_S1x12500_3_0).toLoadRect g4
  m4 := View.readAt (Elt F) sc4.view (Rect.unit (s := S8x12500) ![4, 0] ![1, 12500] inb_S8x12500_S1x12500_4_0).toLoadRect g4
  m5 := View.readAt (Elt F) sc4.view (Rect.unit (s := S8x12500) ![5, 0] ![1, 12500] inb_S8x12500_S1x12500_5_0).toLoadRect g4
  m6 := View.readAt (Elt F) sc4.view (Rect.unit (s := S8x12500) ![6, 0] ![1, 12500] inb_S8x12500_S1x12500_6_0).toLoadRect g4
  m7 := View.readAt (Elt F) sc4.view (Rect.unit (s := S8x12500) ![7, 0] ![1, 12500] inb_S8x12500_S1x12500_7_0).toLoadRect g4
  mem := View.readAt (Elt F) sc7.view (Rect.unit (s := S8x12500) ![0, 0] ![8, 12500] inb_S8x12500_S8x12500_0_0).toLoadRect g7
  mask := View.readAt (Elt F) sc4.view (Rect.unit (s := S8x12500) ![0, 0] ![8, 12500] inb_S8x12500_S8x12500_0_0).toLoadRect g4

set_option maxHeartbeats 4000000 in
set_option sl_exec.dischHeartbeats 40000 in
theorem runLast (c : Dev nD) (i : grid0.Coords)
    (hc1 : ¬ k0_cond1 i = 1#1) (hc2 : k0_cond2 i = 1#1) (hc3 : ¬ k0_cond3 i = 1#1) (hc4 : ¬ k0_cond4 i = 1#1)
    (A1 : Memref sig .tc .smem S50 .i32) (h1 : A1.IsWhole)
    (A3 : Memref sig .tc .vmem S64x256 .f32) (h3 : A3.IsWhole)
    (A4 : Memref sig .tc .vmem S64x256 .f32) (h4 : A4.IsWhole)
    (A5 : Memref sig .tc .vmem S1x256 .f32) (h5 : A5.IsWhole)
    (A6 : Memref sig .tc .vmem S8x64x12500 .f32) (h6 : A6.IsWhole)
    (A7 : Memref sig .tc .vmem S8x12500 .f32) (h7 : A7.IsWhole)
    (A8 : Memref sig .tc .smem S50 .i32) (h8 : A8.IsWhole)
    (A9 : Memref sig .tc .smem S50 .i32) (h9 : A9.IsWhole)
    (A10 : Memref sig .tc .vmem S1x8x12500 .f32) (h10 : A10.IsWhole)
    (f1 : Buf (Elt F) (A1.view.loc (c : Thread nD τ))) (f3 : Buf (Elt F) (A3.view.loc (c : Thread nD τ))) (f4 : Buf (Elt F) (A4.view.loc (c : Thread nD τ))) (f5 : Buf (Elt F) (A5.view.loc (c : Thread nD τ))) (f6 : Buf (Elt F) (A6.view.loc (c : Thread nD τ))) (f7 : Buf (Elt F) (A7.view.loc (c : Thread nD τ))) (f8 : Buf (Elt F) (A8.view.loc (c : Thread nD τ))) (f9 : Buf (Elt F) (A9.view.loc (c : Thread nD τ))) (f10 : Buf (Elt F) (A10.view.loc (c : Thread nD τ)))
    (g0 : Buf (Elt F) (sc0.view.loc (c : Thread nD τ))) (g1 : Buf (Elt F) (sc1.view.loc (c : Thread nD τ))) (g2 : Buf (Elt F) (sc2.view.loc (c : Thread nD τ))) (g3 : Buf (Elt F) (sc3.view.loc (c : Thread nD τ))) (g4 : Buf (Elt F) (sc4.view.loc (c : Thread nD τ))) (g5 : Buf (Elt F) (sc5.view.loc (c : Thread nD τ))) (g6 : Buf (Elt F) (sc6.view.loc (c : Thread nD τ))) (g7 : Buf (Elt F) (sc7.view.loc (c : Thread nD τ))) (g8 : Buf (Elt F) (sc8.view.loc (c : Thread nD τ))) (g9 : Buf (Elt F) (sc9.view.loc (c : Thread nD τ)))
    (fE : Buf (Elt F) (hbE.view.loc (c : Thread nD τ)))
    (W : Waits sig Unit) (K : PUnit → sProp 𝕄)
    (hr1 : (View.readAt (Elt F) sc8.view (Rect.unit (s := S2) ![0] ![1] inb_S2_S1_0).toLoadRect g8 (Shape.Idx.first (show 0 < (1 : ℕ) from Nat.one_pos)) : BitVec 32).toNat < 100000)
    (hr2 : (View.readAt (Elt F) sc8.view (Rect.unit (s := S2) ![1] ![1] inb_S2_S1_1).toLoadRect g8 (Shape.Idx.first (show 0 < (1 : ℕ) from Nat.one_pos)) : BitVec 32).toNat < 100000) :
    iprop(pt c A1 fullShare f1 ∗ pt c A3 fullShare f3 ∗ pt c A4 fullShare f4 ∗ pt c A5 fullShare f5 ∗ pt c A6 fullShare f6 ∗ pt c A7 fullShare f7 ∗ pt c A8 fullShare f8 ∗ pt c A9 fullShare f9 ∗ pt c A10 fullShare f10
      ∗ pt c sc0 fullShare g0 ∗ pt c sc1 fullShare g1 ∗ pt c sc4 fullShare g4 ∗ pt c sc5 fullShare g5 ∗ pt c sc6 fullShare g6 ∗ pt c sc7 fullShare g7 ∗ pt c sc8 fullShare g8 ∗ pt c sc9 fullShare g9
      ∗ Transfers.Flight countersEmb (c : Thread nD τ) (SemLoc.dma (10 : DmaSem sig)) default 16 iprop(pt c sc2 fullShare g2 ∗ pt c hbE (Transfers.shareTokN fullShare 10) fE)
      ∗ Transfers.Flight countersEmb (c : Thread nD τ) (SemLoc.dma (11 : DmaSem sig)) default 16 iprop(pt c sc3 fullShare g3 ∗ pt c hbE (Transfers.shareTokN fullShare 11) fE)
      ∗ owes (c : Thread nD τ) 0 W
      ∗ (iprop(common c i A1 A3 A4 A5 A6 A7 A8 A9 A10 f1 f3 f4 f5 f6 f7 f8 f9 (View.read (Elt F) sc7.view g7) (loadsLast c A1 A3 A4 A5 A6 A7 f1 f3 f4 f5 f6 f7 g0 g1 g2 g3 g4 g7 g9) ∗ landed c fE) -∗ K ⟨⟩))
    ⊢ wp frame (wpE (defs₀ (F := F)) Variants.none c none) Set.univ
        (cc0__step_kernel i A1 h1 hbE (Memref.isWhole_whole _) A3 h3 A4 h4 A5 h5 A6 h6 A7 h7 A8 h8 A9 h9 A10 h10 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) cc0_scratch10) K := by
  simp only [cc0__step_kernel_eq_skeleton]; unfold cc0__step_kernel_skel
  simp only [k0_part2_eq_skeleton, k0_part3_eq_skeleton, k0_part4_eq_skeleton, k0_part5_eq_skeleton, k0_part6_eq_skeleton, k0_part7_eq_skeleton, k0_part8_eq_skeleton]
  unfold k0_part2_skel
  simp only [dif_neg hc1, dif_pos hc2, dif_neg hc3, dif_neg hc4]
  unfold k0_part3_skel k0_part4_skel k0_part5_skel k0_part6_skel k0_part7_skel k0_part8_skel
  simp only [dif_neg hc1, dif_pos hc2, dif_neg hc3, dif_neg hc4]
  iintro ⟨H1, H3, H4, H5, H6, H7, H8, H9, H10, G0, G1, G4, G5, G6, G7, G8, G9, S10, S11, HW, Hk⟩
  sl_exec (disch := first | ((with_reducible refine chk1_of _ ?_); exact hr1) | ((with_reducible refine chk2_of _ ?_); exact hr2))
  sl_step
  iapply Hk
  isplitl [H1 H3 H4 H5 H6 H7 H8 H9 H10 G0 G1 G4 G5 G6 G7 G8 G9 HW]
  · unfold common
    isplitl [H1]; · iexact H1
    isplitl [H3]; · iexact H3
    isplitl [H4]; · iexact H4
    isplitl [H5]; · iexact H5
    isplitl [H6]; · iexact H6
    isplitl [H7]; · iexact H7
    isplitl [H8]
    · unfold owns; iexists _; isplitr; swap
      · iexact H8
      · ipureintro; funext y
        refine (View.read_writes_cons_cell _ _ _ _ _ y).trans ?_
        rw [off6_zero]; rfl
    isplitl [H9]
    · unfold owns; iexists _; isplitr; swap
      · iexact H9
      · ipureintro; funext y
        refine (View.read_writes_cons_cell _ _ _ _ _ y).trans ?_
        rw [off6_zero]; rfl
    isplitl [H10]
    · unfold owns; iexists _; isplitr; swap
      · iexact H10
      · ipureintro; exact (View.read_writes_full _ _ _ _ _).trans rfl
    isplitl [G0]
    · unfold owns; iexists _; isplitr; swap
      · iexact G0
      · ipureintro; exact (View.read_writes_full _ _ _ _ _).trans rfl
    isplitl [G1]
    · unfold owns; iexists _; isplitr; swap
      · iexact G1
      · ipureintro; exact (View.read_writes_full _ _ _ _ _).trans rfl
    isplitl [G4]
    · unfold owns; iexists _; isplitr; swap
      · iexact G4
      · ipureintro; exact (View.read_writes_full _ _ _ _ _).trans rfl
    isplitl [G5]; · iexists _; iexact G5
    isplitl [G6]; · iexists _; iexact G6
    isplitl [G7]
    · unfold owns; iexists _; isplitr; swap
      · iexact G7
      · ipureintro; rfl
    isplitl [G8]
    · unfold owns; iexists _; isplitr; swap
      · iexact G8
      · ipureintro; funext y
        have hy : (y 0).val < 2 := (y 0).isLt
        refine (View.read_writes_cons_cell _ _ _ _ _ y).trans ?_
        show (if (y 0).val = 1 then _ else _) = _
        by_cases h : (y 0).val = 1
        · rw [if_pos h, if_pos h]; rfl
        · rw [if_neg h, if_neg h]
          refine (View.read_writes_cons_cell _ _ _ _ _ y).trans ?_
          show (if (y 0).val = 0 then _ else _) = _
          rw [if_pos (by omega)]; rfl
    isplitl [G9]
    · unfold owns; iexists _; isplitr; swap
      · iexact G9
      · ipureintro; exact (View.read_writes_full _ _ _ _ _).trans rfl
    iexists _; iexact HW
  · unfold landed
    isplitl [S10_dst]; · iexists _; iexact S10_dst
    isplitl [S11_dst]; · iexists _; iexact S11_dst
    isplitl [S10_src]; · iexact S10_src
    isplitl [S11_src]; · iexact S11_src
    isplitl [S10]; · iexact S10
    iexact S11

end Cert.KernelIdeal.Hand
end
-- ==== Proof.Reads.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.DatRel
public import Idealize.ShloMosaic.Lib.Tactic
public import Idealize.ShloMosaic.Lib.WordCmp
public import Idealize.ShloMosaic.Lib.WordArith.Masks
public import Idealize.ShloMosaic.Lib.ValueIdxCore
public import proofs.«01_k».proof.Proof.RunMid
public import proofs.«01_k».proof.Proof.RunLast

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (Pipeline.UD sig nD τ) ℕ

/-! # What the runs load, in the step's words -/

theorem Loads.ext' {L L' : Loads F}
    (h_sf : L.sf = L'.sf)
    (h_e2 : L.e2 = L'.e2)
    (h_e1 : L.e1 = L'.e1)
    (h_wih : L.wih = L'.wih)
    (h_h : L.h = L'.h)
    (h_whh : L.whh = L'.whh)
    (h_bg : L.bg = L'.bg)
    (h_c : L.c = L'.c)
    (h_w0 : L.w0 = L'.w0)
    (h_w1 : L.w1 = L'.w1)
    (h_w2 : L.w2 = L'.w2)
    (h_w3 : L.w3 = L'.w3)
    (h_w4 : L.w4 = L'.w4)
    (h_w5 : L.w5 = L'.w5)
    (h_w6 : L.w6 = L'.w6)
    (h_w7 : L.w7 = L'.w7)
    (h_b0 : L.b0 = L'.b0)
    (h_b1 : L.b1 = L'.b1)
    (h_b2 : L.b2 = L'.b2)
    (h_b3 : L.b3 = L'.b3)
    (h_b4 : L.b4 = L'.b4)
    (h_b5 : L.b5 = L'.b5)
    (h_b6 : L.b6 = L'.b6)
    (h_b7 : L.b7 = L'.b7)
    (h_m0 : L.m0 = L'.m0)
    (h_m1 : L.m1 = L'.m1)
    (h_m2 : L.m2 = L'.m2)
    (h_m3 : L.m3 = L'.m3)
    (h_m4 : L.m4 = L'.m4)
    (h_m5 : L.m5 = L'.m5)
    (h_m6 : L.m6 = L'.m6)
    (h_m7 : L.m7 = L'.m7)
    (h_mem : L.mem = L'.mem)
    (h_mask : L.mask = L'.mask)
    : L = L' := by
  cases L; cases L'
  dsimp only at h_sf h_e2 h_e1 h_wih h_h h_whh h_bg h_c h_w0 h_w1 h_w2 h_w3 h_w4 h_w5 h_w6 h_w7 h_b0 h_b1 h_b2 h_b3 h_b4 h_b5 h_b6 h_b7 h_m0 h_m1 h_m2 h_m3 h_m4 h_m5 h_m6 h_m7 h_mem h_mask
  subst h_sf h_e2 h_e1 h_wih h_h h_whh h_bg h_c h_w0 h_w1 h_w2 h_w3 h_w4 h_w5 h_w6 h_w7 h_b0 h_b1 h_b2 h_b3 h_b4 h_b5 h_b6 h_b7 h_m0 h_m1 h_m2 h_m3 h_m4 h_m5 h_m6 h_m7 h_mem h_mask
  rfl

/-- A load from a buffer whose contents are known. -/
theorem rowOf {sp : Space} {s : Shape} {e : EltTy} {v : View sig .tc sp s e} {B : LoadRect s} {f : v.ty.Contents (Elt F)} {X : s.Idx → Elt F e}
    (h : v.read (Elt F) f = X) : v.readAt (Elt F) B f = fun j => X (B.idx j) := by
  subst h; rfl

theorem whole_idx {s : Shape} {off : Fin s.rank → ℕ} {inb : ∀ a, off a + s.size a ≤ s.size a} (hoff : ∀ a, off a = 0)
    (j : s.Idx) : (Rect.unit (s := s) off s.size inb).toLoadRect.idx j = j := by
  funext a; apply Fin.ext
  show off a + 1 * (j a).val = (j a).val
  rw [hoff a]; omega

/-- The same of a load of the whole. -/
theorem wholeOf {sp : Space} {s : Shape} {e : EltTy} {v : View sig .tc sp s e} {off : Fin s.rank → ℕ} {inb : ∀ a, off a + s.size a ≤ s.size a}
    (hoff : ∀ a, off a = 0) {f : v.ty.Contents (Elt F)} {X : s.Idx → Elt F e}
    (h : v.read (Elt F) f = X) : v.readAt (Elt F) (Rect.unit (s := s) off s.size inb).toLoadRect f = X := by
  rw [rowOf h]; funext j; exact congrArg X (whole_idx hoff j)

/-- A load after one whole store, nothing else written. -/
theorem covOf {sp : Space} {s : Shape} {e : EltTy} (v : View sig .tc sp s e) {off : Fin s.rank → ℕ} {inb : ∀ a, off a + s.size a ≤ s.size a}
    (hoff : ∀ a, off a = 0) (B : LoadRect s) (w : s.Idx → Elt F e) :
    v.readCov (Val := Elt F) [⟨Rect.unit (s := s) off s.size inb, w⟩] B = fun j => w (B.idx j) := by
  rw [View.readCov_eq_canon']
  funext j
  have h : B.idx j = (Rect.unit (s := s) off s.size inb).emb (B.idx j) := by
    funext a; apply Fin.ext
    rw [Rect.emb_apply]
    show _ = off a + 1 * _
    rw [hoff a]; omega
  exact (congrArg (View.canon (Val := Elt F) [⟨Rect.unit (s := s) off s.size inb, w⟩]) h).trans <| View.canon_cons_emb (Val := Elt F) (Rect.unit (s := s) off s.size inb) w [] (B.idx j)

theorem covWhole {sp : Space} {s : Shape} {e : EltTy} (v : View sig .tc sp s e) {off : Fin s.rank → ℕ} {inb : ∀ a, off a + s.size a ≤ s.size a}
    (hoff : ∀ a, off a = 0) (w : s.Idx → Elt F e) :
    v.readCov (Val := Elt F) [⟨Rect.unit (s := s) off s.size inb, w⟩] (Rect.unit (s := s) off s.size inb).toLoadRect = w :=
  View.readCov_cons_toLoadRect (Val := Elt F) v (Rect.unit (s := s) off s.size inb) w []

theorem zz2 : ∀ a, (![0, 0] : Fin 2 → ℕ) a = 0 := by intro a; fin_cases a <;> rfl

theorem trips50 : Scf.trips k0_t1_loop.lb k0_t1_loop.ub k0_t1_loop.st = 50 := by decide +kernel

theorem loadsMid_eq (I : Inp F) (s : St F) (c : Dev nD) (A1 : Memref sig .tc .smem S50 .i32) (A3 : Memref sig .tc .vmem S64x256 .f32) (A4 : Memref sig .tc .vmem S64x256 .f32) (A5 : Memref sig .tc .vmem S1x256 .f32) (A6 : Memref sig .tc .vmem S8x64x12500 .f32) (A7 : Memref sig .tc .vmem S8x12500 .f32)
    (f1 : Buf (Elt F) (A1.view.loc (c : Thread nD τ))) (f3 : Buf (Elt F) (A3.view.loc (c : Thread nD τ))) (f4 : Buf (Elt F) (A4.view.loc (c : Thread nD τ))) (f5 : Buf (Elt F) (A5.view.loc (c : Thread nD τ))) (f6 : Buf (Elt F) (A6.view.loc (c : Thread nD τ))) (f7 : Buf (Elt F) (A7.view.loc (c : Thread nD τ)))
    (g0 : Buf (Elt F) (sc0.view.loc (c : Thread nD τ))) (g1 : Buf (Elt F) (sc1.view.loc (c : Thread nD τ))) (g2 : Buf (Elt F) (sc2.view.loc (c : Thread nD τ))) (g3 : Buf (Elt F) (sc3.view.loc (c : Thread nD τ))) (g4 : Buf (Elt F) (sc4.view.loc (c : Thread nD τ))) (g7 : Buf (Elt F) (sc7.view.loc (c : Thread nD τ))) (g9 : Buf (Elt F) (sc9.view.loc (c : Thread nD τ)))
    (e3 : View.read (Elt F) A3.view f3 = I.wih) (e4 : View.read (Elt F) A4.view f4 = I.whh) (e5 : View.read (Elt F) A5.view f5 = I.bg) (e6 : View.read (Elt F) A6.view f6 = I.wot) (e7 : View.read (Elt F) A7.view f7 = I.bo)
    (k0 : View.read (Elt F) sc0.view g0 = s.h) (k1 : View.read (Elt F) sc1.view g1 = s.c) (k2 : View.read (Elt F) sc2.view g2 = s.e1) (k3 : View.read (Elt F) sc3.view g3 = s.e2)
    (k4 : View.read (Elt F) sc4.view g4 = s.mask) (k7 : View.read (Elt F) sc7.view g7 = I.mem) (k9 : View.read (Elt F) sc9.view g9 = fun _ => s.sf) :
    loadsMid c A1 A3 A4 A5 A6 A7 f1 f3 f4 f5 f6 f7 g0 g1 g2 g3 g4 g7 g9 = loads I s :=
  Loads.ext' (congrFun (rowOf k9) _)
    (wholeOf zz2 k3)
    (wholeOf zz2 k2)
    (wholeOf zz2 e3)
    (wholeOf zz2 k0)
    (wholeOf zz2 e4)
    (wholeOf zz2 e5)
    (wholeOf zz2 k1)
    (by unfold loadsMid loads; dsimp only; rw [rowOf e6]; rfl)
    (by unfold loadsMid loads; dsimp only; rw [rowOf e6]; rfl)
    (by unfold loadsMid loads; dsimp only; rw [rowOf e6]; rfl)
    (by unfold loadsMid loads; dsimp only; rw [rowOf e6]; rfl)
    (by unfold loadsMid loads; dsimp only; rw [rowOf e6]; rfl)
    (by unfold loadsMid loads; dsimp only; rw [rowOf e6]; rfl)
    (by unfold loadsMid loads; dsimp only; rw [rowOf e6]; rfl)
    (by unfold loadsMid loads; dsimp only; rw [rowOf e6]; rfl)
    (by unfold loadsMid loads; dsimp only; rw [rowOf e7]; rfl)
    (by unfold loadsMid loads; dsimp only; rw [rowOf e7]; rfl)
    (by unfold loadsMid loads; dsimp only; rw [rowOf e7]; rfl)
    (by unfold loadsMid loads; dsimp only; rw [rowOf e7]; rfl)
    (by unfold loadsMid loads; dsimp only; rw [rowOf e7]; rfl)
    (by unfold loadsMid loads; dsimp only; rw [rowOf e7]; rfl)
    (by unfold loadsMid loads; dsimp only; rw [rowOf e7]; rfl)
    (by unfold loadsMid loads; dsimp only; rw [rowOf e7]; rfl)
    (by unfold loadsMid loads; dsimp only; rw [rowOf k4]; rfl)
    (by unfold loadsMid loads; dsimp only; rw [rowOf k4]; rfl)
    (by unfold loadsMid loads; dsimp only; rw [rowOf k4]; rfl)
    (by unfold loadsMid loads; dsimp only; rw [rowOf k4]; rfl)
    (by unfold loadsMid loads; dsimp only; rw [rowOf k4]; rfl)
    (by unfold loadsMid loads; dsimp only; rw [rowOf k4]; rfl)
    (by unfold loadsMid loads; dsimp only; rw [rowOf k4]; rfl)
    (by unfold loadsMid loads; dsimp only; rw [rowOf k4]; rfl)
    (wholeOf zz2 k7)
    (wholeOf zz2 k4)

theorem loadsLast_eq (I : Inp F) (s : St F) (c : Dev nD) (A1 : Memref sig .tc .smem S50 .i32) (A3 : Memref sig .tc .vmem S64x256 .f32) (A4 : Memref sig .tc .vmem S64x256 .f32) (A5 : Memref sig .tc .vmem S1x256 .f32) (A6 : Memref sig .tc .vmem S8x64x12500 .f32) (A7 : Memref sig .tc .vmem S8x12500 .f32)
    (f1 : Buf (Elt F) (A1.view.loc (c : Thread nD τ))) (f3 : Buf (Elt F) (A3.view.loc (c : Thread nD τ))) (f4 : Buf (Elt F) (A4.view.loc (c : Thread nD τ))) (f5 : Buf (Elt F) (A5.view.loc (c : Thread nD τ))) (f6 : Buf (Elt F) (A6.view.loc (c : Thread nD τ))) (f7 : Buf (Elt F) (A7.view.loc (c : Thread nD τ)))
    (g0 : Buf (Elt F) (sc0.view.loc (c : Thread nD τ))) (g1 : Buf (Elt F) (sc1.view.loc (c : Thread nD τ))) (g2 : Buf (Elt F) (sc2.view.loc (c : Thread nD τ))) (g3 : Buf (Elt F) (sc3.view.loc (c : Thread nD τ))) (g4 : Buf (Elt F) (sc4.view.loc (c : Thread nD τ))) (g7 : Buf (Elt F) (sc7.view.loc (c : Thread nD τ))) (g9 : Buf (Elt F) (sc9.view.loc (c : Thread nD τ)))
    (e3 : View.read (Elt F) A3.view f3 = I.wih) (e4 : View.read (Elt F) A4.view f4 = I.whh) (e5 : View.read (Elt F) A5.view f5 = I.bg) (e6 : View.read (Elt F) A6.view f6 = I.wot) (e7 : View.read (Elt F) A7.view f7 = I.bo)
    (k0 : View.read (Elt F) sc0.view g0 = s.h) (k1 : View.read (Elt F) sc1.view g1 = s.c) (k2 : View.read (Elt F) sc2.view g2 = s.e1) (k3 : View.read (Elt F) sc3.view g3 = s.e2)
    (k4 : View.read (Elt F) sc4.view g4 = s.mask) (k7 : View.read (Elt F) sc7.view g7 = I.mem) (k9 : View.read (Elt F) sc9.view g9 = fun _ => s.sf) :
    loadsLast c A1 A3 A4 A5 A6 A7 f1 f3 f4 f5 f6 f7 g0 g1 g2 g3 g4 g7 g9 = loads I s :=
  Loads.ext' (congrFun (rowOf k9) _)
    (wholeOf zz2 k3)
    (wholeOf zz2 k2)
    (wholeOf zz2 e3)
    (wholeOf zz2 k0)
    (wholeOf zz2 e4)
    (wholeOf zz2 e5)
    (wholeOf zz2 k1)
    (by unfold loadsLast loads; dsimp only; rw [rowOf e6]; rfl)
    (by unfold loadsLast loads; dsimp only; rw [rowOf e6]; rfl)
    (by unfold loadsLast loads; dsimp only; rw [rowOf e6]; rfl)
    (by unfold loadsLast loads; dsimp only; rw [rowOf e6]; rfl)
    (by unfold loadsLast loads; dsimp only; rw [rowOf e6]; rfl)
    (by unfold loadsLast loads; dsimp only; rw [rowOf e6]; rfl)
    (by unfold loadsLast loads; dsimp only; rw [rowOf e6]; rfl)
    (by unfold loadsLast loads; dsimp only; rw [rowOf e6]; rfl)
    (by unfold loadsLast loads; dsimp only; rw [rowOf e7]; rfl)
    (by unfold loadsLast loads; dsimp only; rw [rowOf e7]; rfl)
    (by unfold loadsLast loads; dsimp only; rw [rowOf e7]; rfl)
    (by unfold loadsLast loads; dsimp only; rw [rowOf e7]; rfl)
    (by unfold loadsLast loads; dsimp only; rw [rowOf e7]; rfl)
    (by unfold loadsLast loads; dsimp only; rw [rowOf e7]; rfl)
    (by unfold loadsLast loads; dsimp only; rw [rowOf e7]; rfl)
    (by unfold loadsLast loads; dsimp only; rw [rowOf e7]; rfl)
    (by unfold loadsLast loads; dsimp only; rw [rowOf k4]; rfl)
    (by unfold loadsLast loads; dsimp only; rw [rowOf k4]; rfl)
    (by unfold loadsLast loads; dsimp only; rw [rowOf k4]; rfl)
    (by unfold loadsLast loads; dsimp only; rw [rowOf k4]; rfl)
    (by unfold loadsLast loads; dsimp only; rw [rowOf k4]; rfl)
    (by unfold loadsLast loads; dsimp only; rw [rowOf k4]; rfl)
    (by unfold loadsLast loads; dsimp only; rw [rowOf k4]; rfl)
    (by unfold loadsLast loads; dsimp only; rw [rowOf k4]; rfl)
    (wholeOf zz2 k7)
    (wholeOf zz2 k4)

end Cert.KernelIdeal.Hand
end
-- ==== Proof.ReadsFirst.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.DatRel
public import Idealize.ShloMosaic.Lib.Tactic
public import Idealize.ShloMosaic.Lib.WordCmp
public import Idealize.ShloMosaic.Lib.WordArith.Masks
public import Idealize.ShloMosaic.Lib.ValueIdxCore
public import proofs.«01_k».proof.Proof.RunFirst
public import proofs.«01_k».proof.Proof.Reads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (Pipeline.UD sig nD τ) ℕ

attribute [local irreducible] memSt

/-! # What the first run loads, in the step's words -/

theorem loadsFirst_eq (I : Inp F) (c : Dev nD) (A1 : Memref sig .tc .smem S50 .i32) (A3 : Memref sig .tc .vmem S64x256 .f32) (A4 : Memref sig .tc .vmem S64x256 .f32) (A5 : Memref sig .tc .vmem S1x256 .f32) (A6 : Memref sig .tc .vmem S8x64x12500 .f32) (A7 : Memref sig .tc .vmem S8x12500 .f32)
    (f1 : Buf (Elt F) (A1.view.loc (c : Thread nD τ))) (f3 : Buf (Elt F) (A3.view.loc (c : Thread nD τ))) (f4 : Buf (Elt F) (A4.view.loc (c : Thread nD τ))) (f5 : Buf (Elt F) (A5.view.loc (c : Thread nD τ))) (f6 : Buf (Elt F) (A6.view.loc (c : Thread nD τ))) (f7 : Buf (Elt F) (A7.view.loc (c : Thread nD τ)))
    (e1 : View.read (Elt F) A1.view f1 = I.x) (e3 : View.read (Elt F) A3.view f3 = I.wih) (e4 : View.read (Elt F) A4.view f4 = I.whh) (e5 : View.read (Elt F) A5.view f5 = I.bg) (e6 : View.read (Elt F) A6.view f6 = I.wot) (e7 : View.read (Elt F) A7.view f7 = I.bo) :
    loadsFirst c A1 A3 A4 A5 A6 A7 f1 f3 f4 f5 f6 f7 = loads I St.init :=
  Loads.ext' rfl
    (by unfold loadsFirst loads St.init; dsimp only; exact covWhole sc3.view zz2 k0_pay6)
    (by unfold loadsFirst loads St.init; dsimp only; exact covWhole sc2.view zz2 k0_pay5)
    (wholeOf zz2 e3)
    (by unfold loadsFirst loads St.init; dsimp only; exact covWhole sc0.view zz2 k0_pay3)
    (wholeOf zz2 e4)
    (wholeOf zz2 e5)
    (by unfold loadsFirst loads St.init; dsimp only; exact covWhole sc1.view zz2 k0_pay4)
    (by unfold loadsFirst loads; dsimp only; rw [rowOf e6]; rfl)
    (by unfold loadsFirst loads; dsimp only; rw [rowOf e6]; rfl)
    (by unfold loadsFirst loads; dsimp only; rw [rowOf e6]; rfl)
    (by unfold loadsFirst loads; dsimp only; rw [rowOf e6]; rfl)
    (by unfold loadsFirst loads; dsimp only; rw [rowOf e6]; rfl)
    (by unfold loadsFirst loads; dsimp only; rw [rowOf e6]; rfl)
    (by unfold loadsFirst loads; dsimp only; rw [rowOf e6]; rfl)
    (by unfold loadsFirst loads; dsimp only; rw [rowOf e6]; rfl)
    (by unfold loadsFirst loads; dsimp only; rw [rowOf e7]; rfl)
    (by unfold loadsFirst loads; dsimp only; rw [rowOf e7]; rfl)
    (by unfold loadsFirst loads; dsimp only; rw [rowOf e7]; rfl)
    (by unfold loadsFirst loads; dsimp only; rw [rowOf e7]; rfl)
    (by unfold loadsFirst loads; dsimp only; rw [rowOf e7]; rfl)
    (by unfold loadsFirst loads; dsimp only; rw [rowOf e7]; rfl)
    (by unfold loadsFirst loads; dsimp only; rw [rowOf e7]; rfl)
    (by unfold loadsFirst loads; dsimp only; rw [rowOf e7]; rfl)
    (by unfold loadsFirst loads St.init; dsimp only; exact covOf sc4.view zz2 _ k0_pay7)
    (by unfold loadsFirst loads St.init; dsimp only; exact covOf sc4.view zz2 _ k0_pay7)
    (by unfold loadsFirst loads St.init; dsimp only; exact covOf sc4.view zz2 _ k0_pay7)
    (by unfold loadsFirst loads St.init; dsimp only; exact covOf sc4.view zz2 _ k0_pay7)
    (by unfold loadsFirst loads St.init; dsimp only; exact covOf sc4.view zz2 _ k0_pay7)
    (by unfold loadsFirst loads St.init; dsimp only; exact covOf sc4.view zz2 _ k0_pay7)
    (by unfold loadsFirst loads St.init; dsimp only; exact covOf sc4.view zz2 _ k0_pay7)
    (by unfold loadsFirst loads St.init; dsimp only; exact covOf sc4.view zz2 _ k0_pay7)
    (by unfold loadsFirst loads Inp.mem; dsimp only; rw [e1, trips50]; exact covWhole sc7.view zz2 _)
    (by unfold loadsFirst loads St.init; dsimp only; exact covWhole sc4.view zz2 k0_pay7)

end Cert.KernelIdeal.Hand
end
-- ==== Proof.Exact.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.DatRel
public import Idealize.ShloMosaic.Lib.Tactic
public import Idealize.ShloMosaic.Lib.WordCmp
public import Idealize.ShloMosaic.Lib.WordArith.Masks
public import Idealize.ShloMosaic.Lib.ValueIdxCore
public import Idealize.ShloMosaic.Lib.CellWrites
public import Idealize.ShloMosaic.Lib.SparseCore.Scatter
public import proofs.«01_k».proof.Proof.Gen.KernelIdeal.Frame
public import Idealize.ShloMosaic.Lib.Pipeline.ArrRel
public import Idealize.ShloMosaic.Lib.Pipeline.ValueKit.Point
public import proofs.«01_k».proof.Proof.Hand
public import proofs.«01_k».proof.Proof.ReadsFirst

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ)

/-! # Every point of the grid, exactly -/

/-- The windows as a point finds them, and as it leaves them. -/
def found (c : Dev nD) (t : Fin cfg0.N) : sProp 𝕄 :=
  iprop((∃ Y, ⌜(rdat m c).Finds 0 t Y⌝ ∗ owns (c : Thread nD τ) (st0_0 t) fullShare Y) ∗ (∃ Y, ⌜(rdat m c).Finds 1 t Y⌝ ∗ owns (c : Thread nD τ) (st0_1 t) fullShare Y) ∗ (∃ Y, ⌜(rdat m c).Finds 2 t Y⌝ ∗ owns (c : Thread nD τ) (st0_2 t) fullShare Y) ∗ (∃ Y, ⌜(rdat m c).Finds 3 t Y⌝ ∗ owns (c : Thread nD τ) (st0_3 t) fullShare Y) ∗ (∃ Y, ⌜(rdat m c).Finds 4 t Y⌝ ∗ owns (c : Thread nD τ) (st0_4 t) fullShare Y) ∗ (∃ Y, ⌜(rdat m c).Finds 5 t Y⌝ ∗ owns (c : Thread nD τ) (st0_5 t) fullShare Y) ∗ (∃ Y, ⌜(rdat m c).Finds 6 t Y⌝ ∗ owns (c : Thread nD τ) (st0_6 t) fullShare Y) ∗ (∃ Y, ⌜(rdat m c).Finds 7 t Y⌝ ∗ owns (c : Thread nD τ) (st0_7 t) fullShare Y) ∗ (∃ Y, ⌜(rdat m c).Finds 8 t Y⌝ ∗ owns (c : Thread nD τ) (st0_8 t) fullShare Y))
def left (c : Dev nD) (t : Fin cfg0.N) : sProp 𝕄 :=
  iprop((∃ X, ⌜rl m c 0 t X⌝ ∗ owns (c : Thread nD τ) (st0_0 t) fullShare X) ∗ (∃ X, ⌜rl m c 1 t X⌝ ∗ owns (c : Thread nD τ) (st0_1 t) fullShare X) ∗ (∃ X, ⌜rl m c 2 t X⌝ ∗ owns (c : Thread nD τ) (st0_2 t) fullShare X) ∗ (∃ X, ⌜rl m c 3 t X⌝ ∗ owns (c : Thread nD τ) (st0_3 t) fullShare X) ∗ (∃ X, ⌜rl m c 4 t X⌝ ∗ owns (c : Thread nD τ) (st0_4 t) fullShare X) ∗ (∃ X, ⌜rl m c 5 t X⌝ ∗ owns (c : Thread nD τ) (st0_5 t) fullShare X) ∗ (∃ X, ⌜rl m c 6 t X⌝ ∗ owns (c : Thread nD τ) (st0_6 t) fullShare X) ∗ (∃ X, ⌜rl m c 7 t X⌝ ∗ owns (c : Thread nD τ) (st0_7 t) fullShare X) ∗ (∃ X, ⌜rl m c 8 t X⌝ ∗ owns (c : Thread nD τ) (st0_8 t) fullShare X))

theorem left_of (c : Dev nD) (t : Fin cfg0.N)
    (f1 : Buf (Elt F) ((st0_0 t).view.loc (c : Thread nD τ)))
    (f3 : Buf (Elt F) ((st0_1 t).view.loc (c : Thread nD τ)))
    (f4 : Buf (Elt F) ((st0_2 t).view.loc (c : Thread nD τ)))
    (f5 : Buf (Elt F) ((st0_3 t).view.loc (c : Thread nD τ)))
    (f6 : Buf (Elt F) ((st0_4 t).view.loc (c : Thread nD τ)))
    (f7 : Buf (Elt F) ((st0_5 t).view.loc (c : Thread nD τ)))
    (Y6 Y7 : S50.Idx → Elt F .i32)
    (e1 : View.read (Elt F) (st0_0 t).view f1 = (inp m c).x)
    (e3 : View.read (Elt F) (st0_1 t).view f3 = (inp m c).wih)
    (e4 : View.read (Elt F) (st0_2 t).view f4 = (inp m c).whh)
    (e5 : View.read (Elt F) (st0_3 t).view f5 = (inp m c).bg)
    (e6 : View.read (Elt F) (st0_4 t).view f6 = (inp m c).wot)
    (e7 : View.read (Elt F) (st0_5 t).view f7 = (inp m c).bo)
    (H6 : ∀ y : S50.Idx, (y 0).val < t.val → Y6 y = (ldAt (inp m c) (y 0).val).ahat)
    (H7 : ∀ y : S50.Idx, (y 0).val < t.val → Y7 y = (ldAt (inp m c) (y 0).val).fb) :
    iprop(pt c (st0_0 t) fullShare f1 ∗ pt c (st0_1 t) fullShare f3 ∗ pt c (st0_2 t) fullShare f4 ∗ pt c (st0_3 t) fullShare f5 ∗ pt c (st0_4 t) fullShare f6 ∗ pt c (st0_5 t) fullShare f7
      ∗ owns (c : Thread nD τ) (st0_6 t) fullShare (fun y => if (y 0).val = (grid0.coords t 0).val then (ldAt (inp m c) t.val).ahat else Y6 y)
      ∗ owns (c : Thread nD τ) (st0_7 t) fullShare (fun y => if (y 0).val = (grid0.coords t 0).val then (ldAt (inp m c) t.val).fb else Y7 y)
      ∗ owns (c : Thread nD τ) (st0_8 t) fullShare (ldAt (inp m c) t.val).mp) ⊢ (left m c t : sProp 𝕄) := by
  unfold left
  iintro ⟨H1, H3, H4, H5, H6, H7, H8, H9, H10⟩
  isplitl [H1]
  · iexists (View.read (Elt F) (st0_0 t).view f1); isplitr; · ipureintro; exact e1
    unfold owns; iexists _; isplitr; swap; · iexact H1
    ipureintro; rfl
  isplitl [H3]
  · iexists (View.read (Elt F) (st0_1 t).view f3); isplitr; · ipureintro; exact e3
    unfold owns; iexists _; isplitr; swap; · iexact H3
    ipureintro; rfl
  isplitl [H4]
  · iexists (View.read (Elt F) (st0_2 t).view f4); isplitr; · ipureintro; exact e4
    unfold owns; iexists _; isplitr; swap; · iexact H4
    ipureintro; rfl
  isplitl [H5]
  · iexists (View.read (Elt F) (st0_3 t).view f5); isplitr; · ipureintro; exact e5
    unfold owns; iexists _; isplitr; swap; · iexact H5
    ipureintro; rfl
  isplitl [H6]
  · iexists (View.read (Elt F) (st0_4 t).view f6); isplitr; · ipureintro; exact e6
    unfold owns; iexists _; isplitr; swap; · iexact H6
    ipureintro; rfl
  isplitl [H7]
  · iexists (View.read (Elt F) (st0_5 t).view f7); isplitr; · ipureintro; exact e7
    unfold owns; iexists _; isplitr; swap; · iexact H7
    ipureintro; rfl
  isplitl [H8]
  · iexists _; isplitr; swap; · iexact H8
    ipureintro
    show ∀ y : S50.Idx, (y 0).val ≤ t.val → _
    intro y hy
    have hc := coords_val t
    dsimp only
    by_cases hyt : (y 0).val = (grid0.coords t 0).val
    · rw [if_pos hyt, hyt, hc]
    · rw [if_neg hyt]; exact H6 y (by omega)
  isplitl [H9]
  · iexists _; isplitr; swap; · iexact H9
    ipureintro
    show ∀ y : S50.Idx, (y 0).val ≤ t.val → _
    intro y hy
    have hc := coords_val t
    dsimp only
    by_cases hyt : (y 0).val = (grid0.coords t 0).val
    · rw [if_pos hyt, hyt, hc]
    · rw [if_neg hyt]; exact H7 y (by omega)
  iexists _; isplitr; swap; · iexact H10
  ipureintro
  show (ldAt (inp m c) t.val).mp = (ldAt (inp m c) t.val).mp
  rfl

def bodyPre (c : Dev nD) (t : Fin cfg0.N) : sProp 𝕄 :=
  iprop(between m c t.val ∗ (dats m 0 c).owesAt () t.castSucc ∗ found m c t)
def bodyPost (c : Dev nD) (t : Fin cfg0.N) : sProp 𝕄 :=
  iprop(between m c (t.val + 1) ∗ (dats m 0 c).owesAt () t.succ ∗ left m c t)

theorem owes_of (c : Dev nD) (p : Fin (cfg0.N + 1)) : iprop(∃ W, owes (c : Thread nD τ) 0 W) ⊢ (dats m 0 c).owesAt () p := by
  unfold Dat.owesAt Pipeline.owesWithin
  rw [show (dats m 0 c).owed p = 0 from rfl]
  iintro ⟨%W, HW⟩
  iexists W; isplitr; · ipureintro; exact fun _ _ => Or.inl trivial
  iexact HW
theorem owes_at (c : Dev nD) (p : Fin (cfg0.N + 1)) : (dats m 0 c).owesAt () p ⊢ (iprop(∃ W, owes (c : Thread nD τ) 0 W) : sProp 𝕄) := by
  unfold Dat.owesAt Pipeline.owesWithin
  rw [show (dats m 0 c).owed p = 0 from rfl]
  iintro ⟨%W, -, HW⟩
  iexists W; iexact HW

section
variable (hA : ∀ U, (extractAt ![0, 0, 0] (k0_pay47 (F := F) k0_pay10 U) inpos_S1x1x1_p0_0_0 : BitVec 32).toNat < 100000)
  (hB : ∀ U M, (extractAt ![0, 0, 0] (k0_pay50 (F := F) k0_pay10 U M) inpos_S1x1x1_p0_0_0 : BitVec 32).toNat < 100000)
include hA hB

theorem body_first (c : Dev nD) (t : Fin cfg0.N) (ht : t.val = 0) :
    bodyPre m c t ⊢ wp frame (wpE (defs₀ (F := F)) Variants.none c none) Set.univ (bodyAt0 t) (fun _ => bodyPost m c t) := by
  have hN : cfg0.N = 50 := N_0
  have htN := t.isLt
  unfold bodyPre found
  unfold owns
  rw [between_idle m c (p := t.val) (Or.inl ht), idle_eq]
  iintro ⟨⟨⟨⟨%g0, HS0⟩, ⟨%g1, HS1⟩, ⟨%g2, HS2⟩, ⟨%g3, HS3⟩, ⟨%g4, HS4⟩, ⟨%g5, HS5⟩, ⟨%g6, HS6⟩, ⟨%g7, HS7⟩, ⟨%g8, HS8⟩, ⟨%g9, HS9⟩⟩, Hg, ⟨Hq0, Hq1⟩, HE⟩, HO, ⟨%Y0, %hY0, ⟨%f1, %hf1, HA1⟩⟩, ⟨%Y1, %hY1, ⟨%f3, %hf3, HA3⟩⟩, ⟨%Y2, %hY2, ⟨%f4, %hf4, HA4⟩⟩, ⟨%Y3, %hY3, ⟨%f5, %hf5, HA5⟩⟩, ⟨%Y4, %hY4, ⟨%f6, %hf6, HA6⟩⟩, ⟨%Y5, %hY5, ⟨%f7, %hf7, HA7⟩⟩, ⟨%Y6, %hY6, ⟨%f8, %hf8, HA8⟩⟩, ⟨%Y7, %hY7, ⟨%f9, %hf9, HA9⟩⟩, ⟨%Y8, %hY8, ⟨%f10, %hf10, HA10⟩⟩⟩
  ihave HE' := (splitE c (V m c main_arg1)).1 $$ HE
  icases HE' with ⟨HE10, HE11, HR⟩
  ihave HO' := (owes_at m c t.castSucc) $$ HO
  icases HO' with ⟨%W, HW⟩
  have e1 : View.read (Elt F) (st0_0 t).view f1 = (inp m c).x := hf1.trans (found0 m c t Y0 hY0)
  have e3 : View.read (Elt F) (st0_1 t).view f3 = (inp m c).wih := hf3.trans (found1 m c t Y1 hY1)
  have e4 : View.read (Elt F) (st0_2 t).view f4 = (inp m c).whh := hf4.trans (found2 m c t Y2 hY2)
  have e5 : View.read (Elt F) (st0_3 t).view f5 = (inp m c).bg := hf5.trans (found3 m c t Y3 hY3)
  have e6 : View.read (Elt F) (st0_4 t).view f6 = (inp m c).wot := hf6.trans (found4 m c t Y4 hY4)
  have e7 : View.read (Elt F) (st0_5 t).view f7 = (inp m c).bo := hf7.trans (found5 m c t Y5 hY5)
  have hL : loadsFirst c (st0_0 t) (st0_1 t) (st0_2 t) (st0_3 t) (st0_4 t) (st0_5 t) f1 f3 f4 f5 f6 f7 = ldAt (inp m c) t.val := by
    rw [ht]; exact loadsFirst_eq (inp m c) c _ _ _ _ _ _ f1 f3 f4 f5 f6 f7 e1 e3 e4 e5 e6 e7
  have run := runFirst c (grid0.coords t) ((cond1_iff t).mpr ht) (fun h => (cond2_iff t).mp h ht) ((cond3_iff t).mpr (by omega)) ((cond4_iff t).mpr (by omega)) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) f1 f3 f4 f5 f6 f7 f8 f9 f10 g0 g1 g2 g3 g4 g5 g6 g7 g8 g9 (V m c main_arg1) W (fun _ => bodyPost m c t) hA hB
  rw [hL, show (ldAt (inp m c) t.val).mem = (inp m c).mem from rfl] at run
  iapply run
  isplitl [HA1]; · iexact HA1
  isplitl [HA3]; · iexact HA3
  isplitl [HA4]; · iexact HA4
  isplitl [HA5]; · iexact HA5
  isplitl [HA6]; · iexact HA6
  isplitl [HA7]; · iexact HA7
  isplitl [HA8]; · iexact HA8
  isplitl [HA9]; · iexact HA9
  isplitl [HA10]; · iexact HA10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HE10]; · iexact HE10
  isplitl [HE11]; · iexact HE11
  isplitl [Hq0]; · iexact Hq0
  isplitl [Hq1]; · iexact Hq1
  isplitl [HW]; · iexact HW
  iintro ⟨HM, HFL⟩
  unfold common
  icases HM with ⟨I1, I3, I4, I5, I6, I7, O8, O9, O10, N0, N1, N4, N5, N6, N7, N8, N9, HW⟩
  unfold bodyPost
  rw [between_next m c (p := t.val) (by omega)]
  unfold keeps
  isplitl [N0 N1 N4 N5 N6 N7 N8 N9 HFL Hg HR]
  · isplitl [N0 N1 N4 N5 N6 N7 N8 N9]
    · isplitl [N0]; · iexact N0
      isplitl [N1]; · iexact N1
      isplitl [N4]; · iexact N4
      isplitl [N5]; · iexact N5
      isplitl [N6]; · iexact N6
      isplitl [N7]; · iexact N7
      isplitl [N8]; · iexact N8
      iexact N9
    isplitl [HFL]; · iexact HFL
    isplitl [Hg]; · iexact Hg
    iexact HR
  isplitl [HW]
  · iapply (owes_of m c t.succ); iexact HW
  iapply (left_of m c t f1 f3 f4 f5 f6 f7 (View.read (Elt F) (st0_6 t).view f8) (View.read (Elt F) (st0_7 t).view f9) e1 e3 e4 e5 e6 e7
    (fun y hy => by have := found6 m c t Y6 hY6 y hy; rw [← hf8] at this; exact this)
    (fun y hy => by have := found7 m c t Y7 hY7 y hy; rw [← hf9] at this; exact this))
  isplitl [I1]; · iexact I1
  isplitl [I3]; · iexact I3
  isplitl [I4]; · iexact I4
  isplitl [I5]; · iexact I5
  isplitl [I6]; · iexact I6
  isplitl [I7]; · iexact I7
  isplitl [O8]; · iexact O8
  isplitl [O9]; · iexact O9
  iexact O10

theorem body_mid (c : Dev nD) (t : Fin cfg0.N) (ht : t.val ≠ 0) (ht' : t.val ≠ 49) :
    bodyPre m c t ⊢ wp frame (wpE (defs₀ (F := F)) Variants.none c none) Set.univ (bodyAt0 t) (fun _ => bodyPost m c t) := by
  have hN : cfg0.N = 50 := N_0
  have htN := t.isLt
  have hlt := st_lt hA hB (inp m c) t.val
  unfold bodyPre found
  unfold owns
  rw [between_busy m c (p := t.val) (by omega)]
  iintro ⟨⟨HC, HF, Hg, HR⟩, HO, ⟨%Y0, %hY0, ⟨%f1, %hf1, HA1⟩⟩, ⟨%Y1, %hY1, ⟨%f3, %hf3, HA3⟩⟩, ⟨%Y2, %hY2, ⟨%f4, %hf4, HA4⟩⟩, ⟨%Y3, %hY3, ⟨%f5, %hf5, HA5⟩⟩, ⟨%Y4, %hY4, ⟨%f6, %hf6, HA6⟩⟩, ⟨%Y5, %hY5, ⟨%f7, %hf7, HA7⟩⟩, ⟨%Y6, %hY6, ⟨%f8, %hf8, HA8⟩⟩, ⟨%Y7, %hY7, ⟨%f9, %hf9, HA9⟩⟩, ⟨%Y8, %hY8, ⟨%f10, %hf10, HA10⟩⟩⟩
  ihave HC' := (carry_open c _ _) $$ HC
  icases HC' with ⟨⟨%g0, %k0, HS0⟩, ⟨%g1, %k1, HS1⟩, ⟨%g4, %k4, HS4⟩, ⟨%g5, HS5⟩, ⟨%g6, HS6⟩, ⟨%g7, %k7, HS7⟩, ⟨%g8, %k8, HS8⟩, ⟨%g9, %k9, HS9⟩⟩
  ihave HF' := (flying_open c _ _ _) $$ HF
  icases HF' with ⟨%g2, %g3, %k23, HF2, HF3⟩
  ihave HO' := (owes_at m c t.castSucc) $$ HO
  icases HO' with ⟨%W, HW⟩
  have e1 : View.read (Elt F) (st0_0 t).view f1 = (inp m c).x := hf1.trans (found0 m c t Y0 hY0)
  have e3 : View.read (Elt F) (st0_1 t).view f3 = (inp m c).wih := hf3.trans (found1 m c t Y1 hY1)
  have e4 : View.read (Elt F) (st0_2 t).view f4 = (inp m c).whh := hf4.trans (found2 m c t Y2 hY2)
  have e5 : View.read (Elt F) (st0_3 t).view f5 = (inp m c).bg := hf5.trans (found3 m c t Y3 hY3)
  have e6 : View.read (Elt F) (st0_4 t).view f6 = (inp m c).wot := hf6.trans (found4 m c t Y4 hY4)
  have e7 : View.read (Elt F) (st0_5 t).view f7 = (inp m c).bo := hf7.trans (found5 m c t Y5 hY5)
  have hL : loadsMid c (st0_0 t) (st0_1 t) (st0_2 t) (st0_3 t) (st0_4 t) (st0_5 t) f1 f3 f4 f5 f6 f7 g0 g1 g2 g3 g4 g7 g9 = ldAt (inp m c) t.val :=
    loadsMid_eq (inp m c) (stAt (inp m c) t.val) c _ _ _ _ _ _ f1 f3 f4 f5 f6 f7 g0 g1 g2 g3 g4 g7 g9 e3 e4 e5 e6 e7 k0 k1 k23.1 k23.2 k4 k7 k9
  have hr : ∀ (B : LoadRect S2) (j), (View.readAt (Elt F) sc8.view B g8 j : BitVec 32).toNat < 100000 := by
    intro B j
    rw [rowOf k8]; dsimp only
    split
    · exact hlt.2
    · exact hlt.1
  have run := runMid c (grid0.coords t) (fun h => ht ((cond1_iff t).mp h)) ((cond2_iff t).mpr ht) ((cond3_iff t).mpr ht') ((cond4_iff t).mpr ht') (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) f1 f3 f4 f5 f6 f7 f8 f9 f10 g0 g1 g2 g3 g4 g5 g6 g7 g8 g9 (V m c main_arg1) W (fun _ => bodyPost m c t) (hr _ _) (hr _ _) hA hB
  rw [hL, k7] at run
  iapply run
  isplitl [HA1]; · iexact HA1
  isplitl [HA3]; · iexact HA3
  isplitl [HA4]; · iexact HA4
  isplitl [HA5]; · iexact HA5
  isplitl [HA6]; · iexact HA6
  isplitl [HA7]; · iexact HA7
  isplitl [HA8]; · iexact HA8
  isplitl [HA9]; · iexact HA9
  isplitl [HA10]; · iexact HA10
  isplitl [HS0]; · iexact HS0
  isplitl [HS1]; · iexact HS1
  isplitl [HS4]; · iexact HS4
  isplitl [HS5]; · iexact HS5
  isplitl [HS6]; · iexact HS6
  isplitl [HS7]; · iexact HS7
  isplitl [HS8]; · iexact HS8
  isplitl [HS9]; · iexact HS9
  isplitl [HF2]; · iexact HF2
  isplitl [HF3]; · iexact HF3
  isplitl [HW]; · iexact HW
  iintro ⟨HM, HFL⟩
  unfold common
  icases HM with ⟨I1, I3, I4, I5, I6, I7, O8, O9, O10, N0, N1, N4, N5, N6, N7, N8, N9, HW⟩
  unfold bodyPost
  rw [between_next m c (p := t.val) (by omega)]
  unfold keeps
  isplitl [N0 N1 N4 N5 N6 N7 N8 N9 HFL Hg HR]
  · isplitl [N0 N1 N4 N5 N6 N7 N8 N9]
    · isplitl [N0]; · iexact N0
      isplitl [N1]; · iexact N1
      isplitl [N4]; · iexact N4
      isplitl [N5]; · iexact N5
      isplitl [N6]; · iexact N6
      isplitl [N7]; · iexact N7
      isplitl [N8]; · iexact N8
      iexact N9
    isplitl [HFL]; · iexact HFL
    isplitl [Hg]; · iexact Hg
    iexact HR
  isplitl [HW]
  · iapply (owes_of m c t.succ); iexact HW
  iapply (left_of m c t f1 f3 f4 f5 f6 f7 (View.read (Elt F) (st0_6 t).view f8) (View.read (Elt F) (st0_7 t).view f9) e1 e3 e4 e5 e6 e7
    (fun y hy => by have := found6 m c t Y6 hY6 y hy; rw [← hf8] at this; exact this)
    (fun y hy => by have := found7 m c t Y7 hY7 y hy; rw [← hf9] at this; exact this))
  isplitl [I1]; · iexact I1
  isplitl [I3]; · iexact I3
  isplitl [I4]; · iexact I4
  isplitl [I5]; · iexact I5
  isplitl [I6]; · iexact I6
  isplitl [I7]; · iexact I7
  isplitl [O8]; · iexact O8
  isplitl [O9]; · iexact O9
  iexact O10

theorem body_last (c : Dev nD) (t : Fin cfg0.N) (ht : t.val = 49) :
    bodyPre m c t ⊢ wp frame (wpE (defs₀ (F := F)) Variants.none c none) Set.univ (bodyAt0 t) (fun _ => bodyPost m c t) := by
  have hN : cfg0.N = 50 := N_0
  have htN := t.isLt
  have hlt := st_lt hA hB (inp m c) t.val
  unfold bodyPre found
  unfold owns
  rw [between_busy m c (p := t.val) (by omega)]
  iintro ⟨⟨HC, HF, Hg, HR⟩, HO, ⟨%Y0, %hY0, ⟨%f1, %hf1, HA1⟩⟩, ⟨%Y1, %hY1, ⟨%f3, %hf3, HA3⟩⟩, ⟨%Y2, %hY2, ⟨%f4, %hf4, HA4⟩⟩, ⟨%Y3, %hY3, ⟨%f5, %hf5, HA5⟩⟩, ⟨%Y4, %hY4, ⟨%f6, %hf6, HA6⟩⟩, ⟨%Y5, %hY5, ⟨%f7, %hf7, HA7⟩⟩, ⟨%Y6, %hY6, ⟨%f8, %hf8, HA8⟩⟩, ⟨%Y7, %hY7, ⟨%f9, %hf9, HA9⟩⟩, ⟨%Y8, %hY8, ⟨%f10, %hf10, HA10⟩⟩⟩
  ihave HC' := (carry_open c _ _) $$ HC
  icases HC' with ⟨⟨%g0, %k0, HS0⟩, ⟨%g1, %k1, HS1⟩, ⟨%g4, %k4, HS4⟩, ⟨%g5, HS5⟩, ⟨%g6, HS6⟩, ⟨%g7, %k7, HS7⟩, ⟨%g8, %k8, HS8⟩, ⟨%g9, %k9, HS9⟩⟩
  ihave HF' := (flying_open c _ _ _) $$ HF
  icases HF' with ⟨%g2, %g3, %k23, HF2, HF3⟩
  ihave HO' := (owes_at m c t.castSucc) $$ HO
  icases HO' with ⟨%W, HW⟩
  have e1 : View.read (Elt F) (st0_0 t).view f1 = (inp m c).x := hf1.trans (found0 m c t Y0 hY0)
  have e3 : View.read (Elt F) (st0_1 t).view f3 = (inp m c).wih := hf3.trans (found1 m c t Y1 hY1)
  have e4 : View.read (Elt F) (st0_2 t).view f4 = (inp m c).whh := hf4.trans (found2 m c t Y2 hY2)
  have e5 : View.read (Elt F) (st0_3 t).view f5 = (inp m c).bg := hf5.trans (found3 m c t Y3 hY3)
  have e6 : View.read (Elt F) (st0_4 t).view f6 = (inp m c).wot := hf6.trans (found4 m c t Y4 hY4)
  have e7 : View.read (Elt F) (st0_5 t).view f7 = (inp m c).bo := hf7.trans (found5 m c t Y5 hY5)
  have hL : loadsLast c (st0_0 t) (st0_1 t) (st0_2 t) (st0_3 t) (st0_4 t) (st0_5 t) f1 f3 f4 f5 f6 f7 g0 g1 g2 g3 g4 g7 g9 = ldAt (inp m c) t.val :=
    loadsLast_eq (inp m c) (stAt (inp m c) t.val) c _ _ _ _ _ _ f1 f3 f4 f5 f6 f7 g0 g1 g2 g3 g4 g7 g9 e3 e4 e5 e6 e7 k0 k1 k23.1 k23.2 k4 k7 k9
  have hr : ∀ (B : LoadRect S2) (j), (View.readAt (Elt F) sc8.view B g8 j : BitVec 32).toNat < 100000 := by
    intro B j
    rw [rowOf k8]; dsimp only
    split
    · exact hlt.2
    · exact hlt.1
  have run := runLast c (grid0.coords t) (fun h => absurd ((cond1_iff t).mp h) (by omega)) ((cond2_iff t).mpr (by omega)) (fun h => (cond3_iff t).mp h ht) (fun h => (cond4_iff t).mp h ht) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) f1 f3 f4 f5 f6 f7 f8 f9 f10 g0 g1 g2 g3 g4 g5 g6 g7 g8 g9 (V m c main_arg1) W (fun _ => bodyPost m c t) (hr _ _) (hr _ _)
  rw [hL, k7] at run
  iapply run
  isplitl [HA1]; · iexact HA1
  isplitl [HA3]; · iexact HA3
  isplitl [HA4]; · iexact HA4
  isplitl [HA5]; · iexact HA5
  isplitl [HA6]; · iexact HA6
  isplitl [HA7]; · iexact HA7
  isplitl [HA8]; · iexact HA8
  isplitl [HA9]; · iexact HA9
  isplitl [HA10]; · iexact HA10
  isplitl [HS0]; · iexact HS0
  isplitl [HS1]; · iexact HS1
  isplitl [HS4]; · iexact HS4
  isplitl [HS5]; · iexact HS5
  isplitl [HS6]; · iexact HS6
  isplitl [HS7]; · iexact HS7
  isplitl [HS8]; · iexact HS8
  isplitl [HS9]; · iexact HS9
  isplitl [HF2]; · iexact HF2
  isplitl [HF3]; · iexact HF3
  isplitl [HW]; · iexact HW
  iintro ⟨HM, HFL⟩
  unfold common
  icases HM with ⟨I1, I3, I4, I5, I6, I7, O8, O9, O10, N0, N1, N4, N5, N6, N7, N8, N9, HW⟩
  unfold bodyPost
  unfold landed
  icases HFL with ⟨HS2, HS3, HE10, HE11, Hq0, Hq1⟩
  rw [between_idle m c (p := t.val + 1) (Or.inr (by omega)), idle_eq]
  unfold owns
  icases N0 with ⟨%n0, -, N0⟩
  icases N1 with ⟨%n1, -, N1⟩
  icases N4 with ⟨%n4, -, N4⟩
  icases N7 with ⟨%n7, -, N7⟩
  icases N8 with ⟨%n8, -, N8⟩
  icases N9 with ⟨%n9, -, N9⟩
  isplitl [N0 N1 HS2 HS3 N4 N5 N6 N7 N8 N9 Hg Hq0 Hq1 HE10 HE11 HR]
  · isplitl [N0 N1 HS2 HS3 N4 N5 N6 N7 N8 N9]
    · isplitl [N0]; · iexists _; iexact N0
      isplitl [N1]; · iexists _; iexact N1
      isplitl [HS2]; · iexact HS2
      isplitl [HS3]; · iexact HS3
      isplitl [N4]; · iexists _; iexact N4
      isplitl [N5]; · iexact N5
      isplitl [N6]; · iexact N6
      isplitl [N7]; · iexists _; iexact N7
      isplitl [N8]; · iexists _; iexact N8
      iexists _; iexact N9
    isplitl [Hg]; · iexact Hg
    isplitl [Hq0 Hq1]
    · isplitl [Hq0]; · iexact Hq0
      iexact Hq1
    iapply (splitE c (V m c main_arg1)).2
    isplitl [HE10]; · iexact HE10
    isplitl [HE11]; · iexact HE11
    iexact HR
  isplitl [HW]
  · iapply (owes_of m c t.succ); iexact HW
  iapply (left_of m c t f1 f3 f4 f5 f6 f7 (View.read (Elt F) (st0_6 t).view f8) (View.read (Elt F) (st0_7 t).view f9) e1 e3 e4 e5 e6 e7
    (fun y hy => by have := found6 m c t Y6 hY6 y hy; rw [← hf8] at this; exact this)
    (fun y hy => by have := found7 m c t Y7 hY7 y hy; rw [← hf9] at this; exact this))
  isplitl [I1]; · iexact I1
  isplitl [I3]; · iexact I3
  isplitl [I4]; · iexact I4
  isplitl [I5]; · iexact I5
  isplitl [I6]; · iexact I6
  isplitl [I7]; · iexact I7
  unfold owns
  isplitl [O8]; · iexact O8
  isplitl [O9]; · iexact O9
  iexact O10

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact body_first m hA hB c t h0
  · by_cases h1 : t.val = 49
    · exact body_last m hA hB c t h1
    · exact body_mid m hA hB c t h0 h1

end

theorem defs₀_row (t : Fin cfg0.N) :
    defs₀ (F := F) .tc cfg0.body (cfg0.bodyArgs t (cfg0.slots t)) = bodyAt0 t := by
  unfold defs₀; rw [Defs.onTc_tc]

theorem body_obligation (hA : ∀ U, (extractAt ![0, 0, 0] (k0_pay47 (F := F) k0_pay10 U) inpos_S1x1x1_p0_0_0 : BitVec 32).toNat < 100000)
    (hB : ∀ U M, (extractAt ![0, 0, 0] (k0_pay50 (F := F) k0_pay10 U M) inpos_S1x1x1_p0_0_0 : BitVec 32).toNat < 100000) (c : Dev nD) :
    (rdat m c).BodyObligation (defs₀ (F := F)) Variants.none () Set.univ := by
  refine Pipeline.BodyObligationRel.toRRel (dats m 0 c) fun t => ?_
  rw [bigSep_W0, bigSep_W0, defs₀_row]
  exact triple_restated (sound_body m hA hB c t) rfl .rfl fun _ => .rfl

theorem hmain_own : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main (ρ : Dev nD → PrngReg) (hA : ∀ U, (extractAt ![0, 0, 0] (k0_pay47 (F := F) k0_pay10 U) inpos_S1x1x1_p0_0_0 : BitVec 32).toNat < 100000)
    (hB : ∀ U M, (extractAt ![0, 0, 0] (k0_pay50 (F := F) k0_pay10 U M) inpos_S1x1x1_p0_0_0 : BitVec 32).toNat < 100000) :
    θ_run defs (onTc (τ := τ) (main (F := F))) (s₀ m ρ) (fun r => Pipeline.RDat.FramePost cfg0 (rdat m) (V m) r ∧ r.2.sem = fun _ => 0) :=
  Pipeline.RDat.θ_run_frame_dma (Q' := _) cfgs (0 : Fin 1) launch0 osem0 defs₀ Variants.none (rdat m) ownSemFacts0 H0 H0_sub m ρ main
    (hbody := fun c => body_obligation m hA hB c) (hshare := fun c => (dats m 0 c).share_full fun _ => rfl)
    (howed := fun _ _ => rfl) (V := V m) (hmain := hmain_own m) (hA := A_eq m)
    (hin := fun c => by rw [show (rdat m c).Φ 0 = between m c 0 from rfl, between_idle m c (Or.inl rfl)])
    (hout := fun c => by rw [show (rdat m c).Φ (Fin.last cfg0.N) = between m c 50 from congrArg (between m c) N_0, between_idle m c (Or.inr rfl)])

/-- The arguments end as they began. -/
theorem args_kept {r : PUnit × MemSt nD τ sig (Elt F)} (h : Pipeline.RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h.arr_in c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

end Cert.KernelIdeal.Hand
end
-- ==== Proof.Rank.lean ====
module

public import Idealize.ShloMosaic.Lib.SortPrefix
public import Mathlib.Data.EReal.Operations
public import Mathlib.Data.Finset.Card
public import Mathlib.Data.Fintype.Card

@[expose] public section

/-! # Ranks: which member is the first of the hundred best, with no sorting -/

namespace Cert.Rank

open Idealize.ShloMosaic

variable {n : ℕ} (u : Fin n → EReal)

/-- `v` comes before `w`: a greater value, or the same value and a smaller index. -/
def Bf (v w : Fin n) : Prop := u w < u v ∨ (u v = u w ∧ v < w)

/-- The same as a truth value. -/
noncomputable def bfb (v w : Fin n) : Bool := @decide (Bf u v w) (Classical.dec _)

theorem bfb_iff (v w : Fin n) : bfb u v w = true ↔ Bf u v w := by
  classical
  unfold bfb; exact decide_eq_true_iff

theorem Bf.irrefl (v : Fin n) : ¬ Bf u v v := fun h => h.elim (lt_irrefl _) (fun h => lt_irrefl _ h.2)
theorem Bf.trans {a b c : Fin n} (h : Bf u a b) (h' : Bf u b c) : Bf u a c := by
  rcases h with h | ⟨h, l⟩ <;> rcases h' with h' | ⟨h', l'⟩
  · exact Or.inl (h'.trans h)
  · exact Or.inl (h' ▸ h)
  · exact Or.inl (h.symm ▸ h')
  · exact Or.inr ⟨h.trans h', l.trans l'⟩
theorem Bf.total {a b : Fin n} (h : a ≠ b) : Bf u a b ∨ Bf u b a := by
  rcases lt_trichotomy (u a) (u b) with l | e | l
  · exact Or.inr (Or.inl l)
  · rcases lt_or_gt_of_ne h with l | l
    · exact Or.inl (Or.inr ⟨e, l⟩)
    · exact Or.inr (Or.inr ⟨e.symm, l⟩)
  · exact Or.inl (Or.inl l)

theorem strict : StrictTotalBefore (bfb u) where
  irrefl a := by
    cases h : bfb u a a
    · rfl
    · exact absurd ((bfb_iff u a a).1 h) (Bf.irrefl u a)
  trans a b c h h' := (bfb_iff u a c).2 (Bf.trans u ((bfb_iff u a b).1 h) ((bfb_iff u b c).1 h'))
  total a b h := (Bf.total u h).imp (bfb_iff u a b).2 (bfb_iff u b a).2

/-- Sorting positions by "greater" alone, stably, sorts them by "before". -/
theorem stable_eq (gt : Fin n → Fin n → Bool) (hgt : ∀ v w, gt v w = true ↔ u w < u v) (l : List (Fin n)) (hl : l.Pairwise (· < ·)) :
    stableSort gt l = stableSort (bfb u) l := by
  induction l with
  | nil => rfl
  | cons a l ih =>
    rw [List.pairwise_cons] at hl
    unfold stableSort
    rw [ih hl.2]
    refine insertBefore_congr _ _ a _ fun b hb => ?_
    have hb' := hl.1 b ((perm_stableSort (bfb u) l).mem_iff.mp hb)
    rw [Bool.eq_iff_iff, hgt, bfb_iff]
    exact ⟨Or.inl, fun h => h.elim id (fun h => absurd h.2 (not_lt.mpr hb'.le))⟩

theorem sortedFrom_eq (gt : Fin n → Fin n → Bool) (hgt : ∀ v w, gt v w = true ↔ u w < u v) : sortedFrom gt = sortedFrom (bfb u) := by
  have h : sortPositions n gt = sortPositions n (bfb u) := stable_eq u gt hgt _ (by
    have := List.pairwise_lt_finRange n
    exact this)
  funext k
  unfold sortedFrom
  rw [List.get_of_eq h]
  rfl

/-- The order in which positions are listed. -/
theorem sorted_iff (i j : Fin n) : Bf u (sortedFrom (bfb u) i) (sortedFrom (bfb u) j) ↔ i < j := by
  have hinj := sortedFrom_injective (bfb u)
  have hno : ∀ i j : Fin n, i < j → ¬ Bf u (sortedFrom (bfb u) j) (sortedFrom (bfb u) i) := fun i j h => by
    have := sortedFrom_noInversion (bfb u) (bfb u) (fun a b h => (strict u).asymm a b h) (fun _ _ h => h) (strict u).negTrans i j h
    intro hb
    rw [(bfb_iff u _ _).2 hb] at this
    exact absurd this (by decide)
  constructor
  · intro h
    rcases lt_trichotomy i j with l | e | l
    · exact l
    · subst e; exact absurd h (Bf.irrefl u _)
    · exact absurd h (hno _ _ l)
  · intro h
    rcases Bf.total u (fun e => h.ne (hinj e)) with l | l
    · exact l
    · exact absurd l (hno _ _ h)

open Classical in
/-- As many positions come before the `k`-th as its place says. -/
theorem card_before (k : Fin n) : (Finset.univ.filter fun w => Bf u w (sortedFrom (bfb u) k)).card = k.val := by
  have : (Finset.univ.filter fun w => Bf u w (sortedFrom (bfb u) k)) = (Finset.Iio k).image (sortedFrom (bfb u)) := by
    ext w
    obtain ⟨i, rfl⟩ := sortedFrom_surjective (bfb u) w
    simp only [Finset.mem_filter, Finset.mem_univ, true_and, Finset.mem_image, Finset.mem_Iio]
    rw [sorted_iff]
    exact ⟨fun h => ⟨i, h, rfl⟩, fun ⟨j, h, e⟩ => by rw [← sortedFrom_injective (bfb u) e]; exact h⟩
  rw [this, Finset.card_image_of_injective _ (sortedFrom_injective _), Fin.card_Iio]

/-- `a` has the greatest value of `g`, and the smallest index among those. -/
def First (g : Fin n → EReal) (a : Fin n) : Prop := ∀ v, g v ≤ g a ∧ (g v = g a → a ≤ v)

/-- The first of all is the one listed first. -/
theorem first_eq {a : Fin n} (h : First u a) (k : Fin n) (hk : k.val = 0) : sortedFrom (bfb u) k = a := by
  by_contra hne
  obtain ⟨i, rfl⟩ := sortedFrom_surjective (bfb u) a
  have hik : k < i := by
    rcases lt_trichotomy k i with l | e | l
    · exact l
    · subst e; exact absurd rfl hne
    · have : i.val < k.val := l
      omega
  obtain ⟨h1, h2⟩ := h (sortedFrom (bfb u) k)
  rcases (sorted_iff u k i).2 hik with l | ⟨e, l⟩
  · exact absurd l (not_lt.mpr h1)
  · exact absurd l (not_lt.mpr (h2 e))

section members
variable (mem : Fin n → Prop) (g : Fin n → EReal) (ib : Fin n)
  (hg1 : ∀ v, mem v → g v = u v) (hg0 : ∀ v, ¬ mem v → g v = 0) (hu : ∀ v, 0 ≤ u v) (hib : First g ib)

include hg1 hg0 hu hib in
theorem member_of_pos (h : 0 < g ib) : mem ib ∧ g ib = u ib := by
  by_contra hn
  by_cases hm : mem ib
  · exact hn ⟨hm, hg1 _ hm⟩
  · rw [hg0 _ hm] at h; exact lt_irrefl _ h

include hg1 hg0 hu hib in
/-- Every member with a value that is not zero is the chosen one or comes after it. -/
theorem before_members (v : Fin n) (hv : mem v) (h0 : 0 < u v) : 0 < g ib ∧ (v = ib ∨ Bf u ib v) := by
  obtain ⟨h1, h2⟩ := hib v
  rw [hg1 v hv] at h1 h2
  have hp : 0 < g ib := h0.trans_le h1
  obtain ⟨hm, he⟩ := member_of_pos u mem g ib hg1 hg0 hu hib hp
  refine ⟨hp, ?_⟩
  rw [he] at h1 h2
  rcases h1.lt_or_eq with l | e
  · exact Or.inr (Or.inl l)
  · rcases (h2 e).lt_or_eq with l | e'
    · exact Or.inr (Or.inr ⟨e.symm, l⟩)
    · exact Or.inl e'.symm

open Classical in
/-- How many come before the chosen member, as the kernel counts them. -/
noncomputable def nle : ℕ := (Finset.univ.filter fun w => g ib < u w ∨ (u w = g ib ∧ w < ib)).card

include hg1 hg0 hu hib in
/-- A member is listed among the first `K` exactly if the chosen one has a value above zero and fewer than
`K` come before it; then the chosen one is the first member listed. -/
theorem found (K : ℕ) (hK : K ≤ n) (hpos : ∃ S : Finset (Fin n), K ≤ S.card ∧ ∀ v ∈ S, 0 < u v) :
    ((∃ k : Fin n, k.val < K ∧ mem (sortedFrom (bfb u) k)) ↔ (0 < g ib ∧ nle u g ib < K))
    ∧ ((0 < g ib ∧ nle u g ib < K) → ∃ k : Fin n, k.val < K ∧ sortedFrom (bfb u) k = ib ∧ mem ib ∧ ∀ k', mem (sortedFrom (bfb u) k') → k'.val < K → k ≤ k') := by
  classical
  obtain ⟨S, hS, hSp⟩ := hpos
  have hpk : ∀ k : Fin n, k.val < K → 0 < u (sortedFrom (bfb u) k) := fun k hk => by
    by_contra h0
    have h0 : u (sortedFrom (bfb u) k) = 0 := le_antisymm (not_lt.mp h0) (hu _)
    have hsub : S ⊆ Finset.univ.filter fun w => Bf u w (sortedFrom (bfb u) k) := fun w hw =>
      Finset.mem_filter.mpr ⟨Finset.mem_univ _, Or.inl (by rw [h0]; exact hSp w hw)⟩
    have := Finset.card_le_card hsub
    rw [card_before] at this
    omega
  have hn : ∀ k, 0 < g ib → sortedFrom (bfb u) k = ib → nle u g ib = k.val := fun k hp hk => by
    obtain ⟨hm, he⟩ := member_of_pos u mem g ib hg1 hg0 hu hib hp
    rw [← card_before u k, hk]
    unfold nle
    refine congrArg Finset.card ?_
    ext w
    simp only [Finset.mem_filter, Finset.mem_univ, true_and]
    rw [he]
    exact Iff.rfl
  have hle : ∀ k, 0 < g ib → sortedFrom (bfb u) k = ib → ∀ k', mem (sortedFrom (bfb u) k') → k'.val < K → k ≤ k' := fun k hp hk k' hm hk' => by
    rcases (before_members u mem g ib hg1 hg0 hu hib _ hm (hpk k' hk')).2 with e | l
    · rw [← hk] at e; rw [sortedFrom_injective _ e]
    · rw [← hk, sorted_iff] at l; exact l.le
  obtain ⟨k₀, hk₀⟩ := sortedFrom_surjective (bfb u) ib
  have h2 : (0 < g ib ∧ nle u g ib < K) → ∃ k : Fin n, k.val < K ∧ sortedFrom (bfb u) k = ib ∧ mem ib ∧ ∀ k', mem (sortedFrom (bfb u) k') → k'.val < K → k ≤ k' := fun ⟨hp, hlt⟩ => by
    refine ⟨k₀, ?_, hk₀, (member_of_pos u mem g ib hg1 hg0 hu hib hp).1, hle k₀ hp hk₀⟩
    rw [← hn k₀ hp hk₀]; exact hlt
  refine ⟨⟨fun ⟨k, hk, hm⟩ => ?_, fun h => ?_⟩, h2⟩
  · have hp := (before_members u mem g ib hg1 hg0 hu hib _ hm (hpk k hk)).1
    refine ⟨hp, ?_⟩
    rw [hn k₀ hp hk₀]
    have : k₀.val ≤ k.val := hle k₀ hp hk₀ k hm hk
    omega
  · obtain ⟨k, hk, e, hm, -⟩ := h2 h
    exact ⟨k, hk, by rw [e]; exact hm⟩

end members

end Cert.Rank
end
-- ==== Proof.Item.lean ====
module

public import proofs.«01_k».proof.Proof.Range
public import proofs.«01_k».proof.Proof.Rank

@[expose] public section

set_option maxRecDepth 16384

/-! # Items and places

The kernel keeps one number per item in a table of eight rows; here the tables are read by item. -/

open Idealize.ShloMosaic Idealize.ShloMosaic.ValueIdx

namespace Cert.KernelIdeal.Hand

open Cert.KernelIdeal Cert.KernelIdeal.Gen Cert.Rank

noncomputable section

/-- The item at a place of the table, and the place of an item. -/
def item (i : S8x12500.Idx) : Fin 100000 := ⟨(i 0).val * 12500 + (i 1).val, gi_toNat i ▸ gi_lt i⟩
def place (v : Fin 100000) : S8x12500.Idx :=
  ix2 ⟨v.val / 12500, by have := v.isLt; omega⟩ ⟨v.val % 12500, Nat.mod_lt _ (by decide)⟩

theorem item_place (v : Fin 100000) : item (place v) = v :=
  Fin.ext (by show v.val / 12500 * 12500 + v.val % 12500 = v.val; omega)
theorem place_item (i : S8x12500.Idx) : place (item i) = i := by
  have h1 : (i 1).val < 12500 := (i 1).isLt
  funext a; fin_cases a
  · exact Fin.ext (by show ((i 0).val * 12500 + (i 1).val) / 12500 = (i 0).val; omega)
  · exact Fin.ext (by show ((i 0).val * 12500 + (i 1).val) % 12500 = (i 1).val; omega)
/-- Items are places. -/
def items : Fin 100000 ≃ S8x12500.Idx := ⟨place, item, item_place, place_item⟩

theorem gi_item (i : S8x12500.Idx) : k0_pay10 i = BitVec.ofNat 32 (item i).val := by
  have := (item i).isLt
  apply BitVec.eq_of_toNat_eq
  rw [gi_toNat, BitVec.toNat_ofNat, Nat.mod_eq_of_lt (by omega)]; rfl
theorem gi_place (v : Fin 100000) : k0_pay10 (place v) = BitVec.ofNat 32 v.val := by rw [gi_item, item_place]

theorem S1_one (a b : S1.Idx) : a = b := funext fun k => Fin.ext (by
  have := (a k).isLt; have := (b k).isLt
  have : S1.size k = 1 := by fin_cases k; rfl
  omega)
theorem fiber_all (j : S1.Idx) : (Finset.univ.filter fun i => reduces_S1x8x12500_S1.drop i = j) = Finset.univ :=
  Finset.filter_true_of_mem fun _ _ => S1_one _ _

/-- The greatest value is at least every value, and is one of them. -/
theorem best_ge (x : FVec Ideal S8x12500 .f32) (i : S8x12500.Idx) : x i ≤ best x := by
  obtain ⟨j, hj⟩ : ∃ j : S1.Idx, best x = multiReduction (F := Ideal) .maximumf [1, 2] S1 (shapeCast S1x8x12500 x shapeCasts_S8x12500_S1x8x12500) 0xFF800000#32 reduces_S1x8x12500_S1 (.inl rfl) rfl j := extract_cast _
  rw [hj]
  refine le_of_le_of_eq ?_ (multiReduction_maximumf_eq_fold ..).symm
  rw [ofBits_negInf]
  have h := (fold_max_spec (shapeCast S1x8x12500 x shapeCasts_S8x12500_S1x8x12500) (Finset.univ.filter fun i => reduces_S1x8x12500_S1.drop i = j)).1
    ((Shape.reshapeEquiv shapeCasts_S8x12500_S1x8x12500).symm i) (by rw [fiber_all]; exact Finset.mem_univ _)
  have e : shapeCast S1x8x12500 x shapeCasts_S8x12500_S1x8x12500 ((Shape.reshapeEquiv shapeCasts_S8x12500_S1x8x12500).symm i) = x i :=
    congrArg x (Equiv.apply_symm_apply _ _)
  rw [e] at h
  exact h
theorem best_at (x : FVec Ideal S8x12500 .f32) : ∃ i, best x = x i := by
  obtain ⟨k, hk⟩ := best_mem x
  exact ⟨_, hk⟩

theorem toInt_small (n : ℕ) (h : n < 100000) : (BitVec.ofNat 32 n).toInt = (n : ℤ) := by
  rw [BitVec.toInt_eq_toNat_cond, BitVec.toNat_ofNat, Nat.mod_eq_of_lt (by omega), if_pos (by omega)]

theorem cmp_oeq (x y : EReal) : Ideal.cmp .oeq x y = 1#1 ↔ x = y := by
  unfold Ideal.cmp; by_cases h : x = y <;> simp [h]
theorem cmp_ogt (x y : EReal) : Ideal.cmp .ogt x y = 1#1 ↔ y < x := by
  unfold Ideal.cmp; by_cases h : y < x <;> simp [h]
theorem cmp_olt (x y : EReal) : Ideal.cmp .olt x y = 1#1 ↔ x < y := by
  unfold Ideal.cmp; by_cases h : x < y <;> simp [h]

theorem sel_pos {α : Type} {c : BitVec 1} (h : c = 1#1) (x y : α) : Scalar.select c x y = x := by unfold Scalar.select; exact if_pos h
theorem sel_neg {α : Type} {c : BitVec 1} (h : ¬ c = 1#1) (x y : α) : Scalar.select c x y = y := by unfold Scalar.select; exact if_neg h

/-- The item the kernel finds has the greatest value, and is the first that has it. -/
theorem firstBest_spec (x : FVec Ideal S8x12500 .f32) :
    ∃ v : Fin 100000, firstBest x = BitVec.ofNat 32 v.val ∧ best x = x (place v) ∧ First (fun w => x (place w)) v := by
  set w : IVec S1x8x12500 32 := shapeCast S1x8x12500 (select (cmpf (F := Ideal) .oeq x (broadcast S8x12500 (best x))) k0_pay10 (broadcast S8x12500 1073741824#32)) shapeCasts_S8x12500_S1x8x12500 with hw
  obtain ⟨j, hj⟩ : ∃ j : S1.Idx, firstBest x = multiReductionI .minsi [1, 2] S1 w 2147483647#32 reduces_S1x8x12500_S1 rfl j := extract_cast _
  have hat : ∀ k, w k = Scalar.select (Ideal.cmp .oeq (x (Shape.reshapeEquiv shapeCasts_S8x12500_S1x8x12500 k)) (best x)) (k0_pay10 (Shape.reshapeEquiv shapeCasts_S8x12500_S1x8x12500 k)) 1073741824#32 := fun k => select_at x (best x) k0_pay10 _
  have hsel : ∀ k, (x (Shape.reshapeEquiv shapeCasts_S8x12500_S1x8x12500 k) = best x → w k = BitVec.ofNat 32 (item (Shape.reshapeEquiv shapeCasts_S8x12500_S1x8x12500 k)).val)
      ∧ (x (Shape.reshapeEquiv shapeCasts_S8x12500_S1x8x12500 k) ≠ best x → w k = 1073741824#32) := fun k => by
    rw [hat k, gi_item]; unfold Scalar.select
    refine ⟨fun h => if_pos ((cmp_oeq _ _).2 h), fun h => if_neg fun h' => h ((cmp_oeq _ _).1 h')⟩
  have hf : firstBest x = (Finset.univ.filter fun i => reduces_S1x8x12500_S1.drop i = j).fold IntOp.minsi 2147483647#32 w :=
    hj.trans (multiReductionI_eq_fold ..)
  obtain ⟨hle, hor⟩ := fold_minsi_spec w (Finset.univ.filter fun i => reduces_S1x8x12500_S1.drop i = j) 2147483647#32
  rw [← hf] at hle hor
  obtain ⟨i0, hi0⟩ := best_at x
  have key : ∀ i : S8x12500.Idx, x i = best x → (firstBest x).toInt ≤ ((item i).val : ℤ) := fun i hi => by
    have e : Shape.reshapeEquiv shapeCasts_S8x12500_S1x8x12500 ((Shape.reshapeEquiv shapeCasts_S8x12500_S1x8x12500).symm i) = i := Equiv.apply_symm_apply _ _
    have h := hle ((Shape.reshapeEquiv shapeCasts_S8x12500_S1x8x12500).symm i) (by rw [fiber_all]; exact Finset.mem_univ _)
    rw [(hsel _).1 (by rw [e]; exact hi), e, toInt_small _ (item i).isLt] at h
    exact h
  have hlt : (firstBest x).toInt < 100000 := (key i0 hi0.symm).trans_lt (by have := (item i0).isLt; omega)
  rcases hor with h | ⟨k, -, hk⟩
  · rw [h] at hlt; exact absurd hlt (by decide)
  · by_cases hb : x (Shape.reshapeEquiv shapeCasts_S8x12500_S1x8x12500 k) = best x
    · refine ⟨item (Shape.reshapeEquiv shapeCasts_S8x12500_S1x8x12500 k), hk.trans ((hsel k).1 hb), ?_, fun v => ⟨?_, fun hv => ?_⟩⟩
      · rw [place_item, hb]
      · show x (place v) ≤ x (place _)
        rw [place_item, hb]; exact best_ge x _
      · have hv' : x (place v) = best x := by
          refine Eq.trans hv ?_
          show x (place _) = best x
          rw [place_item, hb]
        have := key (place v) hv'
        rw [hk, (hsel k).1 hb, toInt_small _ (item _).isLt, item_place] at this
        exact Fin.le_def.mpr (by exact_mod_cast this)
    · rw [hk, (hsel k).2 hb] at hlt; exact absurd hlt (by decide)

/-- A table's total, item by item. -/
theorem total_eq (x : FVec Ideal S8x12500 .f32) :
    extractAt ![0, 0, 0] (shapeCast S1x1x1 (multiReduction (F := Ideal) .add [1, 2] S1 (shapeCast S1x8x12500 x shapeCasts_S8x12500_S1x8x12500) 0x00000000#32 reduces_S1x8x12500_S1 (.inl rfl) rfl) shapeCasts_S1_S1x1x1) inpos_S1x1x1_p0_0_0
      = ∑ v : Fin 100000, (x (place v) : EReal) := by
  obtain ⟨j, hj⟩ : ∃ j : S1.Idx, extractAt ![0, 0, 0] (shapeCast S1x1x1 (multiReduction (F := Ideal) .add [1, 2] S1 (shapeCast S1x8x12500 x shapeCasts_S8x12500_S1x8x12500) 0x00000000#32 reduces_S1x8x12500_S1 (.inl rfl) rfl) shapeCasts_S1_S1x1x1) inpos_S1x1x1_p0_0_0
      = multiReduction (F := Ideal) .add [1, 2] S1 (shapeCast S1x8x12500 x shapeCasts_S8x12500_S1x8x12500) 0x00000000#32 reduces_S1x8x12500_S1 (.inl rfl) rfl j := extract_cast _
  refine hj.trans ?_
  show Ideal.reduceAdd reduces_S1x8x12500_S1 (shapeCast S1x8x12500 x shapeCasts_S8x12500_S1x8x12500) j = _
  unfold Ideal.reduceAdd
  rw [fiber_all]
  exact (Equiv.sum_comp (Shape.reshapeEquiv shapeCasts_S8x12500_S1x8x12500) x).trans (Equiv.sum_comp items x).symm

end

end Cert.KernelIdeal.Hand
end
-- ==== Proof.Soft.lean ====
module

public import proofs.«01_k».proof.Proof.Range

@[expose] public section

/-! # The softmax, in the reals

With real scores, subtracting the greatest one before the exponential changes nothing. -/

open Idealize.ShloMosaic

namespace Cert.Rank

noncomputable section

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s has ih => rw [Finset.sum_insert has, Finset.sum_insert has, ih, EReal.coe_add]

theorem exp_coe (r : ℝ) : Ideal.exp ((r : ℝ) : EReal) = ((Real.exp r : ℝ) : EReal) := rfl

theorem div_coe (a b : ℝ) (hb : b ≠ 0) : Ideal.div ((a : ℝ) : EReal) ((b : ℝ) : EReal) = ((a * b⁻¹ : ℝ) : EReal) := by
  unfold Ideal.div
  rw [if_neg (by exact_mod_cast hb), EReal.coe_mul, EReal.coe_inv]

theorem z_pos (l : Fin 100000 → ℝ) : 0 < ∑ w, Real.exp (l w) :=
  Finset.sum_pos (fun w _ => Real.exp_pos _) ⟨⟨0, by omega⟩, Finset.mem_univ _⟩

/-- The kernel's masked probability. -/
theorem kernel_soft (l μ : Fin 100000 → ℝ) (v : Fin 100000) :
    (Ideal.exp ((l v : ℝ) : EReal) * ((μ v : ℝ) : EReal)) * Ideal.div 1 (∑ w, Ideal.exp ((l w : ℝ) : EReal))
      = (((Real.exp (l v) * μ v) * (∑ w, Real.exp (l w))⁻¹ : ℝ) : EReal) := by
  simp only [exp_coe]
  rw [coe_sum, show (1 : EReal) = ((1 : ℝ) : EReal) from rfl, div_coe _ _ (z_pos l).ne', one_mul, ← EReal.coe_mul, ← EReal.coe_mul]

/-- The reference's. -/
theorem ref_soft (l μ : Fin 100000 → ℝ) (m : ℝ) (v : Fin 100000) :
    Ideal.div (Ideal.exp (((l v : ℝ) : EReal) - ((m : ℝ) : EReal))) (∑ w, Ideal.exp (((l w : ℝ) : EReal) - ((m : ℝ) : EReal))) * ((μ v : ℝ) : EReal)
      = (((Real.exp (l v) * μ v) * (∑ w, Real.exp (l w))⁻¹ : ℝ) : EReal) := by
  have e : ∀ w, Ideal.exp (((l w : ℝ) : EReal) - ((m : ℝ) : EReal)) = ((Real.exp (l w - m) : ℝ) : EReal) := fun w => by
    rw [← EReal.coe_sub]; rfl
  simp only [e]
  rw [coe_sum, div_coe _ _ (z_pos fun w => l w - m).ne', ← EReal.coe_mul]
  refine congrArg _ ?_
  have hs : ∑ w, Real.exp (l w - m) = (∑ w, Real.exp (l w)) * (Real.exp m)⁻¹ := by
    rw [Finset.sum_mul]
    exact Finset.sum_congr rfl fun w _ => by rw [Real.exp_sub, div_eq_mul_inv]
  have hm := (Real.exp_pos m).ne'
  have hz := (z_pos l).ne'
  rw [hs, Real.exp_sub]
  field_simp

theorem soft_lt (l μ : Fin 100000 → ℝ) (v w : Fin 100000) :
    ((((Real.exp (l w) * μ w) * (∑ w, Real.exp (l w))⁻¹ : ℝ) : EReal) < (((Real.exp (l v) * μ v) * (∑ w, Real.exp (l w))⁻¹ : ℝ) : EReal))
      ↔ (Ideal.exp ((l w : ℝ) : EReal) * ((μ w : ℝ) : EReal) < Ideal.exp ((l v : ℝ) : EReal) * ((μ v : ℝ) : EReal)) := by
  rw [exp_coe, exp_coe, ← EReal.coe_mul, ← EReal.coe_mul, EReal.coe_lt_coe_iff, EReal.coe_lt_coe_iff]
  exact mul_lt_mul_iff_left₀ (inv_pos.2 (z_pos l))

/-- Sums, products and the two gates keep to the reals. -/
def IsReal (x : EReal) : Prop := ∃ r : ℝ, x = r
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩
theorem real_tanh (x : EReal) : IsReal (Ideal.tanh x) := by
  induction x with
  | bot => exact ⟨-1, rfl⟩
  | top => exact ⟨1, rfl⟩
  | coe r => exact ⟨Real.tanh r, rfl⟩
theorem real_logistic (x : EReal) : IsReal (Ideal.div 1 (1 + Ideal.exp (-x))) := by
  induction x with
  | bot =>
    refine ⟨0, ?_⟩
    rw [EReal.neg_bot, show Ideal.exp ⊤ = ⊤ from rfl]
    have h1 : (1 : EReal) + ⊤ = ⊤ := rfl
    rw [h1]; unfold Ideal.div
    rw [if_neg EReal.top_ne_zero, EReal.inv_top, mul_zero]; rfl
  | top =>
    refine ⟨1, ?_⟩
    rw [EReal.neg_top, show Ideal.exp ⊥ = 0 from rfl, add_zero, show (1 : EReal) = ((1 : ℝ) : EReal) from rfl, div_coe _ _ one_ne_zero]
    norm_num
  | coe r =>
    have hp : (0 : ℝ) < 1 + Real.exp (-r) := by have := Real.exp_pos (-r); linarith
    refine ⟨1 * (1 + Real.exp (-r))⁻¹, ?_⟩
    rw [← EReal.coe_neg, exp_coe, show (1 : EReal) = ((1 : ℝ) : EReal) from rfl, ← EReal.coe_add, div_coe _ _ hp.ne']

theorem bits_neg_one : (FloatOps.ofBits (F := Ideal) .f32 0xBF800000#32 : EReal) = ((-1 : ℝ) : EReal) := by
  show Ideal.ofBits .f32 0xBF800000#32 = _
  simp [Ideal.ofBits, Ideal.ieee, -EReal.coe_mul]
  try norm_num

end

end Cert.Rank
end
-- ==== Proof.Finite.lean ====
module

public import proofs.«01_k».proof.Pre_finite_output_layer
public import proofs.«01_k».proof.Proof.Item
public import proofs.«01_k».proof.Proof.Soft

@[expose] public section

set_option maxRecDepth 16384

/-! # What the precondition says: every weight and every bias of the output layer is a real number -/

open Idealize.ShloMosaic Idealize.ShloMosaic.ValueIdx

namespace Cert.Finite

open Cert.Pre_finite_output_layer Cert.Rank

theorem bit_and : ∀ a b : BitVec 1, IntOp.andi a b = 1#1 → a = 1#1 ∧ b = 1#1 := by decide

theorem fold_and {ι : Type} [DecidableEq ι] (x : ι → BitVec 1) (b : BitVec 1) (S : Finset ι) : S.fold IntOp.andi b x = 1#1 → ∀ i ∈ S, x i = 1#1 := by
  induction S using Finset.induction_on with
  | empty => exact fun _ i hi => absurd hi (Finset.notMem_empty i)
  | insert a S ha ih =>
    intro h i hi
    rw [Finset.fold_insert ha] at h
    obtain ⟨h1, h2⟩ := bit_and _ _ h
    rcases Finset.mem_insert.1 hi with rfl | hi
    · exact h1
    · exact ih h2 i hi

theorem all_one {s : Shape} {axes : List (Fin s.rank)} (x : s.Idx → BitVec 1) (init : S_.Idx → BitVec 1) (h : s.ReducesTo axes S_) (hu : 0 < S_.numel) (j : S_.Idx)
    (e : Host.reduce IntOp.andi x init h hu j = 1#1) (i : s.Idx) : x i = 1#1 := by
  rw [Host.reduce_eq_fold] at e
  exact fold_and x _ _ e i (Finset.mem_filter.2 ⟨Finset.mem_univ _, funext fun b => b.elim0⟩)

theorem real_of_abs (a : EReal) (h : Ideal.cmp .olt (max a (-a)) ⊤ = 1#1) : IsReal a := by
  rw [Cert.KernelIdeal.Hand.cmp_olt] at h
  induction a using EReal.rec with
  | bot => exact absurd h (by simp)
  | top => exact absurd h (by simp)
  | coe r => exact ⟨r, rfl⟩

theorem posInf : (FloatOps.ofBits (F := Ideal) .f32 0x7F800000#32 : EReal) = ⊤ := by
  show Ideal.ofBits .f32 0x7F800000#32 = ⊤
  simp [Ideal.ofBits, Ideal.ieee]

theorem real_entry {s : Shape} (W C : FVec Ideal s .f32) (hC : ∀ i, (C i : EReal) = ⊤) (i : s.Idx) (h : cmpf (F := Ideal) .olt (Host.absf W) C i = 1#1) : IsReal (W i) := by
  refine real_of_abs _ (Eq.trans ?_ h)
  show Ideal.cmp .olt (max (W i : EReal) (-(W i : EReal))) ⊤ = Ideal.cmp .olt (max (W i : EReal) (-(W i : EReal))) (C i : EReal)
  rw [hC]

/-- The precondition at its elements. -/
theorem layer_real [Facts] (a0 : IVec S50 32) (a1 : FVec Ideal S100000x64 .f32) (a2 a3 : FVec Ideal S256x64 .f32) (a4 a5 : FVec Ideal S256 .f32) (a6 : FVec Ideal S100000x64 .f32) (a7 : FVec Ideal S100000 .f32)
    (h : fn (F := Ideal) a0 a1 a2 a3 a4 a5 a6 a7 = fun _ => 1#1) : (∀ i, IsReal (a6 i)) ∧ ∀ i, IsReal (a7 i) := by
  have h0 := congrFun h (fun a => a.elim0)
  unfold fn at h0
  obtain ⟨h1, h2⟩ := bit_and _ _ h0
  exact ⟨fun i => real_entry a6 _ (fun _ => posInf) i (all_one _ _ _ _ _ h1 i), fun i => real_entry a7 _ (fun _ => posInf) i (all_one _ _ _ _ _ h2 i)⟩

end Cert.Finite
end
-- ==== Proof.Choice.lean ====
module

public import proofs.«01_k».proof.Proof.Rank

@[expose] public section

set_option maxRecDepth 16384

/-! # The item a step chooses, as a property of the values and the members -/

namespace Cert.Rank

open Idealize.ShloMosaic

/-- The `k`-th best item is among the hundred best and is a member. -/
def Hit (u : Fin 100000 → EReal) (P : Fin 100000 → Prop) (k : Fin 100000) : Prop :=
  k.val < 100 ∧ P (sortedFrom (bfb u) k)

/-- `v` is the best member among the hundred best, or, where there is none, the best item. -/
def Chosen (u : Fin 100000 → EReal) (P : Fin 100000 → Prop) (v : Fin 100000) : Prop :=
  (∃ k, Hit u P k ∧ (∀ k', Hit u P k' → k ≤ k') ∧ v = sortedFrom (bfb u) k)
    ∨ ((∀ k, ¬ Hit u P k) ∧ v = sortedFrom (bfb u) ⟨0, by omega⟩)

/-- There is one choice. -/
theorem Chosen.unique {u : Fin 100000 → EReal} {P : Fin 100000 → Prop} {v v' : Fin 100000}
    (h : Chosen u P v) (h' : Chosen u P v') : v = v' := by
  rcases h with ⟨k, hk, hm, e⟩ | ⟨hn, e⟩
  · rcases h' with ⟨k', hk', hm', e'⟩ | ⟨hn', e'⟩
    · exact (e.trans (congrArg (sortedFrom (bfb u)) (le_antisymm (hm _ hk') (hm' _ hk)))).trans e'.symm
    · exact absurd hk (hn' k)
  · rcases h' with ⟨k', hk', hm', e'⟩ | ⟨hn', e'⟩
    · exact absurd hk' (hn k')
    · exact e.trans e'.symm

/-- What a step says of the members: the feedback and the item. -/
theorem choice {u g : Fin 100000 → EReal} {P : Fin 100000 → Prop} {a b : Fin 100000}
    (hg1 : ∀ v, P v → g v = u v) (hg0 : ∀ v, ¬ P v → g v = 0) (hu : ∀ v, 0 ≤ u v) (ha : First u a) (hb : First g b)
    (hpos : ∃ S : Finset (Fin 100000), 100 ≤ S.card ∧ ∀ v ∈ S, 0 < u v) :
    ((0 < g b ∧ nle u g b < 100) ↔ ∃ k, Hit u P k) ∧ ((0 < g b ∧ nle u g b < 100) → Chosen u P b)
      ∧ (¬ (0 < g b ∧ nle u g b < 100) → Chosen u P a) := by
  obtain ⟨h1, h2⟩ := found u P g b hg1 hg0 hu hb 100 (by decide) hpos
  refine ⟨h1.symm, fun h => ?_, fun h => ?_⟩
  · obtain ⟨k, hk, hs, hP, hmin⟩ := h2 h
    exact Or.inl ⟨k, ⟨hk, by rw [hs]; exact hP⟩, fun k' hk' => hmin k' hk'.2 hk'.1, hs.symm⟩
  · refine Or.inr ⟨fun k hk => h (h1.1 ⟨k, hk⟩), ?_⟩
    exact (first_eq u ha _ rfl).symm

end Cert.Rank
end
-- ==== Proof.Pick.lean ====
module

public import proofs.«01_k».proof.Proof.Item
public import proofs.«01_k».proof.Proof.Choice
public import proofs.«01_k».proof.Proof.Step
public import Idealize.ShloMosaic.Lib.IdealHost

@[expose] public section

set_option maxRecDepth 16384

/-! # The kernel's choice, from its table of values and its table of members -/

open Idealize.ShloMosaic Idealize.ShloMosaic.ValueIdx

namespace Cert.KernelIdeal.Hand

open Cert.KernelIdeal Cert.KernelIdeal.Gen Cert.Rank

noncomputable section

theorem bits_one : (FloatOps.ofBits (F := Ideal) .f32 0x3F800000#32 : EReal) = 1 := Ideal.ofBits_one_f32
theorem bits_zero : (FloatOps.ofBits (F := Ideal) .f32 0#32 : EReal) = 0 := Ideal.ofBits_zero_f32
theorem bits_hundred : (FloatOps.ofBits (F := Ideal) .f32 1120403456#32 : EReal) = ((100 : ℕ) : EReal) := by
  show Ideal.ofBits .f32 1120403456#32 = _
  simp [Ideal.ofBits, Ideal.ieee]
  norm_num
  rw [← EReal.coe_mul, show ((13107200 : ℝ) * (1 / 131072)) = 100 by norm_num]
  rfl

theorem andi_one (a b : BitVec 1) : Scalar.andi a b = 1#1 ↔ a = 1#1 ∧ b = 1#1 := by
  revert a b; decide

theorem slt_small (a b : Fin 100000) : IntOp.cmpi .slt (BitVec.ofNat 32 a.val) (BitVec.ofNat 32 b.val) = 1#1 ↔ a < b := by
  have : IntOp.cmpi .slt (BitVec.ofNat 32 a.val) (BitVec.ofNat 32 b.val) = BitVec.ofBool (decide ((BitVec.ofNat 32 a.val).toInt < (BitVec.ofNat 32 b.val).toInt)) := rfl
  rw [this, toInt_small _ a.isLt, toInt_small _ b.isLt]
  by_cases h : a < b
  · simp [h]
  · simp [h]

/-- One item's part in the count of those before the best member. -/
theorem count_at (U : FVec Ideal S8x12500 .f32) (vb : EReal) (b w : Fin 100000) :
    ((Scalar.select (Ideal.cmp .ogt (U (place w)) vb) (FloatOps.ofBits (F := Ideal) .f32 0x3F800000#32 : EReal) (FloatOps.ofBits (F := Ideal) .f32 0#32 : EReal))
      + Scalar.select (IntOp.andi (Ideal.cmp .oeq (U (place w)) vb) (IntOp.cmpi .slt (k0_pay10 (place w)) (BitVec.ofNat 32 b.val))) (FloatOps.ofBits (F := Ideal) .f32 0x3F800000#32 : EReal) (FloatOps.ofBits (F := Ideal) .f32 0#32 : EReal))
      = @ite EReal (vb < U (place w) ∨ (U (place w) = vb ∧ w < b)) (Classical.propDecidable _) 1 0 := by
  classical
  have hand : ∀ x y : BitVec 1, IntOp.andi x y = 1#1 ↔ x = 1#1 ∧ y = 1#1 := by decide
  rw [bits_one, bits_zero, gi_place]
  by_cases h1 : vb < U (place w)
  · have hne : ¬ (U (place w) = vb) := fun e => absurd h1 (by rw [e]; exact lt_irrefl _)
    rw [sel_pos ((cmp_ogt _ _).2 h1), sel_neg (fun h => hne ((cmp_oeq _ _).1 ((hand _ _).1 h).1)), if_pos (Or.inl h1), add_zero]
  · rw [sel_neg (fun h => h1 ((cmp_ogt _ _).1 h)), zero_add]
    by_cases h2 : U (place w) = vb ∧ w < b
    · rw [sel_pos ((hand _ _).2 ⟨(cmp_oeq _ _).2 h2.1, (slt_small _ _).2 h2.2⟩), if_pos (Or.inr h2)]
    · rw [sel_neg (fun h => h2 ⟨(cmp_oeq _ _).1 ((hand _ _).1 h).1, (slt_small _ _).1 ((hand _ _).1 h).2⟩), if_neg fun h => h.elim h1 h2]

open Classical in
theorem total_of (p : Fin 100000 → Prop) : (∑ w, @ite EReal (p w) (Classical.propDecidable _) 1 0) = (((Finset.univ.filter p).card : ℕ) : EReal) := by
  rw [Finset.sum_ite, Finset.sum_const_zero, add_zero, Finset.sum_const, nsmul_one]

/-- The kernel's count, as a number of items. -/
theorem count_eq (U : FVec Ideal S8x12500 .f32) (g : Fin 100000 → EReal) (b : Fin 100000) :
    k0_pay51 (F := Ideal) k0_pay10 U (g b) (BitVec.ofNat 32 b.val) = ((nle (fun w => (U (place w) : EReal)) g b : ℕ) : EReal) := by
  classical
  unfold k0_pay51
  refine (total_eq _).trans ?_
  refine (Finset.sum_congr rfl fun w _ => count_at U (g b) b w).trans ?_
  refine (total_of fun w => g b < U (place w) ∨ (U (place w) = g b ∧ w < b)).trans ?_
  refine congrArg (fun n : ℕ => (n : EReal)) ?_
  unfold nle
  refine congrArg Finset.card (Finset.ext fun w => ?_)
  simp only [Finset.mem_filter]

theorem has_iff (L : Loads Ideal) (g : Fin 100000 → EReal) (b : Fin 100000) (hv : L.vb = g b) (hb : L.ib = BitVec.ofNat 32 b.val) :
    L.has = 1#1 ↔ 0 < g b ∧ nle (fun w => (L.U (place w) : EReal)) g b < 100 := by
  unfold Loads.has
  rw [andi_one, hv, hb, count_eq, bits_hundred, bits_zero]
  refine and_congr (cmp_ogt _ _) ((cmp_olt _ _).trans ?_)
  exact_mod_cast Iff.rfl

/-- The kernel chooses the best member among the hundred best, or the best item. -/
theorem pick (L : Loads Ideal) (P : Fin 100000 → Prop) (hu : ∀ v, (0 : EReal) ≤ L.U (place v))
    (hm1 : ∀ v, P v → (L.mem (place v) : EReal) = 1) (hm0 : ∀ v, ¬ P v → (L.mem (place v) : EReal) = 0)
    (hpos : ∃ S : Finset (Fin 100000), 100 ≤ S.card ∧ ∀ v ∈ S, (0 : EReal) < L.U (place v)) :
    (L.has = 1#1 ↔ ∃ k, Hit (fun w => (L.U (place w) : EReal)) P k)
      ∧ ∃ v : Fin 100000, L.ahat = BitVec.ofNat 32 v.val ∧ Chosen (fun w => (L.U (place w) : EReal)) P v := by
  obtain ⟨a, ha, -, haF⟩ := firstBest_spec L.U
  obtain ⟨b, hb, hbv, hbF⟩ := firstBest_spec (k0_pay48 L.U L.mem)
  have hg : ∀ v, (k0_pay48 (F := Ideal) L.U L.mem (place v) : EReal) = L.U (place v) * L.mem (place v) := fun _ => rfl
  obtain ⟨h1, h2, h3⟩ := choice (u := fun w => (L.U (place w) : EReal)) (g := fun v => (k0_pay48 (F := Ideal) L.U L.mem (place v) : EReal)) (P := P) (a := a) (b := b)
    (fun v hv => by show (k0_pay48 (F := Ideal) L.U L.mem (place v) : EReal) = _; rw [hg, hm1 v hv, mul_one])
    (fun v hv => by show (k0_pay48 (F := Ideal) L.U L.mem (place v) : EReal) = _; rw [hg, hm0 v hv, mul_zero]) hu haF hbF hpos
  have hh := has_iff L (fun v => (k0_pay48 (F := Ideal) L.U L.mem (place v) : EReal)) b hbv hb
  refine ⟨hh.trans h1, ?_⟩
  by_cases h : L.has = 1#1
  · exact ⟨b, (sel_pos h _ _).trans hb, h2 (hh.1 h)⟩
  · exact ⟨a, (sel_neg h _ _).trans ha, h3 fun h' => h (hh.2 h')⟩

end

end Cert.KernelIdeal.Hand
end
-- ==== Proof.Gates.lean ====
module

public import proofs.«01_k».proof.Proof.Step
public import proofs.«01_k».proof.Proof.Pick
public import proofs.«01_k».proof.Proof.Gen.ReferenceIdeal.Run
public import Idealize.ShloMosaic.Lib.MatmulPlain
public import Idealize.ShloMosaic.Lib.IdealHost
public import Idealize.ShloMosaic.Lib.Pipeline.Value

@[expose] public section

set_option maxRecDepth 16384

/-! # The recurrent cell, in both programs -/

open Idealize.ShloMosaic Idealize.ShloMosaic.ValueIdx

namespace Cert.Cell

noncomputable section

/-- The logistic function, spelt out. -/
def lg (x : EReal) : EReal := Ideal.div 1 (1 + Ideal.exp (-x))
/-- The cell and the hidden state from the gates and the last cell. -/
def cell (g : Fin 256 → EReal) (c : Fin 64 → EReal) (k : Fin 64) : EReal :=
  lg (g ⟨64 + k.val, by omega⟩) * c k + lg (g ⟨k.val, by omega⟩) * Ideal.tanh (g ⟨128 + k.val, by omega⟩)
def hidden (g : Fin 256 → EReal) (c : Fin 64 → EReal) (k : Fin 64) : EReal :=
  lg (g ⟨192 + k.val, by omega⟩) * Ideal.tanh (cell g c k)

section Kernel
open Cert.KernelIdeal Cert.KernelIdeal.Gen Cert.KernelIdeal.Hand

theorem mm_gate (x : FVec Ideal S1x64 .f32) (w : FVec Ideal S64x256 .f32) (r : Fin 256) :
    (matmul (F := Ideal) dot_S1x64_S64x256_S1x256_1_0_0_1_n_n none x (shapeCast S64x256 w shapeCasts_S64x256_S64x256 : FVec Ideal S64x256 .f32) (constant S1x256 .f32 0x00000000#32) (ix2 0 r) : EReal)
      = ∑ j : Fin 64, (x (ix2 0 j) : EReal) * w (ix2 j r) := by
  refine (Ideal.matmul_plain_apply (M := 1) (K := 64) (N := 256) none x (shapeCast S64x256 w shapeCasts_S64x256_S64x256) (constant S1x256 .f32 0x00000000#32) 0 r).trans ?_
  rw [show (constant (F := Ideal) S1x256 .f32 0x00000000#32 (ix2 0 r) : EReal) = 0 from bits_zero, zero_add, shapeCast_self]

/-- The row that the kernel feeds in. -/
def fed (sf : EReal) (e2 e1 : FVec Ideal S1x64 .f32) (j : Fin 64) : EReal :=
  ((Scalar.select (Ideal.cmp .ogt sf 0) e2 e1 : FVec Ideal S1x64 .f32) (ix2 0 j) : EReal) * sf

theorem gates_at (sf : EReal) (e2 e1 : FVec Ideal S1x64 .f32) (wih : FVec Ideal S64x256 .f32) (h : FVec Ideal S1x64 .f32) (whh : FVec Ideal S64x256 .f32) (bg : FVec Ideal S1x256 .f32) (r : Fin 256) :
    (k0_pay12 (F := Ideal) sf e2 e1 wih h whh bg (ix2 0 r) : EReal)
      = ((∑ j : Fin 64, fed sf e2 e1 j * wih (ix2 j r)) + ∑ j : Fin 64, (h (ix2 0 j) : EReal) * whh (ix2 j r)) + bg (ix2 0 r) := by
  unfold k0_pay12
  rw [shapeCast_self (s := S1x256)]
  refine congrArg (fun z : EReal => z + bg (ix2 0 r)) ?_
  refine congrArg₂ (fun a b : EReal => a + b) ?_ (mm_gate h whh r)
  refine (mm_gate _ wih r).trans (Finset.sum_congr rfl fun j _ => ?_)
  unfold fed
  rw [← bits_zero]
  rfl

theorem cNew_at (L : Loads Ideal) (k : Fin 64) :
    (L.cNew (ix2 0 k) : EReal) = cell (fun r => (k0_pay12 (F := Ideal) L.sf L.e2 L.e1 L.wih L.h L.whh L.bg (ix2 0 r) : EReal)) (fun j => (L.c (ix2 0 j) : EReal)) k := by
  show (k0_pay19 (F := Ideal) L.gI L.gF L.gG L.c (ix2 0 k) : EReal) = _
  unfold k0_pay19 k0_pay17
  rw [shapeCast_self]
  unfold cell lg
  show (addf (mulf (k0_pay14 (F := Ideal) L.sf L.e2 L.e1 L.wih L.h L.whh L.bg) L.c) (mulf (k0_pay13 (F := Ideal) L.sf L.e2 L.e1 L.wih L.h L.whh L.bg) (k0_pay15 (F := Ideal) L.sf L.e2 L.e1 L.wih L.h L.whh L.bg)) : FVec Ideal S1x64 .f32) (ix2 0 k) = _
  unfold k0_pay13 k0_pay14 k0_pay15
  dsimp only
  generalize k0_pay12 (F := Ideal) L.sf L.e2 L.e1 L.wih L.h L.whh L.bg = g
  have e : ∀ (o : ℕ) (ho : o + 64 ≤ 256) (hs : S1x256.Slices ![0, o] S1x64), extractStridedSlice S1x64 ![0, o] g hs (ix2 0 k) = g (ix2 0 ⟨o + k.val, by omega⟩) := fun o ho hs => congrArg g (funext fun a => Fin.ext (by
    fin_cases a
    · rfl
    · rfl))
  have e0 := e 0 (by omega) slices_S1x256_o0_0_S1x64
  have e1 := e 64 (by omega) slices_S1x256_o0_64_S1x64
  have e2 := e 128 (by omega) slices_S1x256_o0_128_S1x64
  rw [show (⟨0 + k.val, by omega⟩ : Fin 256) = ⟨k.val, by omega⟩ from Fin.ext (Nat.zero_add _)] at e0
  rw [← e0, ← e1, ← e2]
  rfl

theorem hid_at (L : Loads Ideal) (k : Fin 64) :
    (L.hid (ix2 0 k) : EReal) = hidden (fun r => (k0_pay12 (F := Ideal) L.sf L.e2 L.e1 L.wih L.h L.whh L.bg (ix2 0 r) : EReal)) (fun j => (L.c (ix2 0 j) : EReal)) k := by
  unfold hidden
  rw [← cNew_at]
  show (k0_pay18 (F := Ideal) L.gI L.gF L.gG L.gO L.c (ix2 0 k) : EReal) = lg _ * Ideal.tanh (k0_pay19 (F := Ideal) L.gI L.gF L.gG L.c (ix2 0 k) : EReal)
  unfold k0_pay19 k0_pay18
  rw [shapeCast_self]
  generalize k0_pay17 (F := Ideal) L.gI L.gF L.gG L.c = C
  show Ideal.div 1 (1 + Ideal.exp (-(k0_pay16 (F := Ideal) L.sf L.e2 L.e1 L.wih L.h L.whh L.bg (ix2 0 k) : EReal))) * Ideal.tanh (C (ix2 0 k)) = _
  unfold lg k0_pay16
  generalize k0_pay12 (F := Ideal) L.sf L.e2 L.e1 L.wih L.h L.whh L.bg = g
  refine congrArg (fun z : EReal => Ideal.div 1 (1 + Ideal.exp (-z)) * Ideal.tanh (C (ix2 0 k))) ?_
  exact congrArg g (funext fun a => Fin.ext (by
    fin_cases a
    · rfl
    · rfl))

theorem hNew_eq (L : Loads Ideal) : L.hNew = L.hid := by
  show k0_pay20 (F := Ideal) L.gI L.gF L.gG L.gO L.c = _
  unfold k0_pay20
  exact shapeCast_self _ _

end Kernel

section Reference
open Cert.ReferenceIdeal Cert.ReferenceIdeal.Gen Cert.ReferenceIdeal.Value

theorem dot_gate (w : FVec Ideal S256x64 .f32) (x : FVec Ideal S64 .f32) (r : Fin 256) :
    (Host.dotGeneral (F := Ideal) dot_S256x64_S64_S256_1_0_0_n_n_n none w x (ix1 r) : EReal) = ∑ j : Fin 64, (w (ix2 r j) : EReal) * x (ix1 j) := by
  refine (Ideal.dotGeneral_apply dot_S256x64_S64_S256_1_0_0_n_n_n none _ w x (ix1 r)).trans ?_
  rw [← Equiv.sum_comp (contrEquiv1 dot_S256x64_S64_S256_1_0_0_n_n_n 64 rfl rfl).symm]
  refine Finset.sum_congr rfl fun j _ => congrArg₂ (fun a b : EReal => a * b) (congrArg w (funext fun a => Fin.ext ?_)) (congrArg x (funext fun a => Fin.ext ?_))
  · fin_cases a
    · rfl
    · rfl
  · obtain rfl : a = 0 := Fin.ext (Nat.lt_one_iff.1 a.isLt)
    rfl
theorem dot_out (w : FVec Ideal S100000x64 .f32) (x : FVec Ideal S64 .f32) (r : Fin 100000) :
    (Host.dotGeneral (F := Ideal) dot_S100000x64_S64_S100000_1_0_0_n_n_n none w x (ix1 r) : EReal) = ∑ j : Fin 64, (w (ix2 r j) : EReal) * x (ix1 j) := by
  refine (Ideal.dotGeneral_apply dot_S100000x64_S64_S100000_1_0_0_n_n_n none _ w x (ix1 r)).trans ?_
  rw [← Equiv.sum_comp (contrEquiv1 dot_S100000x64_S64_S100000_1_0_0_n_n_n 64 rfl rfl).symm]
  refine Finset.sum_congr rfl fun j _ => congrArg₂ (fun a b : EReal => a * b) (congrArg w (funext fun a => Fin.ext ?_)) (congrArg x (funext fun a => Fin.ext ?_))
  · fin_cases a
    · rfl
    · rfl
  · obtain rfl : a = 0 := Fin.ext (Nat.lt_one_iff.1 a.isLt)
    rfl

abbrev gatesR (V : Valuation τ sig (Elt Ideal)) : FVec Ideal S256 .f32 := res_main_while0b_v27 V
abbrev cellR (V : Valuation τ sig (Elt Ideal)) : FVec Ideal S64 .f32 := res_main_while0b_v53 V
abbrev hidR (V : Valuation τ sig (Elt Ideal)) : FVec Ideal S64 .f32 := res_main_while0b_v55 V
abbrev lastC (V : Valuation τ sig (Elt Ideal)) : FVec Ideal S64 .f32 := V (Proc.devRef .tc main_v7_11)

theorem logistic_at (x : FVec Ideal S64 .f32) (i : S64.Idx) :
    (Host.divf (F := Ideal) (broadcastInDim S64 ![] bcast_S_S64 (constant (F := Ideal) S_ .f32 0x3F800000#32)) (addf (broadcastInDim S64 ![] bcast_S_S64 (constant (F := Ideal) S_ .f32 0x3F800000#32)) (Host.exp (Host.negf x))) i : EReal) = lg (x i) := by
  unfold lg
  rw [← Cert.KernelIdeal.Hand.bits_one]
  rfl

theorem slice_at (g : FVec Ideal S256 .f32) (o : ℕ) (hs : S256.Slices ![o] S64) (k : Fin 64) (ho : o + k.val < 256) : extractStridedSlice S64 ![o] g hs (ix1 k) = g (ix1 ⟨o + k.val, ho⟩) :=
  congrArg g (funext fun a => Fin.ext (by fin_cases a; rfl))

theorem cellR_at (V : Valuation τ sig (Elt Ideal)) (k : Fin 64) :
    (cellR V (ix1 k) : EReal) = cell (fun r => (gatesR V (ix1 r) : EReal)) (fun j => (lastC V (ix1 j) : EReal)) k := by
  show (res_main_while0b_v53 V : FVec Ideal S64 .f32) (ix1 k) = _
  unfold res_main_while0b_v53 cell
  dsimp only
  have e0 := slice_at (gatesR V) 0 slices_S256_S64_0 k (by omega)
  rw [show (⟨0 + k.val, by omega⟩ : Fin 256) = ⟨k.val, by omega⟩ from Fin.ext (Nat.zero_add _)] at e0
  rw [← e0, ← slice_at (gatesR V) 64 slices_S256_S64_64 k (by omega), ← slice_at (gatesR V) 128 slices_S256_S64_128 k (by omega)]
  rw [← logistic_at, ← logistic_at]
  rfl
theorem hidR_at (V : Valuation τ sig (Elt Ideal)) (k : Fin 64) :
    (hidR V (ix1 k) : EReal) = hidden (fun r => (gatesR V (ix1 r) : EReal)) (fun j => (lastC V (ix1 j) : EReal)) k := by
  show (res_main_while0b_v55 V : FVec Ideal S64 .f32) (ix1 k) = _
  unfold res_main_while0b_v55 hidden
  dsimp only
  rw [← cellR_at, ← slice_at (gatesR V) 192 slices_S256_S64_192 k (by have := k.isLt; omega), ← logistic_at]
  rfl

end Reference

end

end Cert.Cell
end
-- ==== Proof.Slots.lean ====
module

public import proofs.«01_k».proof.Proof.Soft
public import proofs.«01_k».proof.Proof.Gates
public import Idealize.ShloMosaic.Lib.IdealHost
public import Idealize.ShloMosaic.Lib.ValueIdxRank1

@[expose] public section

set_option maxRecDepth 16384

/-! # The reference's reads and writes at a computed place, and its masked softmax -/

open Idealize.ShloMosaic Idealize.ShloMosaic.ValueIdx

namespace Cert.ReferenceIdeal.Hand

open Cert.ReferenceIdeal Cert.ReferenceIdeal.Gen Cert.ReferenceIdeal.Value Cert.Rank

noncomputable section

/-- One entry written at a place given as a word. -/
theorem scatter_at (m : FVec Ideal S100000 .f32) (idx : IVec S1 32) (z : FVec Ideal S_ .f32) (b : EReal) (hz : ∀ i, (z i : EReal) = b) (v : Fin 100000)
    (hi : ∀ i, idx i = BitVec.ofNat 32 v.val) (w : Fin 100000) :
    (Host.scatter scatter_S100000_S1_S__n_0_0_0 (fun _ b => b) m idx z (ix1 w) : EReal) = if w = v then b else m (ix1 w) := by
  have hr : ∀ j : S_.Idx, scatter_S100000_S1_S__n_0_0_0.resultIdx? j idx = some (ix1 v) := fun j => by
    have hs : ∀ a, scatter_S100000_S1_S__n_0_0_0.start j idx a = (v.val : Int) := fun a => by
      have ha : a = 0 := Fin.ext (Nat.lt_one_iff.1 a.isLt)
      subst ha
      unfold ScatterDims.start
      rw [dif_pos (show (0 : Fin S100000.rank) ∈ scatter_S100000_S1_S__n_0_0_0.scatterDimsToOperandDims from List.mem_singleton.2 rfl), hi]
      exact Cert.KernelIdeal.Hand.toInt_small _ v.isLt
    have hw : ∀ a, scatter_S100000_S1_S__n_0_0_0.window j a = 0 := fun a => by
      have ha : a = 0 := Fin.ext (Nat.lt_one_iff.1 a.isLt)
      subst ha
      unfold ScatterDims.window
      rw [dif_neg]
      intro h
      have : scatter_S100000_S1_S__n_0_0_0.sKept = [] := rfl
      rw [this] at h
      exact absurd h List.not_mem_nil
    have hsz : ∀ a, S100000.size a = 100000 := fun a => by
      have ha : a = 0 := Fin.ext (Nat.lt_one_iff.1 a.isLt)
      subst ha; rfl
    unfold ScatterDims.resultIdx?
    rw [dif_pos (fun a => by rw [hs, hw, hsz]; have := v.isLt; omega)]
    refine congrArg some (funext fun a => Fin.ext ?_)
    have ha : a = 0 := Fin.ext (Nat.lt_one_iff.1 a.isLt)
    show (scatter_S100000_S1_S__n_0_0_0.start j idx a + scatter_S100000_S1_S__n_0_0_0.window j a).toNat = _
    rw [hs, hw]
    subst ha
    show ((v.val : Int) + ((0 : ℕ) : Int)).toNat = v.val
    omega
  have hl : ∀ n (hn : n = 1), List.finRange n = [⟨0, by omega⟩] := by rintro _ rfl; rfl
  unfold Host.scatter
  rw [hl S_.numel rfl, List.foldl_cons, List.foldl_nil, hr]
  show (if (ix1 w : S100000.Idx) = ix1 v then (z _ : EReal) else m (ix1 w)) = _
  by_cases h : w = v
  · rw [if_pos h, if_pos (by rw [h])]; exact hz _
  · rw [if_neg h, if_neg (fun e => h (congrFun e 0))]

theorem put_at {α : Type} (x : S50.Idx → α) (y : S_.Idx → α) (b : α) (hy : ∀ i, y i = b) (st : Fin 1 → Int) (t : ℕ) (ht : t < 50) (hst : st 0 = t) (j : Fin 50) :
    Host.dynamicUpdateSlice x (broadcastInDim S1 ![] bcast_S_S1 y) st updateFits_S50_S1 (ix1 j) = if j.val = t then b else x (ix1 j) := by
  have hadj : ∀ a : Fin 1, (min (max (st a) 0) ((50 - 1 : ℕ) : ℤ)).toNat = t := fun a => by
    have ha : a = 0 := Fin.ext (Nat.lt_one_iff.1 a.isLt)
    rw [ha, hst]; omega
  unfold Host.dynamicUpdateSlice updateSlice
  by_cases h : j.val = t
  · rw [if_pos h, dif_pos]
    · exact hy _
    · intro a
      have ha : a = 0 := Fin.ext (Nat.lt_one_iff.1 a.isLt)
      subst ha
      show (min (max (st 0) 0) ((50 - 1 : ℕ) : ℤ)).toNat ≤ j.val ∧ j.val < (min (max (st 0) 0) ((50 - 1 : ℕ) : ℤ)).toNat + 1
      rw [hadj]; omega
  · rw [if_neg h, dif_neg]
    intro hc
    have h0 : (min (max (st 0) 0) ((50 - 1 : ℕ) : ℤ)).toNat ≤ j.val ∧ j.val < (min (max (st 0) 0) ((50 - 1 : ℕ) : ℤ)).toNat + 1 := hc 0
    rw [hadj] at h0; omega

theorem put_row {α : Type} (x : S50x100000.Idx → α) (p : S100000.Idx → α) (st : Fin 2 → Int) (t : ℕ) (ht : t < 50) (hst : st 0 = t) (hst1 : st 1 = 0) (j : Fin 50) (v : Fin 100000) :
    Host.dynamicUpdateSlice x (broadcastInDim S1x100000 ![1] bcast_S100000_S1x100000_1 p) st updateFits_S50x100000_S1x100000 (ix2 j v) = if j.val = t then p (ix1 v) else x (ix2 j v) := by
  have h0 : (min (max (st 0) 0) ((50 - 1 : ℕ) : ℤ)).toNat = t := by rw [hst]; omega
  have h1 : (min (max (st 1) 0) ((100000 - 100000 : ℕ) : ℤ)).toNat = 0 := by rw [hst1]; rfl
  unfold Host.dynamicUpdateSlice updateSlice
  by_cases h : j.val = t
  · rw [if_pos h, dif_pos]
    · refine broadcastInDim_apply _ _ _ _ (ix1 v) (fun a => ?_)
      have ha : a = 0 := Fin.ext (Nat.lt_one_iff.1 a.isLt)
      subst ha
      show v.val = if (100000 : ℕ) = 1 then 0 else v.val - (min (max (st 1) 0) ((100000 - 100000 : ℕ) : ℤ)).toNat
      rw [h1, if_neg (by omega)]; omega
    · intro a
      match a with
      | ⟨0, _⟩ =>
        show (min (max (st 0) 0) ((50 - 1 : ℕ) : ℤ)).toNat ≤ j.val ∧ j.val < (min (max (st 0) 0) ((50 - 1 : ℕ) : ℤ)).toNat + 1
        rw [h0]; omega
      | ⟨1, _⟩ =>
        show (min (max (st 1) 0) ((100000 - 100000 : ℕ) : ℤ)).toNat ≤ v.val ∧ v.val < (min (max (st 1) 0) ((100000 - 100000 : ℕ) : ℤ)).toNat + 100000
        rw [h1]; have := v.isLt; omega
  · rw [if_neg h, dif_neg]
    intro hc
    have hc0 : (min (max (st 0) 0) ((50 - 1 : ℕ) : ℤ)).toNat ≤ j.val ∧ j.val < (min (max (st 0) 0) ((50 - 1 : ℕ) : ℤ)).toNat + 1 := hc 0
    rw [h0] at hc0; omega

theorem read_fifty (x : IVec S50 32) (st : Fin 1 → Int) (t : ℕ) (ht : t < 50) (hst : st 0 = t) (i : S_.Idx) :
    shapeCast S_ (Host.dynamicSlice S1 x st sliceFits_S50_S1) shapeCasts_S1_S_ i = x (ix1 ⟨t, ht⟩) := by
  unfold shapeCast
  generalize Shape.reshapeEquiv shapeCasts_S1_S_ i = j
  unfold Host.dynamicSlice extractStridedSlice
  refine congrArg x (funext fun a => Fin.ext ?_)
  have ha : a = 0 := Fin.ext (Nat.lt_one_iff.1 a.isLt)
  subst ha
  have hj : (j 0).val = 0 := Nat.lt_one_iff.1 (j 0).isLt
  show (min (max (st 0) 0) ((50 - 1 : ℕ) : ℤ)).toNat + (j 0).val = t
  rw [hst]
  omega

theorem read_row (x : FVec Ideal S100000x64 .f32) (st : Fin 2 → Int) (v : Fin 100000) (hst : st 0 = v.val) (hst1 : st 1 = 0) (k : Fin 64) :
    shapeCast S64 (Host.dynamicSlice S1x64 x st sliceFits_S100000x64_S1x64) shapeCasts_S1x64_S64 (ix1 k) = x (ix2 v k) := by
  refine (shapeCast_dropUnit_apply ![64] (Host.dynamicSlice S1x64 x st sliceFits_S100000x64_S1x64) shapeCasts_S1x64_S64 (ix1 k)).trans ?_
  unfold Host.dynamicSlice extractStridedSlice
  refine congrArg x (funext fun a => Fin.ext ?_)
  match a with
  | ⟨0, _⟩ =>
    show (min (max (st 0) 0) ((100000 - 1 : ℕ) : ℤ)).toNat + 0 = v.val
    rw [hst]; have := v.isLt; omega
  | ⟨1, _⟩ =>
    show (min (max (st 1) 0) ((64 - 64 : ℕ) : ℤ)).toNat + k.val = k.val
    rw [hst1]; simp

theorem spread {α : Type} (X : S_.Idx → α) (b : α) (hX : ∀ i, X i = b) (j : S100000.Idx) :
    broadcastInDim S100000 ![0] bcast_S1_S100000_0 (broadcastInDim S1 ![] bcast_S_S1 X) j = b := hX _

theorem one_item (i : S100000.Idx) : i = ix1 (i 0) := funext fun a => by
  have ha : a = 0 := Fin.ext (Nat.lt_one_iff.1 a.isLt)
  subst ha
  rfl

theorem sum_items (x : FVec Ideal S100000 .f32) (i : S_.Idx) :
    (Host.reduceAdd (F := Ideal) x (constant (F := Ideal) S_ .f32 0x00000000#32) reducesTo_S100000_S_d0 h_S_ i : EReal) = ∑ v : Fin 100000, (x (ix1 v) : EReal) := by
  show Ideal.hostReduceAdd reducesTo_S100000_S_d0 x (constant (F := Ideal) S_ .f32 0x00000000#32 (Shape.Idx.first h_S_)) i = _
  unfold Ideal.hostReduceAdd
  rw [show (constant (F := Ideal) S_ .f32 0x00000000#32 (Shape.Idx.first h_S_) : EReal) = 0 from Cert.KernelIdeal.Hand.bits_zero, zero_add]
  refine Finset.sum_nbij' (fun j : S100000.Idx => (j 0 : Fin 100000)) (fun v => ix1 v) (fun j _ => Finset.mem_univ _) (fun v _ => ?_) (fun j _ => (one_item j).symm) (fun v _ => rfl) (fun j _ => congrArg x (one_item j))
  exact Finset.mem_filter.2 ⟨Finset.mem_univ _, funext fun b => b.elim0⟩

theorem max_items (x : FVec Ideal S100000 .f32) (l : Fin 100000 → ℝ) (hl : ∀ v, (x (ix1 v) : EReal) = ((l v : ℝ) : EReal)) :
    ∃ m : ℝ, ∀ i : S_.Idx, (maximumf (F := Ideal) (constant (F := Ideal) S_ .f32 0xFF800000#32) (Host.reduce (FloatOps.maximumf (F := Ideal) (φ := .f32)) x (constant (F := Ideal) S_ .f32 0xFF800000#32) reducesTo_S100000_S_d0 h_S_) i : EReal) = ((m : ℝ) : EReal) := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  obtain ⟨j, _, hj⟩ := (Cert.KernelIdeal.Hand.fold_max_spec x (Finset.univ.filter fun j => (reducesTo_S100000_S_d0).drop j = ix0)).2
    ⟨ix1 (⟨0, by omega⟩ : Fin 100000), Finset.mem_filter.2 ⟨Finset.mem_univ _, funext fun b => b.elim0⟩⟩
  refine ⟨l (j 0), fun i => ?_⟩
  have hi : i = ix0 := funext fun b => b.elim0
  subst hi
  have hb : ∀ i : S_.Idx, (constant (F := Ideal) S_ .f32 0xFF800000#32 i : EReal) = ⊥ := fun i => Cert.KernelIdeal.Hand.ofBits_negInf
  show max (constant (F := Ideal) S_ .f32 0xFF800000#32 ix0 : EReal) _ = _
  rw [Host.reduce_eq_fold, hb, hb, max_eq_right bot_le]
  refine (show _ = Finset.fold max ⊥ x _ from rfl).trans (hj.trans ?_)
  exact (congrArg x (one_item j)).trans (hl (j 0))

theorem exp_sub_at (x : FVec Ideal S100000 .f32) (X : FVec Ideal S_ .f32) (a b : EReal) (i : S100000.Idx) (ha : (x i : EReal) = a) (hb : ∀ j, (X j : EReal) = b) :
    (Host.exp (F := Ideal) (subf (F := Ideal) x (broadcastInDim S100000 ![0] bcast_S1_S100000_0 (broadcastInDim S1 ![] bcast_S_S1 X))) i : EReal) = Ideal.exp (a - b) := by
  rw [← ha, ← spread X b hb i]
  rfl

theorem div_mul_at (x : FVec Ideal S100000 .f32) (X : FVec Ideal S_ .f32) (y : FVec Ideal S100000 .f32) (a b c : EReal) (i : S100000.Idx) (ha : (x i : EReal) = a) (hb : ∀ j, (X j : EReal) = b) (hc : (y i : EReal) = c) :
    (mulf (F := Ideal) (Host.divf (F := Ideal) x (broadcastInDim S100000 ![0] bcast_S1_S100000_0 (broadcastInDim S1 ![] bcast_S_S1 X))) y i : EReal) = Ideal.div a b * c := by
  rw [← ha, ← hc, ← spread X b hb i]
  rfl

abbrev scores (V : Valuation τ sig (Elt Ideal)) : FVec Ideal S100000 .f32 := res_main_while0b_v57 V
abbrev maskR (V : Valuation τ sig (Elt Ideal)) : FVec Ideal S100000 .f32 := V (Proc.devRef .tc main_v7_12)
abbrev probR (V : Valuation τ sig (Elt Ideal)) : FVec Ideal S100000 .f32 := res_main_while0b_v68 V

/-- The masked probabilities, when the scores are real. -/
theorem probs_at (V : Valuation τ sig (Elt Ideal)) (l μ : Fin 100000 → ℝ) (hl : ∀ v, (scores V (ix1 v) : EReal) = ((l v : ℝ) : EReal)) (hμ : ∀ v, (maskR V (ix1 v) : EReal) = ((μ v : ℝ) : EReal)) (v : Fin 100000) :
    (probR V (ix1 v) : EReal) = (((Real.exp (l v) * μ v) * (∑ w, Real.exp (l w))⁻¹ : ℝ) : EReal) := by
  obtain ⟨m, hm⟩ := max_items (scores V) l hl
  have h63 : ∀ v, ((res_main_while0b_v63 V : FVec Ideal S100000 .f32) (ix1 v) : EReal) = Ideal.exp (((l v : ℝ) : EReal) - ((m : ℝ) : EReal)) := fun v => by
    unfold res_main_while0b_v63
    exact exp_sub_at _ _ _ _ (ix1 v) (hl v) hm
  have hsum : ∀ i : S_.Idx, (Host.reduceAdd (F := Ideal) (res_main_while0b_v63 V : FVec Ideal S100000 .f32) (constant (F := Ideal) S_ .f32 0x00000000#32) reducesTo_S100000_S_d0 h_S_ i : EReal) = ∑ w, Ideal.exp (((l w : ℝ) : EReal) - ((m : ℝ) : EReal)) := fun i =>
    (sum_items _ i).trans (Finset.sum_congr rfl fun w _ => h63 w)
  refine Eq.trans ?_ (ref_soft l μ m v)
  unfold probR res_main_while0b_v68
  exact div_mul_at _ _ _ _ _ _ (ix1 v) (h63 v) hsum (hμ v)

end

end Cert.ReferenceIdeal.Hand
end
-- ==== Proof.Members.lean ====
module

public import proofs.«01_k».proof.Proof.Pick
public import Idealize.ShloMosaic.Lib.Pipeline.Value

@[expose] public section

set_option maxRecDepth 16384

/-! # The table of members -/

open Idealize.ShloMosaic Idealize.ShloMosaic.ValueIdx

namespace Cert.KernelIdeal.Hand

open Cert.KernelIdeal Cert.KernelIdeal.Gen

noncomputable section

theorem cmpi_eq_one (a b : BitVec 32) : IntOp.cmpi .eq a b = 1#1 ↔ a = b := by
  have : IntOp.cmpi .eq a b = BitVec.ofBool (decide (a = b)) := rfl
  rw [this]; by_cases h : a = b <;> simp [h]

/-- The table after `k` trips: one where one of the first `k` entries of the list names the item. -/
theorem memSt_spec (x : Vec Ideal S50 .i32) (i : S8x12500.Idx) : ∀ k ≤ 50,
    ((∃ j : Fin 50, j.val < k ∧ k0_pay10 i = x (ix1 j) - 1#32) → (memSt (F := Ideal) k0_pay10 x k0_pay8 k i : EReal) = 1)
      ∧ ((¬ ∃ j : Fin 50, j.val < k ∧ k0_pay10 i = x (ix1 j) - 1#32) → (memSt (F := Ideal) k0_pay10 x k0_pay8 k i : EReal) = 0)
  | 0, _ => ⟨fun ⟨j, hj, _⟩ => absurd hj (Nat.not_lt_zero _), fun _ => bits_zero⟩
  | k + 1, hk => by
    obtain ⟨h1, h0⟩ := memSt_spec x i k (by omega)
    have e : (memSt (F := Ideal) k0_pay10 x k0_pay8 (k + 1) i : EReal)
        = Scalar.select (IntOp.cmpi .eq (k0_pay10 i) (x (ix1 ⟨k, by omega⟩) - 1#32)) (FloatOps.ofBits (F := Ideal) .f32 0x3F800000#32) (memSt (F := Ideal) k0_pay10 x k0_pay8 k i) := by
      have : memSt (F := Ideal) k0_pay10 x k0_pay8 (k + 1) = k0_pay9 k0_pay10 (memSt (F := Ideal) k0_pay10 x k0_pay8 k) (x (ix1 ⟨k, by omega⟩)) := by
        show k0_pay9 _ _ _ = _
        rw [dif_pos (show k < 50 by omega)]
      rw [this]; rfl
    rw [e, bits_one]
    by_cases hn : k0_pay10 i = x (ix1 ⟨k, by omega⟩) - 1#32
    · refine ⟨fun _ => sel_pos ((cmpi_eq_one _ _).2 hn) _ _, fun h => absurd ⟨⟨k, by omega⟩, Nat.lt_succ_self k, hn⟩ h⟩
    · have hs := sel_neg (fun h => hn ((cmpi_eq_one _ _).1 h)) (1 : EReal) (memSt (F := Ideal) k0_pay10 x k0_pay8 k i : EReal)
      refine ⟨fun ⟨j, hj, he⟩ => hs.trans (h1 ⟨j, ?_, he⟩), fun h => hs.trans (h0 fun ⟨j, hj, he⟩ => h ⟨j, by omega, he⟩)⟩
      rcases Nat.lt_succ_iff_lt_or_eq.1 hj with hl | he'
      · exact hl
      · exact absurd (by rw [he]; congr 2; exact congrArg ix1 (Fin.ext he')) hn

/-- The item is on the list. -/
def Member (x : Vec Ideal S50 .i32) (v : Fin 100000) : Prop := ∃ j : Fin 50, BitVec.ofNat 32 v.val + 1#32 = x (ix1 j)

theorem mem_table (I : Inp Ideal) (v : Fin 100000) :
    (Member I.x v → (I.mem (place v) : EReal) = 1) ∧ (¬ Member I.x v → (I.mem (place v) : EReal) = 0) := by
  have e : I.mem = memSt (F := Ideal) k0_pay10 I.x k0_pay8 50 := by
    unfold Inp.mem k0_pay11
    exact shapeCast_self _ _
  obtain ⟨h1, h0⟩ := memSt_spec I.x (place v) 50 (le_refl _)
  have hiff : Member I.x v ↔ ∃ j : Fin 50, j.val < 50 ∧ k0_pay10 (place v) = I.x (ix1 j) - 1#32 := by
    rw [gi_place]
    refine exists_congr fun j => ⟨fun h => ⟨j.isLt, by rw [← h]; exact (BitVec.add_sub_cancel _ _).symm⟩, fun h => by rw [h.2]; exact BitVec.sub_add_cancel _ _⟩
  rw [e]
  exact ⟨fun h => h1 (hiff.1 h), fun h => h0 fun h' => h (hiff.2 h')⟩

end

end Cert.KernelIdeal.Hand
end
-- ==== Proof.RefPick.lean ====
module

public import proofs.«01_k».proof.Proof.Choice
public import proofs.«01_k».proof.Proof.Members
public import proofs.«01_k».proof.Proof.Gen.ReferenceIdeal.Run
public import Idealize.ShloMosaic.Lib.IdealHost
public import Idealize.ShloMosaic.Lib.Pipeline.Value

@[expose] public section

set_option maxRecDepth 16384

/-! # The reference's choice

The reference sorts the masked probabilities, takes the first hundred, and asks which of them is on the list: the
first that is, or the very first where none is. -/

open Idealize.ShloMosaic Idealize.ShloMosaic.ValueIdx

namespace Cert.ReferenceIdeal.Hand

open Cert.ReferenceIdeal Cert.ReferenceIdeal.Gen Cert.ReferenceIdeal.Value Cert.Rank

noncomputable section

theorem sf_of (u : Fin 100000 → EReal) (gt : Fin 100000 → Fin 100000 → Bool) (hgt : ∀ v w, gt v w = true ↔ u w < u v) (p q : Fin 100000) (h : p.val = q.val) :
    sortedFrom gt p = sortedFrom (bfb u) q := by
  rw [sortedFrom_eq u gt hgt, Fin.ext h]

/-- The items of the first hundred places. -/
theorem top_at (x : FVec Ideal S100000 .f32) (u : Fin 100000 → EReal)
    (hgt : ∀ v w : Fin 100000, ((x (ix1 w) : EReal) < x (ix1 v)) ↔ u w < u v) (k : Fin 100) :
    (Host.topK S100 0 (FloatOps.cmpfTotal (F := Ideal) .gt) x sliceFits_S100000_S100).2 (ix1 k)
      = BitVec.ofNat 32 (sortedFrom (bfb u) ⟨k.val, by omega⟩).val := by
  have hd : 0 < S100000.rank := Nat.one_pos
  have ha : ∀ (j : S100000.Idx) (k : Fin (S100000.size ⟨0, hd⟩)), j.along (⟨0, hd⟩ : Fin S100000.rank) k = ix1 (n := 100000) k := fun j k => funext fun a => by
    have h0 : a = ⟨0, hd⟩ := Fin.ext (Nat.lt_one_iff.1 a.isLt)
    subst h0
    exact Function.update_self _ _ _
  unfold Host.topK Host.sort2
  simp only [dif_pos hd, ha]
  show BitVec.ofNat 32 (Fin.val (n := 100000) _) = _
  refine congrArg (fun i : Fin 100000 => BitVec.ofNat 32 i.val) ?_
  refine sf_of u _ (fun v w => ?_) _ _ ?_
  · rw [beq_iff_eq]
    exact (Cert.KernelIdeal.Hand.cmp_ogt _ _).trans (hgt v w)
  · show 0 + k.val = k.val
    omega

theorem ori_one : ∀ a b : BitVec 1, IntOp.ori a b = 1#1 ↔ a = 1#1 ∨ b = 1#1 := by decide

theorem fold_ori_spec {ι : Type} [DecidableEq ι] (s : Finset ι) (f : ι → BitVec 1) : s.fold IntOp.ori 0#1 f = 1#1 ↔ ∃ i ∈ s, f i = 1#1 := by
  induction s using Finset.induction_on with
  | empty => exact ⟨fun h => absurd h (by rw [Finset.fold_empty]; decide), fun ⟨i, hi, _⟩ => absurd hi (Finset.notMem_empty i)⟩
  | insert a s has ih =>
    rw [Finset.fold_insert has, ori_one, ih]
    constructor
    · rintro (h | ⟨i, hi, h⟩)
      · exact ⟨a, Finset.mem_insert_self a s, h⟩
      · exact ⟨i, Finset.mem_insert_of_mem hi, h⟩
    · rintro ⟨i, hi, h⟩
      rcases Finset.mem_insert.1 hi with h' | h'
      · exact Or.inl (h' ▸ h)
      · exact Or.inr ⟨i, h', h⟩

theorem any_at (M : IVec S100x50 1) (k : Fin 100) :
    Host.reduce IntOp.ori M (constantI S_ 1 0#1) reducesTo_S100x50_S100_d1 h_S_ (ix1 k) = 1#1 ↔ ∃ j : Fin 50, M (ix2 k j) = 1#1 := by
  rw [Host.reduce_eq_fold]
  refine (fold_ori_spec _ M).trans ⟨fun ⟨i, hi, h⟩ => ?_, fun ⟨j, h⟩ => ?_⟩
  · have h1 := congrArg (fun z : S100.Idx => (z 0).val) (Finset.mem_filter.1 hi).2
    have h0 : (i 0).val = k.val := h1
    refine ⟨i 1, ?_⟩
    rw [show (ix2 k (i 1) : S100x50.Idx) = i from funext fun a => by
      fin_cases a
      · exact Fin.ext h0.symm
      · rfl]
    exact h
  · refine ⟨ix2 k j, Finset.mem_filter.2 ⟨Finset.mem_univ _, funext fun b => Fin.ext ?_⟩, h⟩
    have hb : b = 0 := Fin.ext (Nat.lt_one_iff.1 b.isLt)
    subst hb
    rfl

theorem one_idx (i : S100.Idx) : i = ix1 (i 0) := funext fun a => by
  have ha : a = 0 := Fin.ext (Nat.lt_one_iff.1 a.isLt)
  subst ha
  rfl

theorem any_all (M : IVec S100 1) (i : S_.Idx) :
    Host.reduce IntOp.ori M (constantI S_ 1 0#1) reducesTo_S100_S_d0 h_S_ i = 1#1 ↔ ∃ k : Fin 100, M (ix1 k) = 1#1 := by
  rw [Host.reduce_eq_fold]
  refine (fold_ori_spec _ M).trans ⟨fun ⟨i, _, h⟩ => ⟨i 0, (congrArg M (one_idx i)).symm.trans h⟩, fun ⟨k, h⟩ => ?_⟩
  exact ⟨ix1 k, Finset.mem_filter.2 ⟨Finset.mem_univ _, funext fun b => b.elim0⟩, h⟩

theorem min_all (G : IVec S100 32) (i : S_.Idx) :
    (∀ k : Fin 100, (Host.reduce IntOp.minsi G (constantI S_ 32 2147483647#32) reducesTo_S100_S_d0 h_S_ i).toInt ≤ (G (ix1 k)).toInt)
      ∧ (Host.reduce IntOp.minsi G (constantI S_ 32 2147483647#32) reducesTo_S100_S_d0 h_S_ i = 2147483647#32
        ∨ ∃ k : Fin 100, Host.reduce IntOp.minsi G (constantI S_ 32 2147483647#32) reducesTo_S100_S_d0 h_S_ i = G (ix1 k)) := by
  rw [Host.reduce_eq_fold]
  obtain ⟨h1, h2⟩ := Cert.KernelIdeal.Hand.fold_minsi_spec G (Finset.univ.filter fun j => (reducesTo_S100_S_d0).drop j = i) (constantI S_ 32 2147483647#32 (Shape.Idx.first h_S_))
  refine ⟨fun k => h1 (ix1 k) (Finset.mem_filter.2 ⟨Finset.mem_univ _, funext fun b => b.elim0⟩), ?_⟩
  rcases h2 with h | ⟨j, _, h⟩
  · exact Or.inl h
  · exact Or.inr ⟨j 0, h.trans (congrArg G (one_idx j))⟩

/-- Item by item: which of the hundred are on the list. -/
theorem member_at (ind : IVec S100 32) (xs : IVec S50 32) (k : Fin 100) :
    Host.reduce IntOp.ori (cmpi .eq (broadcastInDim S100x50 ![0, 1] bcast_S100x1_S100x50_0_1 (addi (broadcastInDim S100x1 ![0] bcast_S100_S100x1_0 ind) (broadcastInDim S100x1 ![] bcast_S_S100x1 (constantI S_ 32 1#32)))) (broadcastInDim S100x50 ![0, 1] bcast_S1x50_S100x50_0_1 (broadcastInDim S1x50 ![1] bcast_S50_S1x50_1 xs))) (constantI S_ 1 0#1) reducesTo_S100x50_S100_d1 h_S_ (ix1 k) = 1#1
      ↔ ∃ j : Fin 50, ind (ix1 k) + 1#32 = xs (ix1 j) := by
  refine (any_at _ k).trans (exists_congr fun j => ?_)
  have e1 : broadcastInDim S100x50 ![0, 1] bcast_S100x1_S100x50_0_1 (addi (broadcastInDim S100x1 ![0] bcast_S100_S100x1_0 ind) (broadcastInDim S100x1 ![] bcast_S_S100x1 (constantI S_ 32 1#32))) (ix2 k j) = ind (ix1 k) + 1#32 := by
    refine (broadcastInDim_apply _ _ _ _ (ix2 (n0 := 100) (n1 := 1) k 0) (fun a => by fin_cases a <;> rfl)).trans ?_
    show broadcastInDim S100x1 ![0] bcast_S100_S100x1_0 ind (ix2 k 0) + 1#32 = _
    refine congrArg (fun z : BitVec 32 => z + 1#32) ?_
    exact broadcastInDim_apply _ _ _ _ (ix1 k) (fun a => by fin_cases a; rfl)
  have e2 : broadcastInDim S100x50 ![0, 1] bcast_S1x50_S100x50_0_1 (broadcastInDim S1x50 ![1] bcast_S50_S1x50_1 xs) (ix2 k j) = xs (ix1 j) := by
    refine (broadcastInDim_apply _ _ _ _ (ix2 (n0 := 1) (n1 := 50) 0 j) (fun a => by fin_cases a <;> rfl)).trans ?_
    exact broadcastInDim_apply _ _ _ _ (ix1 j) (fun a => by fin_cases a; rfl)
  rw [← e1, ← e2]
  exact Cert.KernelIdeal.Hand.cmpi_eq_one _ _

/-- The first place that is marked. -/
theorem first_hit (M : IVec S100 1) (any : IVec S_ 1) (hany : ∀ i, any i = 1#1 ↔ ∃ k : Fin 100, M (ix1 k) = 1#1) (i : S_.Idx) :
    (∃ k : Fin 100, select any (Host.reduce IntOp.minsi (select M (iotaInDim S100 32 0) (broadcastInDim S100 ![] bcast_S_S100 (id (constantI S_ 32 100#32)))) (constantI S_ 32 2147483647#32) reducesTo_S100_S_d0 h_S_) (id (constantI S_ 32 0#32)) i = BitVec.ofNat 32 k.val
        ∧ M (ix1 k) = 1#1 ∧ ∀ k' : Fin 100, M (ix1 k') = 1#1 → k ≤ k')
      ∨ ((∀ k : Fin 100, ¬ M (ix1 k) = 1#1) ∧ select any (Host.reduce IntOp.minsi (select M (iotaInDim S100 32 0) (broadcastInDim S100 ![] bcast_S_S100 (id (constantI S_ 32 100#32)))) (constantI S_ 32 2147483647#32) reducesTo_S100_S_d0 h_S_) (id (constantI S_ 32 0#32)) i = BitVec.ofNat 32 0) := by
  have hg : ∀ k : Fin 100, (select M (iotaInDim S100 32 0) (broadcastInDim S100 ![] bcast_S_S100 (id (constantI S_ 32 100#32))) : IVec S100 32) (ix1 k) = Scalar.select (M (ix1 k)) (BitVec.ofNat 32 k.val) 100#32 := fun k => rfl
  have hsmall : ∀ n < 200, (BitVec.ofNat 32 n).toInt = (n : Int) := fun n hn => Cert.KernelIdeal.Hand.toInt_small n (by omega)
  obtain ⟨h1, h2⟩ := min_all (select M (iotaInDim S100 32 0) (broadcastInDim S100 ![] bcast_S_S100 (id (constantI S_ 32 100#32)))) i
  generalize hm : Host.reduce IntOp.minsi (select M (iotaInDim S100 32 0) (broadcastInDim S100 ![] bcast_S_S100 (id (constantI S_ 32 100#32)))) (constantI S_ 32 2147483647#32) reducesTo_S100_S_d0 h_S_ = R at h1 h2 ⊢
  by_cases he : ∃ k : Fin 100, M (ix1 k) = 1#1
  · left
    have hs : select any R (id (constantI S_ 32 0#32)) i = R i := Cert.KernelIdeal.Hand.sel_pos ((hany i).2 he) _ _
    obtain ⟨k0, hk0⟩ := he
    have hle : (R i).toInt ≤ (k0.val : Int) := by
      have := h1 k0
      rw [hg, Cert.KernelIdeal.Hand.sel_pos hk0, hsmall _ (by omega)] at this
      exact this
    rcases h2 with h | ⟨k, h⟩
    · exfalso
      rw [h] at hle
      have h9 : (2147483647#32 : BitVec 32).toInt = 2147483647 := by decide
      rw [h9] at hle
      have := k0.isLt
      omega
    · rw [hg] at h
      by_cases hk : M (ix1 k) = 1#1
      · rw [Cert.KernelIdeal.Hand.sel_pos hk] at h
        refine ⟨k, hs.trans h, hk, fun k' hk' => ?_⟩
        have := h1 k'
        rw [hg, Cert.KernelIdeal.Hand.sel_pos hk', h, hsmall _ (by omega), hsmall _ (by omega)] at this
        exact Fin.le_def.2 (by omega)
      · exfalso
        rw [Cert.KernelIdeal.Hand.sel_neg hk] at h
        rw [h, show (100#32 : BitVec 32) = BitVec.ofNat 32 100 from rfl, hsmall 100 (by omega)] at hle
        have := k0.isLt
        omega
  · right
    refine ⟨fun k hk => he ⟨k, hk⟩, ?_⟩
    exact Cert.KernelIdeal.Hand.sel_neg (fun h => he ((hany i).1 h)) _ _

/-- A read at a place in range. -/
theorem read_hundred (ind : IVec S100 32) (st : Fin 1 → Int) (k : Fin 100) (hk : st 0 = k.val) (i : S_.Idx) :
    shapeCast S_ (Host.dynamicSlice S1 ind st sliceFits_S100_S1) shapeCasts_S1_S_ i = ind (ix1 k) := by
  unfold shapeCast
  generalize Shape.reshapeEquiv shapeCasts_S1_S_ i = j
  unfold Host.dynamicSlice extractStridedSlice
  refine congrArg ind (funext fun a => Fin.ext ?_)
  have ha : a = 0 := Fin.ext (Nat.lt_one_iff.1 a.isLt)
  subst ha
  have hj : (j 0).val = 0 := Nat.lt_one_iff.1 (j 0).isLt
  show (min (max (st 0) 0) ((100 - 1 : ℕ) : ℤ)).toNat + (j 0).val = k.val
  rw [hk]
  have := k.isLt
  omega

/-- A small word is not negative, so it is read as it stands. -/
theorem wrap_small (n : ℕ) (hn : n < 100000) (m : BitVec 32) : Scalar.select (IntOp.cmpi .slt (BitVec.ofNat 32 n) 0#32) (BitVec.ofNat 32 n + m) (BitVec.ofNat 32 n) = BitVec.ofNat 32 n := by
  refine Cert.KernelIdeal.Hand.sel_neg ?_ _ _
  have : IntOp.cmpi .slt (BitVec.ofNat 32 n) 0#32 = BitVec.ofBool (decide ((BitVec.ofNat 32 n).toInt < (0#32 : BitVec 32).toInt)) := rfl
  rw [this, Cert.KernelIdeal.Hand.toInt_small n hn, decide_eq_false (by rw [show (0#32 : BitVec 32).toInt = 0 from by decide]; omega)]
  decide

theorem pick_read (ind : IVec S100 32) (q : IVec S_ 32) (k : Fin 100) (hq : q (Shape.Idx.first h_S_) = BitVec.ofNat 32 k.val) (i : S_.Idx) :
    shapeCast S_ (Host.dynamicSlice S1 ind (fun k => (((![select (cmpi .slt q (constantI S_ 32 0#32)) (addi q (constantI S_ 32 100#32)) q] : Fin 1 → (⟨S_, .i32⟩ : BufTy).Contents (Elt Ideal))) k (Shape.Idx.first h_S_)).toInt) sliceFits_S100_S1) shapeCasts_S1_S_ i = ind (ix1 k) := by
  refine read_hundred ind _ k ?_ i
  show (Scalar.select (IntOp.cmpi .slt (q (Shape.Idx.first h_S_)) 0#32) (q (Shape.Idx.first h_S_) + 100#32) (q (Shape.Idx.first h_S_)) : BitVec 32).toInt = _
  rw [hq, wrap_small k.val (by omega), Cert.KernelIdeal.Hand.toInt_small k.val (by omega)]

/-- The masked probabilities. -/
abbrev probs (V : Valuation τ sig (Elt Ideal)) : FVec Ideal S100000 .f32 := res_main_while0b_v68 V

/-- The reference's choice. -/
theorem ref_pick (V : Valuation τ sig (Elt Ideal)) (xs : IVec S50 32) (hx : (V (Proc.devRef .tc main_v7_8) : IVec S50 32) = xs) (u : Fin 100000 → EReal)
    (hgt : ∀ v w : Fin 100000, ((probs V (ix1 w) : EReal) < probs V (ix1 v)) ↔ u w < u v) :
    (∀ i : S_.Idx, (res_main_while0b_v77 V : IVec S_ 1) i = 1#1 ↔ ∃ k, Hit u (Cert.KernelIdeal.Hand.Member xs) k)
      ∧ ∃ v : Fin 100000, (∀ i : S_.Idx, (res_main_while0b_v88 V : IVec S_ 32) i = BitVec.ofNat 32 v.val) ∧ Chosen u (Cert.KernelIdeal.Hand.Member xs) v := by
  have hind : ∀ k : Fin 100, (res_main_while0b_indices V : IVec S100 32) (ix1 k) = BitVec.ofNat 32 (sortedFrom (bfb u) ⟨k.val, by omega⟩).val := fun k => top_at _ u hgt k
  have h76 : ∀ k : Fin 100, (res_main_while0b_v76 V : IVec S100 1) (ix1 k) = 1#1 ↔ Cert.KernelIdeal.Hand.Member xs (sortedFrom (bfb u) ⟨k.val, by omega⟩) := fun k => by
    have := member_at (res_main_while0b_indices V) xs k
    rw [hind k] at this
    refine Iff.trans ?_ this
    rw [← hx]
    exact Iff.rfl
  have h77 : ∀ i : S_.Idx, (res_main_while0b_v77 V : IVec S_ 1) i = 1#1 ↔ ∃ k : Fin 100, (res_main_while0b_v76 V : IVec S100 1) (ix1 k) = 1#1 := fun i => any_all (res_main_while0b_v76 V) i
  have h83 : ∀ i : S_.Idx, _ := fun i => first_hit (res_main_while0b_v76 V) (res_main_while0b_v77 V) h77 i
  have h88 : ∀ k : Fin 100, (res_main_while0b_v83 V : IVec S_ 32) (Shape.Idx.first h_S_) = BitVec.ofNat 32 k.val → ∀ i : S_.Idx, (res_main_while0b_v88 V : IVec S_ 32) i = BitVec.ofNat 32 (sortedFrom (bfb u) ⟨k.val, by omega⟩).val := fun k hk i => by
    unfold res_main_while0b_v88
    exact (pick_read (res_main_while0b_indices V) (res_main_while0b_v83 V) k hk i).trans (hind k)
  refine ⟨fun i => (h77 i).trans ⟨fun ⟨k, hk⟩ => ⟨⟨k.val, by omega⟩, k.isLt, (h76 k).1 hk⟩, fun ⟨k, hk, hm⟩ => ⟨⟨k.val, hk⟩, (h76 ⟨k.val, hk⟩).2 hm⟩⟩, ?_⟩
  rcases h83 (Shape.Idx.first h_S_) with ⟨k, he, hk, hmin⟩ | ⟨hno, he⟩
  · refine ⟨_, h88 k he, Or.inl ⟨⟨k.val, by omega⟩, ⟨k.isLt, (h76 k).1 hk⟩, fun k' hk' => ?_, rfl⟩⟩
    exact Fin.le_def.2 (Fin.le_def.1 (hmin ⟨k'.val, hk'.1⟩ ((h76 ⟨k'.val, hk'.1⟩).2 hk'.2)))
  · refine ⟨_, h88 ⟨0, by omega⟩ he, Or.inr ⟨fun k hk => hno ⟨k.val, hk.1⟩ ((h76 ⟨k.val, hk.1⟩).2 hk.2), rfl⟩⟩

end

end Cert.ReferenceIdeal.Hand
end
-- ==== Proof.Fed.lean ====
module

public import proofs.«01_k».proof.Proof.Slots
public import proofs.«01_k».proof.Proof.RefPick

@[expose] public section

set_option maxRecDepth 16384

/-! # The reference's gates, from the row that it reads -/

open Idealize.ShloMosaic Idealize.ShloMosaic.ValueIdx

namespace Cert.ReferenceIdeal.Hand

open Cert.ReferenceIdeal Cert.ReferenceIdeal.Gen Cert.ReferenceIdeal.Value Cert.Rank Cert.Cell

noncomputable section

abbrev ioR (V : Valuation τ sig (Elt Ideal)) : IVec S50 32 := V (Proc.devRef .tc main_v7_0)
abbrev emR (V : Valuation τ sig (Elt Ideal)) : FVec Ideal S100000x64 .f32 := V (Proc.devRef .tc main_v7_1)
abbrev wihR (V : Valuation τ sig (Elt Ideal)) : FVec Ideal S256x64 .f32 := V (Proc.devRef .tc main_v7_2)
abbrev bihR (V : Valuation τ sig (Elt Ideal)) : FVec Ideal S256 .f32 := V (Proc.devRef .tc main_v7_3)
abbrev whhR (V : Valuation τ sig (Elt Ideal)) : FVec Ideal S256x64 .f32 := V (Proc.devRef .tc main_v7_4)
abbrev bhhR (V : Valuation τ sig (Elt Ideal)) : FVec Ideal S256 .f32 := V (Proc.devRef .tc main_v7_5)
abbrev woutR (V : Valuation τ sig (Elt Ideal)) : FVec Ideal S100000x64 .f32 := V (Proc.devRef .tc main_v7_6)
abbrev boutR (V : Valuation τ sig (Elt Ideal)) : FVec Ideal S100000 .f32 := V (Proc.devRef .tc main_v7_7)
abbrev xR (V : Valuation τ sig (Elt Ideal)) : IVec S50 32 := V (Proc.devRef .tc main_v7_8)
abbrev ctrR (V : Valuation τ sig (Elt Ideal)) : IVec S_ 32 := V (Proc.devRef .tc main_v7_9)
abbrev hR (V : Valuation τ sig (Elt Ideal)) : FVec Ideal S64 .f32 := V (Proc.devRef .tc main_v7_10)
abbrev aR (V : Valuation τ sig (Elt Ideal)) : IVec S_ 32 := V (Proc.devRef .tc main_v7_13)
abbrev fR (V : Valuation τ sig (Elt Ideal)) : FVec Ideal S_ .f32 := V (Proc.devRef .tc main_v7_14)
abbrev outA (V : Valuation τ sig (Elt Ideal)) : IVec S50 32 := V (Proc.devRef .tc main_v7_15)
abbrev outF (V : Valuation τ sig (Elt Ideal)) : IVec S50 32 := V (Proc.devRef .tc main_v7_16)
abbrev outP (V : Valuation τ sig (Elt Ideal)) : FVec Ideal S50x100000 .f32 := V (Proc.devRef .tc main_v7_17)

/-- Row `f` is what the reference feeds in at step `t`. -/
def FeedsIn (E : FVec Ideal S100000x64 .f32) (a : IVec S_ 32) (fb : FVec Ideal S_ .f32) (t : ℕ) (f : Fin 64 → EReal) : Prop :=
  (t = 0 ∧ ∀ j, f j = 0) ∨ (0 < t ∧ ∃ v : Fin 100000, (∀ i, a i = BitVec.ofNat 32 v.val) ∧ ∃ b : EReal, (∀ i, (fb i : EReal) = b) ∧ ∀ j, f j = (E (ix2 v j) : EReal) * b)

theorem pos_iff (t : ℕ) (ht : t < 50) : IntOp.cmpi .sgt (BitVec.ofNat 32 t) 0#32 = 1#1 ↔ 0 < t := by
  interval_cases t <;> decide

theorem choose_row (io : IVec S50 32) (cn : IVec S_ 32) (row : FVec Ideal S64 .f32) (fb : FVec Ideal S_ .f32) (t : ℕ) (ht : t < 50)
    (hc : ∀ i, cn i = BitVec.ofNat 32 t) (hio : ∀ j : Fin 50, io (ix1 j) = BitVec.ofNat 32 j.val) (j : Fin 64) :
    (select (broadcastInDim S64 ![] bcast_S_S64 (cmpi .sgt (shapeCast S_ (Host.dynamicSlice S1 io (fun k => (((![cn] : Fin 1 → (⟨S_, .i32⟩ : BufTy).Contents (Elt Ideal))) k (Shape.Idx.first h_S_)).toInt) sliceFits_S50_S1) shapeCasts_S1_S_) (constantI S_ 32 0#32))) (mulf (F := Ideal) row (broadcastInDim S64 ![] bcast_S_S64 fb)) (broadcastInDim S64 ![] bcast_S_S64 (constant (F := Ideal) S_ .f32 0x00000000#32)) (ix1 j) : EReal)
      = if 0 < t then (row (ix1 j) : EReal) * fb ix0 else 0 := by
  have hr : ∀ i, shapeCast S_ (Host.dynamicSlice S1 io (fun k => (((![cn] : Fin 1 → (⟨S_, .i32⟩ : BufTy).Contents (Elt Ideal))) k (Shape.Idx.first h_S_)).toInt) sliceFits_S50_S1) shapeCasts_S1_S_ i = BitVec.ofNat 32 t := fun i => by
    refine (read_fifty io _ t ht ?_ i).trans (hio _)
    show (cn (Shape.Idx.first h_S_)).toInt = _
    rw [hc, Cert.KernelIdeal.Hand.toInt_small t (by omega)]
  have hb : ∀ (X : FVec Ideal S_ .f32), broadcastInDim S64 ![] bcast_S_S64 X (ix1 j) = X ix0 := fun X => congrArg X (funext fun a => a.elim0)
  show (Scalar.select (IntOp.cmpi .sgt (shapeCast S_ (Host.dynamicSlice S1 io (fun k => (((![cn] : Fin 1 → (⟨S_, .i32⟩ : BufTy).Contents (Elt Ideal))) k (Shape.Idx.first h_S_)).toInt) sliceFits_S50_S1) shapeCasts_S1_S_ _) 0#32) ((row (ix1 j) : EReal) * (broadcastInDim S64 ![] bcast_S_S64 fb (ix1 j))) (broadcastInDim S64 ![] bcast_S_S64 (constant (F := Ideal) S_ .f32 0x00000000#32) (ix1 j)) : EReal) = _
  rw [hr, hb, hb]
  unfold Scalar.select; change (if _ = 1#1 then _ else _) = _
  by_cases h : 0 < t
  · rw [if_pos ((pos_iff t ht).2 h), if_pos h]
  · rw [if_neg (fun e => h ((pos_iff t ht).1 e)), if_neg h]
    exact Cert.KernelIdeal.Hand.bits_zero

theorem row_of (E : FVec Ideal S100000x64 .f32) (a : IVec S_ 32) (v : Fin 100000) (ha : ∀ i, a i = BitVec.ofNat 32 v.val) (j : Fin 64) :
    shapeCast S64 (Host.dynamicSlice S1x64 E (fun k => (((![select (cmpi .slt a (constantI S_ 32 0#32)) (addi a (constantI S_ 32 100000#32)) a, select (cmpi .slt (constantI S_ 32 0#32) (constantI S_ 32 0#32)) (addi (constantI S_ 32 0#32) (constantI S_ 32 64#32)) (constantI S_ 32 0#32)] : Fin 2 → (⟨S_, .i32⟩ : BufTy).Contents (Elt Ideal))) k (Shape.Idx.first h_S_)).toInt) sliceFits_S100000x64_S1x64) shapeCasts_S1x64_S64 (ix1 j) = E (ix2 v j) := by
  refine read_row E _ v ?_ ?_ j
  · show (Scalar.select (IntOp.cmpi .slt (a (Shape.Idx.first h_S_)) 0#32) (a (Shape.Idx.first h_S_) + 100000#32) (a (Shape.Idx.first h_S_)) : BitVec 32).toInt = _
    rw [ha, wrap_small v.val (by omega), Cert.KernelIdeal.Hand.toInt_small v.val v.isLt]
  · rfl

theorem gates_form (w : FVec Ideal S256x64 .f32) (x : FVec Ideal S64 .f32) (b : FVec Ideal S256 .f32) (w' : FVec Ideal S256x64 .f32) (h : FVec Ideal S64 .f32) (b' : FVec Ideal S256 .f32) (f : Fin 64 → EReal) (hf : ∀ j, (x (ix1 j) : EReal) = f j) (r : Fin 256) :
    (addf (F := Ideal) (addf (addf (Host.dotGeneral dot_S256x64_S64_S256_1_0_0_n_n_n none w x) b) (Host.dotGeneral dot_S256x64_S64_S256_1_0_0_n_n_n none w' h)) b' (ix1 r) : EReal)
      = (((∑ j, (w (ix2 r j) : EReal) * f j) + b (ix1 r)) + ∑ j, (w' (ix2 r j) : EReal) * h (ix1 j)) + b' (ix1 r) := by
  rw [← Finset.sum_congr rfl (fun j _ => congrArg (fun y => (w (ix2 r j) : EReal) * y) (hf j)), ← dot_gate w x r, ← dot_gate w' h r]
  rfl

theorem gatesR_at (V : Valuation τ sig (Elt Ideal)) (t : ℕ) (ht : t < 50) (hc : ∀ i, ctrR V i = BitVec.ofNat 32 t) (hio : ∀ j : Fin 50, ioR V (ix1 j) = BitVec.ofNat 32 j.val)
    (f : Fin 64 → EReal) (hf : FeedsIn (emR V) (aR V) (fR V) t f) (r : Fin 256) :
    (gatesR V (ix1 r) : EReal) = (((∑ j, (wihR V (ix2 r j) : EReal) * f j) + bihR V (ix1 r)) + ∑ j, (whhR V (ix2 r j) : EReal) * hR V (ix1 j)) + bhhR V (ix1 r) := by
  show (res_main_while0b_v27 V : FVec Ideal S256 .f32) (ix1 r) = _
  unfold res_main_while0b_v27
  refine gates_form (wihR V) _ (bihR V) (whhR V) (hR V) (bhhR V) f (fun j => ?_) r
  refine (choose_row (ioR V) (ctrR V) _ (fR V) t ht hc hio j).trans ?_
  rcases hf with ⟨h0, hz⟩ | ⟨hp, v, ha, b, hb, he⟩
  · rw [if_neg (by omega), hz]
  · rw [if_pos hp, he, hb]
    exact congrArg (fun y : EReal => y * b) (row_of (emR V) (aR V) v ha j)

theorem scores_at (V : Valuation τ sig (Elt Ideal)) (v : Fin 100000) :
    (scores V (ix1 v) : EReal) = (∑ j, (woutR V (ix2 v j) : EReal) * hidR V (ix1 j)) + boutR V (ix1 v) := by
  show (res_main_while0b_v57 V : FVec Ideal S100000 .f32) (ix1 v) = _
  unfold res_main_while0b_v57
  exact congrArg (fun y : EReal => y + boutR V (ix1 v)) (dot_out (woutR V) (hidR V) v)

end

end Cert.ReferenceIdeal.Hand
end
-- ==== Proof.Rows.lean ====
module

public import proofs.«01_k».proof.Proof.Pick
public import Idealize.ShloMosaic.Lib.MatmulPlain
public import Idealize.ShloMosaic.Lib.Pipeline.Value

@[expose] public section

set_option maxRecDepth 16384

/-! # The kernel's tables of values, item by item

The kernel writes its two tables row after row and loads them again whole: here is what they hold. -/

open Idealize.ShloMosaic Idealize.ShloMosaic.ValueIdx

namespace Cert.KernelIdeal.Hand

open Cert.KernelIdeal Cert.KernelIdeal.Gen Cert.Rank

noncomputable section

theorem table_idx (j : S8x12500.Idx) : (Rect.unit (s := S8x12500) ![0, 0] ![8, 12500] inb_S8x12500_S8x12500_0_0).toLoadRect.idx j = j := by
  funext a; apply Fin.ext
  have h : (![0, 0] : Fin 2 → ℕ) a = 0 := by fin_cases a <;> rfl
  show (![0, 0] : Fin 2 → ℕ) a + 1 * (j a).val = (j a).val
  rw [h]; omega

theorem row_emb {o : ℕ} (h : ∀ a, (![o, 0] : Fin 2 → ℕ) a + (![1, 12500] : Fin 2 → ℕ) a ≤ S8x12500.size a) (y : S8x12500.Idx) (hy : (y 0).val = o) :
    (Rect.unit (s := S8x12500) ![o, 0] ![1, 12500] h).emb (ix2 (n0 := 1) (n1 := 12500) 0 (y 1)) = y := by
  funext a; apply Fin.ext; fin_cases a
  · show o + 1 * 0 = (y 0).val; omega
  · show 0 + 1 * (y 1).val = (y 1).val; omega

/-- Reading below a write of one row. -/
theorem canon_row {o : ℕ} (h : ∀ a, (![o, 0] : Fin 2 → ℕ) a + (![1, 12500] : Fin 2 → ℕ) a ≤ S8x12500.size a) (w : Vec Ideal S1x12500 .f32)
    (L : List (View.Piece (Elt Ideal) S8x12500 .f32)) (y : S8x12500.Idx) :
    View.canon (Val := Elt Ideal) (⟨Rect.unit (s := S8x12500) ![o, 0] ![1, 12500] h, w⟩ :: L) y
      = if (y 0).val = o then w (ix2 0 (y 1)) else View.canon (Val := Elt Ideal) L y := by
  by_cases hy : (y 0).val = o
  · rw [if_pos hy]
    have := View.canon_cons_emb (Val := Elt Ideal) (Rect.unit (s := S8x12500) ![o, 0] ![1, 12500] h) w L (ix2 (n0 := 1) (n1 := 12500) 0 (y 1))
    rw [row_emb h y hy] at this
    exact this
  · rw [if_neg hy]
    refine View.canon_cons_of_not_mem (Val := Elt Ideal) _ L fun hm => hy ?_
    have hm' : y ∈ (Rect.unit (s := S8x12500) ![o, 0] ![1, 12500] h).set := hm
    have := Rect.mem_set_unit.1 hm' 0
    have h1 : o ≤ (y 0).val := this.1
    have h2 : (y 0).val < o + 1 := this.2
    omega

theorem at_row (r : Fin 8) (y : S8x12500.Idx) (h : (y 0).val = r.val) : ix2 r (y 1) = y := by
  funext a; fin_cases a
  · exact Fin.ext h.symm
  · rfl

/-- Eight rows written and loaded again whole. -/
theorem rows_eq (v : View sig .tc .vmem S8x12500 .f32) (w0 w1 w2 w3 w4 w5 w6 w7 : Vec Ideal S1x12500 .f32) (G : Vec Ideal S8x12500 .f32)
    (h0 : ∀ k : Fin 12500, w0 (ix2 0 k) = G (ix2 (0 : Fin 8) k)) (h1 : ∀ k : Fin 12500, w1 (ix2 0 k) = G (ix2 (1 : Fin 8) k)) (h2 : ∀ k : Fin 12500, w2 (ix2 0 k) = G (ix2 (2 : Fin 8) k))
    (h3 : ∀ k : Fin 12500, w3 (ix2 0 k) = G (ix2 (3 : Fin 8) k)) (h4 : ∀ k : Fin 12500, w4 (ix2 0 k) = G (ix2 (4 : Fin 8) k)) (h5 : ∀ k : Fin 12500, w5 (ix2 0 k) = G (ix2 (5 : Fin 8) k))
    (h6 : ∀ k : Fin 12500, w6 (ix2 0 k) = G (ix2 (6 : Fin 8) k)) (h7 : ∀ k : Fin 12500, w7 (ix2 0 k) = G (ix2 (7 : Fin 8) k)) :
    v.readCov (Val := Elt Ideal)
      [⟨Rect.unit ![7, 0] ![1, 12500] inb_S8x12500_S1x12500_7_0, w7⟩, ⟨Rect.unit ![6, 0] ![1, 12500] inb_S8x12500_S1x12500_6_0, w6⟩,
       ⟨Rect.unit ![5, 0] ![1, 12500] inb_S8x12500_S1x12500_5_0, w5⟩, ⟨Rect.unit ![4, 0] ![1, 12500] inb_S8x12500_S1x12500_4_0, w4⟩,
       ⟨Rect.unit ![3, 0] ![1, 12500] inb_S8x12500_S1x12500_3_0, w3⟩, ⟨Rect.unit ![2, 0] ![1, 12500] inb_S8x12500_S1x12500_2_0, w2⟩,
       ⟨Rect.unit ![1, 0] ![1, 12500] inb_S8x12500_S1x12500_1_0, w1⟩, ⟨Rect.unit ![0, 0] ![1, 12500] inb_S8x12500_S1x12500_0_0, w0⟩]
      (Rect.unit (s := S8x12500) ![0, 0] ![8, 12500] inb_S8x12500_S8x12500_0_0).toLoadRect = G := by
  rw [View.readCov_eq_canon' (Val := Elt Ideal)]
  funext y
  show View.canon (Val := Elt Ideal) _ ((Rect.unit (s := S8x12500) ![0, 0] ![8, 12500] inb_S8x12500_S8x12500_0_0).toLoadRect.idx y) = G y
  rw [table_idx, canon_row, canon_row, canon_row, canon_row, canon_row, canon_row, canon_row, canon_row]
  have hlt : (y 0).val < 8 := (y 0).isLt
  split_ifs with a7 a6 a5 a4 a3 a2 a1 a0
  · exact (h7 (y 1)).trans (congrArg G (at_row 7 y a7))
  · exact (h6 (y 1)).trans (congrArg G (at_row 6 y a6))
  · exact (h5 (y 1)).trans (congrArg G (at_row 5 y a5))
  · exact (h4 (y 1)).trans (congrArg G (at_row 4 y a4))
  · exact (h3 (y 1)).trans (congrArg G (at_row 3 y a3))
  · exact (h2 (y 1)).trans (congrArg G (at_row 2 y a2))
  · exact (h1 (y 1)).trans (congrArg G (at_row 1 y a1))
  · exact (h0 (y 1)).trans (congrArg G (at_row 0 y a0))
  · exfalso; omega

/-- An item's score. -/
def logit (hid : FVec Ideal S1x64 .f32) (W : FVec Ideal S8x64x12500 .f32) (B : FVec Ideal S8x12500 .f32) (i : S8x12500.Idx) : EReal :=
  (∑ j : Fin 64, (hid (ix2 0 j) : EReal) * W (ix3 (i 0) j (i 1))) + B i

theorem mm_row (hid : FVec Ideal S1x64 .f32) (w : Vec Ideal S1x64x12500 .f32) (k : Fin 12500) :
    matmul (F := Ideal) dot_S1x64_S64x12500_S1x12500_1_0_0_1_n_n none hid (shapeCast S64x12500 w shapeCasts_S1x64x12500_S64x12500 : FVec Ideal S64x12500 .f32) (constant S1x12500 .f32 0x00000000#32) (ix2 0 k)
      = ∑ j : Fin 64, (hid (ix2 0 j) : EReal) * w (ix3 0 j k) := by
  refine (Ideal.matmul_plain_apply (M := 1) (K := 64) (N := 12500) none hid (shapeCast S64x12500 w shapeCasts_S1x64x12500_S64x12500) (constant S1x12500 .f32 0x00000000#32) 0 k).trans ?_
  rw [show (constant (F := Ideal) S1x12500 .f32 0x00000000#32 (ix2 0 k) : EReal) = 0 from bits_zero, zero_add]
  refine Finset.sum_congr rfl fun j _ => ?_
  refine congrArg (fun z : EReal => (hid (ix2 0 j) : EReal) * z) ?_
  exact (shapeCast_dropUnit_apply ![64, 12500] w shapeCasts_S1x64x12500_S64x12500 (ix2 j k)).trans (congrArg w (funext fun a => by fin_cases a <;> rfl))

theorem wrow_at (X : FVec Ideal S8x64x12500 .f32) (o : Fin 8) (h : ∀ a, (![o.val, 0, 0] : Fin 3 → ℕ) a + (![1, 64, 12500] : Fin 3 → ℕ) a ≤ S8x64x12500.size a) (j : Fin 64) (k : Fin 12500) :
    wrow X o.val h (ix3 0 j k) = X (ix3 o j k) := congrArg X (funext fun a => Fin.ext (by
  fin_cases a
  · show o.val + 1 * 0 = o.val; omega
  · show 0 + 1 * j.val = j.val; omega
  · show 0 + 1 * k.val = k.val; omega))
theorem mrow_at (X : FVec Ideal S8x12500 .f32) (o : Fin 8) (h : ∀ a, (![o.val, 0] : Fin 2 → ℕ) a + (![1, 12500] : Fin 2 → ℕ) a ≤ S8x12500.size a) (k : Fin 12500) :
    mrow X o.val h (ix2 0 k) = X (ix2 o k) := congrArg X (funext fun a => Fin.ext (by
  fin_cases a
  · show o.val + 1 * 0 = o.val; omega
  · show 0 + 1 * k.val = k.val; omega))

/-- One row of exponentials, and one row of them times the mask. -/
theorem e_row (hid : FVec Ideal S1x64 .f32) (W : FVec Ideal S8x64x12500 .f32) (B : FVec Ideal S8x12500 .f32) (o : Fin 8)
    (hw : ∀ a, (![o.val, 0, 0] : Fin 3 → ℕ) a + (![1, 64, 12500] : Fin 3 → ℕ) a ≤ S8x64x12500.size a)
    (hb : ∀ a, (![o.val, 0] : Fin 2 → ℕ) a + (![1, 12500] : Fin 2 → ℕ) a ≤ S8x12500.size a) (k : Fin 12500) :
    exp (F := Ideal) (addf (F := Ideal) (matmul (F := Ideal) dot_S1x64_S64x12500_S1x12500_1_0_0_1_n_n none hid (shapeCast S64x12500 (wrow W o.val hw) shapeCasts_S1x64x12500_S64x12500 : FVec Ideal S64x12500 .f32) (constant S1x12500 .f32 0x00000000#32)) (mrow B o.val hb : FVec Ideal S1x12500 .f32)) (ix2 0 k)
      = Ideal.exp (logit hid W B (ix2 o k)) := by
  show Ideal.exp ((matmul (F := Ideal) dot_S1x64_S64x12500_S1x12500_1_0_0_1_n_n none hid (shapeCast S64x12500 (wrow W o.val hw) shapeCasts_S1x64x12500_S64x12500 : FVec Ideal S64x12500 .f32) (constant S1x12500 .f32 0x00000000#32) (ix2 0 k) : EReal) + mrow B o.val hb (ix2 0 k)) = _
  rw [mm_row, mrow_at]
  unfold logit
  refine congrArg (fun z : EReal => Ideal.exp (z + B (ix2 o k))) (Finset.sum_congr rfl fun j _ => ?_)
  rw [wrow_at]
theorem u_row (hid : FVec Ideal S1x64 .f32) (W : FVec Ideal S8x64x12500 .f32) (B M : FVec Ideal S8x12500 .f32) (o : Fin 8)
    (hw : ∀ a, (![o.val, 0, 0] : Fin 3 → ℕ) a + (![1, 64, 12500] : Fin 3 → ℕ) a ≤ S8x64x12500.size a)
    (hb : ∀ a, (![o.val, 0] : Fin 2 → ℕ) a + (![1, 12500] : Fin 2 → ℕ) a ≤ S8x12500.size a) (k : Fin 12500) :
    mulf (F := Ideal) (exp (F := Ideal) (addf (F := Ideal) (matmul (F := Ideal) dot_S1x64_S64x12500_S1x12500_1_0_0_1_n_n none hid (shapeCast S64x12500 (wrow W o.val hw) shapeCasts_S1x64x12500_S64x12500 : FVec Ideal S64x12500 .f32) (constant S1x12500 .f32 0x00000000#32)) (mrow B o.val hb : FVec Ideal S1x12500 .f32))) (mrow M o.val hb : FVec Ideal S1x12500 .f32) (ix2 0 k)
      = Ideal.exp (logit hid W B (ix2 o k)) * M (ix2 o k) :=
  congrArg₂ (fun a b : EReal => a * b) (e_row hid W B o hw hb k) (mrow_at M o hb k)

theorem E_eq (I : Inp Ideal) (s : St Ideal) : (loads I s).E = fun i => Ideal.exp (logit (loads I s).hid I.wot I.bo i) := by
  unfold Loads.E
  refine rows_eq _ _ _ _ _ _ _ _ _ _ (fun k => ?_) (fun k => ?_) (fun k => ?_) (fun k => ?_) (fun k => ?_) (fun k => ?_) (fun k => ?_) (fun k => ?_)
  · simp only [k0_pay22, k0_pay21, shapeCast_self]; exact e_row _ I.wot I.bo 0 _ _ k
  · simp only [k0_pay26, k0_pay25, k0_pay24, shapeCast_self]; exact e_row _ I.wot I.bo 1 _ _ k
  · simp only [k0_pay29, k0_pay28, shapeCast_self]; exact e_row _ I.wot I.bo 2 _ _ k
  · simp only [k0_pay33, k0_pay32, k0_pay31, shapeCast_self]; exact e_row _ I.wot I.bo 3 _ _ k
  · simp only [k0_pay36, k0_pay35, shapeCast_self]; exact e_row _ I.wot I.bo 4 _ _ k
  · simp only [k0_pay39, k0_pay38, shapeCast_self]; exact e_row _ I.wot I.bo 5 _ _ k
  · simp only [k0_pay42, k0_pay41, shapeCast_self]; exact e_row _ I.wot I.bo 6 _ _ k
  · simp only [k0_pay45, k0_pay44, shapeCast_self]; exact e_row _ I.wot I.bo 7 _ _ k

theorem U_eq (I : Inp Ideal) (s : St Ideal) : (loads I s).U = fun i => Ideal.exp (logit (loads I s).hid I.wot I.bo i) * s.mask i := by
  unfold Loads.U
  refine rows_eq _ _ _ _ _ _ _ _ _ _ (fun k => ?_) (fun k => ?_) (fun k => ?_) (fun k => ?_) (fun k => ?_) (fun k => ?_) (fun k => ?_) (fun k => ?_)
  · simp only [k0_pay23, k0_pay21, shapeCast_self]; exact u_row _ I.wot I.bo s.mask 0 _ _ k
  · simp only [k0_pay27, k0_pay25, k0_pay24, shapeCast_self]; exact u_row _ I.wot I.bo s.mask 1 _ _ k
  · simp only [k0_pay30, k0_pay28, shapeCast_self]; exact u_row _ I.wot I.bo s.mask 2 _ _ k
  · simp only [k0_pay34, k0_pay32, k0_pay31, shapeCast_self]; exact u_row _ I.wot I.bo s.mask 3 _ _ k
  · simp only [k0_pay37, k0_pay35, shapeCast_self]; exact u_row _ I.wot I.bo s.mask 4 _ _ k
  · simp only [k0_pay40, k0_pay38, shapeCast_self]; exact u_row _ I.wot I.bo s.mask 5 _ _ k
  · simp only [k0_pay43, k0_pay41, shapeCast_self]; exact u_row _ I.wot I.bo s.mask 6 _ _ k
  · simp only [k0_pay46, k0_pay44, shapeCast_self]; exact u_row _ I.wot I.bo s.mask 7 _ _ k

theorem scaled (U : FVec Ideal S8x12500 .f32) (c d : EReal) (i : S8x12500.Idx) :
    mulf (F := Ideal) U (broadcast S8x12500 (Scalar.divf (F := Ideal) (φ := .f32) c d : Ideal .f32)) i = (U i : EReal) * Ideal.div c d := rfl

/-- The masked probabilities. -/
theorem mp_of (U E : FVec Ideal S8x12500 .f32) (a : Fin 1) (r : Fin 8) (k : Fin 12500) :
    (k0_pay52 (F := Ideal) U E (ix3 a r k) : EReal) = U (ix2 r k) * Ideal.div 1 (∑ v : Fin 100000, (E (place v) : EReal)) := by
  unfold k0_pay52
  refine (shapeCast_addUnit_apply ![8, 12500] _ shapeCasts_S8x12500_S1x8x12500 (ix3 a r k)).trans ?_
  refine (scaled U _ _ _).trans ?_
  rw [show (fun b : Fin 2 => (ix3 a r k : (⟨3, ![1, 8, 12500]⟩ : Shape).Idx) b.succ) = ix2 r k from funext fun b => by fin_cases b <;> rfl]
  rw [total_eq E]
  exact congrArg (fun x : EReal => (U (ix2 r k) : EReal) * Ideal.div x (∑ v : Fin 100000, (E (place v) : EReal))) bits_one
theorem mp_eq (L : Loads Ideal) (a : Fin 1) (r : Fin 8) (k : Fin 12500) :
    (L.mp (ix3 a r k) : EReal) = L.U (ix2 r k) * Ideal.div 1 (∑ v : Fin 100000, (L.E (place v) : EReal)) := mp_of L.U L.E a r k

theorem sel_eq (g a : BitVec 32) (z m : EReal) : Scalar.select (IntOp.cmpi .eq g a) z m = if g = a then z else m := by
  have hc : IntOp.cmpi .eq g a = BitVec.ofBool (decide (g = a)) := rfl
  by_cases h : g = a
  · rw [if_pos h]; exact sel_pos (by rw [hc, decide_eq_true h]; rfl) _ _
  · rw [if_neg h]; exact sel_neg (by rw [hc, decide_eq_false h]; decide) _ _

theorem mask_of (gi : IVec S8x12500 32) (b : BitVec 32) (m : FVec Ideal S8x12500 .f32) (i : S8x12500.Idx) :
    (k0_pay1 (F := Ideal) (cmpi .eq gi (broadcast S8x12500 b)) m i : EReal) = if gi i = b then 0 else m i := by
  unfold k0_pay1
  rw [shapeCast_self]
  rw [← sel_eq (gi i) b 0 (m i), ← bits_zero]
  rfl

theorem pay53_of (gi : IVec S8x12500 32) (U : FVec Ideal S8x12500 .f32) (a b : BitVec 32) (x : EReal) :
    k0_pay53 (F := Ideal) gi U a x b = cmpi .eq gi (broadcast S8x12500 (Scalar.select (Scalar.andi (Scalar.cmpf (F := Ideal) (φ := .f32) .ogt x (FloatOps.ofBits (F := Ideal) FTy.f32 0#32))
      (Scalar.cmpf (F := Ideal) (φ := .f32) .olt (k0_pay51 gi U x b) (FloatOps.ofBits (F := Ideal) FTy.f32 1120403456#32))) b a)) := rfl

/-- The mask with the chosen item taken out. -/
theorem mask_eq (L : Loads Ideal) (i : S8x12500.Idx) :
    (L.maskNew i : EReal) = if k0_pay10 i = L.ahat then 0 else L.mask i := by
  unfold Loads.maskNew
  rw [pay53_of]
  exact mask_of _ _ _ _

end

end Cert.KernelIdeal.Hand
end
-- ==== Proof.Relate.lean ====
module

public import proofs.«01_k».proof.Proof.Fed
public import proofs.«01_k».proof.Proof.Rows
public import proofs.«01_k».proof.Proof.Members
public import proofs.«01_k».proof.Proof.Pick

@[expose] public section

set_option maxRecDepth 16384

/-! # One step of the reference and one step of the kernel -/

open Idealize.ShloMosaic Idealize.ShloMosaic.ValueIdx

namespace Cert.ReferenceIdeal.Hand

open Cert.ReferenceIdeal Cert.ReferenceIdeal.Gen Cert.ReferenceIdeal.Value Cert.Rank Cert.Cell
open Cert.KernelIdeal.Hand (Inp St Loads loads stAt ldAt embRow place logit Member gi_place mask_eq mp_eq E_eq U_eq mem_table toInt_small sel_pos sel_neg cmp_ogt bits_one bits_zero)

noncomputable section

/-- The reference's constant buffers hold the kernel's inputs. -/
structure Same (V : Valuation τ sig (Elt Ideal)) (I : Inp Ideal) : Prop where
  io : ∀ j : Fin 50, ioR V (ix1 j) = BitVec.ofNat 32 j.val
  em : ∀ (v : Fin 100000) (j : Fin 64), (emR V (ix2 v j) : EReal) = I.emb (ix2 v j)
  wih : ∀ (r : Fin 256) (j : Fin 64), (wihR V (ix2 r j) : EReal) = I.wih (ix2 j r)
  whh : ∀ (r : Fin 256) (j : Fin 64), (whhR V (ix2 r j) : EReal) = I.whh (ix2 j r)
  bg : ∀ r : Fin 256, (I.bg (ix2 0 r) : EReal) = (bihR V (ix1 r) : EReal) + bhhR V (ix1 r)
  wot : ∀ (v : Fin 100000) (j : Fin 64), (woutR V (ix2 v j) : EReal) = I.wot (ix3 (place v 0) j (place v 1))
  bo : ∀ v : Fin 100000, (boutR V (ix1 v) : EReal) = I.bo (place v)
  x : xR V = I.x
  wreal : ∀ (v : Fin 100000) (j : Fin 64), IsReal (woutR V (ix2 v j))
  breal : ∀ v : Fin 100000, IsReal (boutR V (ix1 v))

/-- What the two carry from step to step agrees. -/
structure Met (V : Valuation τ sig (Elt Ideal)) (I : Inp Ideal) (s : St Ideal) (t : ℕ) : Prop where
  ctr : ∀ i, ctrR V i = BitVec.ofNat 32 t
  h : ∀ k : Fin 64, (hR V (ix1 k) : EReal) = s.h (ix2 0 k)
  c : ∀ k : Fin 64, (lastC V (ix1 k) : EReal) = s.c (ix2 0 k)
  mask : ∀ v : Fin 100000, (maskR V (ix1 v) : EReal) = s.mask (place v)
  zeros : ∃ Z : Finset (Fin 100000), Z.card ≤ t ∧ (∀ v ∈ Z, (s.mask (place v) : EReal) = 0) ∧ ∀ v, v ∉ Z → (s.mask (place v) : EReal) = 1
  feed : FeedsIn (emR V) (aR V) (fR V) t (fed s.sf s.e2 s.e1)

theorem bit_eq : ∀ a b : BitVec 1, (a = 1#1 ↔ b = 1#1) → a = b := by decide

section Step
variable {V : Valuation τ sig (Elt Ideal)} {I : Inp Ideal} {s : St Ideal} {t : ℕ} (S : Same V I) (M : Met V I s t) (ht : t < 50)
include S M ht

theorem gates_same (r : Fin 256) :
    (gatesR V (ix1 r) : EReal) = Cert.KernelIdeal.Gen.k0_pay12 (F := Ideal) (loads I s).sf (loads I s).e2 (loads I s).e1 (loads I s).wih (loads I s).h (loads I s).whh (loads I s).bg (ix2 0 r) := by
  refine (gatesR_at V t ht M.ctr S.io _ M.feed r).trans ?_
  refine Eq.trans ?_ (gates_at s.sf s.e2 s.e1 I.wih s.h I.whh I.bg r).symm
  rw [S.bg r, Finset.sum_congr rfl (fun j _ => show (wihR V (ix2 r j) : EReal) * fed s.sf s.e2 s.e1 j = fed s.sf s.e2 s.e1 j * I.wih (ix2 j r) by rw [S.wih, mul_comm]),
    Finset.sum_congr rfl (fun j _ => show (whhR V (ix2 r j) : EReal) * hR V (ix1 j) = s.h (ix2 0 j) * I.whh (ix2 j r) by rw [S.whh, M.h, mul_comm])]
  rw [add_assoc, add_add_add_comm]

theorem cell_same (k : Fin 64) : (cellR V (ix1 k) : EReal) = (loads I s).cNew (ix2 0 k) := by
  rw [cellR_at, cNew_at]
  exact congrArg₂ (fun g c => cell g c k) (funext fun r => gates_same S M ht r) (funext fun j => M.c j)

theorem hid_same (k : Fin 64) : (hidR V (ix1 k) : EReal) = (loads I s).hid (ix2 0 k) := by
  rw [hidR_at, hid_at]
  exact congrArg₂ (fun g c => hidden g c k) (funext fun r => gates_same S M ht r) (funext fun j => M.c j)

theorem score_same (v : Fin 100000) : (scores V (ix1 v) : EReal) = logit (loads I s).hid I.wot I.bo (place v) := by
  rw [scores_at, S.bo]
  unfold logit
  refine congrArg (fun y : EReal => y + I.bo (place v)) (Finset.sum_congr rfl fun j _ => ?_)
  rw [S.wot, hid_same S M ht, mul_comm]

omit M ht in
theorem score_real (v : Fin 100000) : IsReal (scores V (ix1 v)) := by
  rw [scores_at]
  refine (IsReal.sum _ _ fun j => (S.wreal v j).mul ?_).add (S.breal v)
  rw [hidR_at]
  exact (real_logistic _).mul (real_tanh _)

omit S ht in
theorem mask_real (v : Fin 100000) : IsReal (maskR V (ix1 v)) ∧ (0 : EReal) ≤ maskR V (ix1 v) := by
  obtain ⟨Z, -, h0, h1⟩ := M.zeros
  rw [M.mask]
  by_cases h : v ∈ Z
  · rw [h0 v h]; exact ⟨⟨0, rfl⟩, le_refl _⟩
  · rw [h1 v h]; exact ⟨⟨1, rfl⟩, zero_le_one⟩

/-- Everything the two compute at this step. -/
theorem step_same : (∀ v : Fin 100000, (probR V (ix1 v) : EReal) = (loads I s).mp (ix3 0 (place v 0) (place v 1)))
    ∧ (∀ i : S_.Idx, (res_main_while0b_v77 V : IVec S_ 1) i = (loads I s).has)
    ∧ ∃ v : Fin 100000, (loads I s).ahat = BitVec.ofNat 32 v.val ∧ ∀ i : S_.Idx, (res_main_while0b_v88 V : IVec S_ 32) i = BitVec.ofNat 32 v.val := by
  choose l hl using fun v => score_real S v
  choose μ hμ using fun v => (mask_real M v).1
  have hU : ∀ v, ((loads I s).U (place v) : EReal) = Ideal.exp ((l v : ℝ) : EReal) * ((μ v : ℝ) : EReal) := fun v => by
    rw [U_eq]
    show Ideal.exp (logit (loads I s).hid I.wot I.bo (place v)) * (s.mask (place v) : EReal) = _
    rw [← score_same S M ht v, hl, ← M.mask, hμ]
  have hE : ∀ v, ((loads I s).E (place v) : EReal) = Ideal.exp ((l v : ℝ) : EReal) := fun v => by
    rw [E_eq]
    show Ideal.exp (logit (loads I s).hid I.wot I.bo (place v)) = _
    rw [← score_same S M ht v, hl]
  have hp := fun v => probs_at V l μ hl hμ v
  have hlt : ∀ v w : Fin 100000, ((probR V (ix1 w) : EReal) < probR V (ix1 v)) ↔ ((loads I s).U (place w) : EReal) < (loads I s).U (place v) := fun v w => by
    rw [hp, hp, hU, hU]
    exact soft_lt l μ v w
  refine ⟨fun v => ?_, ?_⟩
  · rw [hp]
    refine Eq.trans ?_ (mp_eq (loads I s) 0 (place v 0) (place v 1)).symm
    have e : ((loads I s).U (ix2 (place v 0) (place v 1)) : EReal) = (loads I s).U (place v) := congrArg (loads I s).U (show ix2 (place v 0) (place v 1) = place v from rfl)
    rw [e, hU, Finset.sum_congr rfl (fun w _ => hE w)]
    exact (kernel_soft l μ v).symm
  · obtain ⟨hr, a, ha, hac⟩ := ref_pick V I.x S.x (fun w => ((loads I s).U (place w) : EReal)) hlt
    obtain ⟨Z, hZ, h0, h1⟩ := M.zeros
    obtain ⟨hk, b, hb, hbc⟩ := Cert.KernelIdeal.Hand.pick (loads I s) (Member I.x)
      (fun v => by
        rw [hU, ← hμ]
        exact mul_nonneg (by rw [exp_coe]; exact_mod_cast (Real.exp_pos _).le) (mask_real M v).2)
      (fun v hv => (mem_table I v).1 hv) (fun v hv => (mem_table I v).2 hv)
      ⟨Finset.univ \ Z, by
        rw [Finset.card_sdiff_of_subset (Finset.subset_univ _), Finset.card_univ, Fintype.card_fin]; omega,
       fun v hv => by
        rw [hU, ← hμ, M.mask, h1 v (Finset.mem_sdiff.1 hv).2, mul_one, exp_coe]
        exact_mod_cast Real.exp_pos _⟩
    refine ⟨fun i => bit_eq _ _ ((hr i).trans hk.symm), b, hb, fun i => ?_⟩
    rw [ha, Chosen.unique hac hbc]

end Step

end

end Cert.ReferenceIdeal.Hand
end
-- ==== Proof.Advance.lean ====
module

public import proofs.«01_k».proof.Proof.Relate

@[expose] public section

set_option maxRecDepth 16384

/-! # The two stay together through all fifty steps -/

open Idealize.ShloMosaic Idealize.ShloMosaic.ValueIdx

namespace Cert.ReferenceIdeal.Hand

open Cert.ReferenceIdeal Cert.ReferenceIdeal.Gen Cert.ReferenceIdeal.Value Cert.Rank Cert.Cell
open Cert.KernelIdeal.Hand (Inp St Loads loads stAt ldAt embRow place logit Member gi_place mask_eq mp_eq E_eq U_eq mem_table toInt_small sel_pos sel_neg cmp_ogt bits_one bits_zero)

noncomputable section

/-- The results written so far agree. -/
structure Outs (V : Valuation τ sig (Elt Ideal)) (I : Inp Ideal) (t : ℕ) : Prop where
  a : ∀ j : Fin 50, j.val < t → outA V (ix1 j) = (ldAt I j.val).ahat
  f : ∀ j : Fin 50, j.val < t → outF V (ix1 j) = (ldAt I j.val).fb
  p : ∀ j : Fin 50, j.val < t → ∀ v : Fin 100000, (outP V (ix2 j v) : EReal) = (ldAt I j.val).mp (ix3 0 (place v 0) (place v 1))

theorem Same.step {V : Valuation τ sig (Elt Ideal)} {I : Inp Ideal} (S : Same V I) : Same (STEP V) I where
  io j := (congrFun (STEP_main_v7_0 V) (ix1 j)).trans (S.io j)
  em v j := (congrFun (STEP_main_v7_1 V) (ix2 v j)).trans (S.em v j)
  wih r j := (congrFun (STEP_main_v7_2 V) (ix2 r j)).trans (S.wih r j)
  whh r j := (congrFun (STEP_main_v7_4 V) (ix2 r j)).trans (S.whh r j)
  bg r := by
    have e3 : bihR (STEP V) = bihR V := STEP_main_v7_3 V
    have e5 : bhhR (STEP V) = bhhR V := STEP_main_v7_5 V
    rw [e3, e5]; exact S.bg r
  wot v j := (congrFun (STEP_main_v7_6 V) (ix2 v j)).trans (S.wot v j)
  bo v := (congrFun (STEP_main_v7_7 V) (ix1 v)).trans (S.bo v)
  x := (STEP_main_v7_8 V).trans S.x
  wreal v j := by
    have e : woutR (STEP V) = woutR V := STEP_main_v7_6 V
    rw [e]; exact S.wreal v j
  breal v := by
    have e : boutR (STEP V) = boutR V := STEP_main_v7_7 V
    rw [e]; exact S.breal v

/-- The row fetched for the next point, scaled by the feedback. -/
theorem fed_next (E : FVec Ideal Cert.KernelIdeal.S100000x64 .f32) (L : Loads Ideal) (a : Fin 100000) (ha : L.ahat = BitVec.ofNat 32 a.val) (j : Fin 64) :
    fed L.sfNew (embRow E L.ib) (embRow E L.a1) j = (E (ix2 a j) : EReal) * (Scalar.select L.has (FloatOps.ofBits (F := Ideal) .f32 0x3F800000#32) (FloatOps.ofBits (F := Ideal) .f32 0xBF800000#32) : EReal) := by
  have hrow : ∀ w : BitVec 32, w = BitVec.ofNat 32 a.val → (embRow E w (ix2 0 j) : EReal) = E (ix2 a j) := fun w hw => by
    subst hw
    refine congrArg E (congrArg (fun r => ix2 r j) (Fin.ext ?_))
    show (BitVec.ofNat 32 a.val).toNat % 100000 = a.val
    rw [BitVec.toNat_ofNat, Nat.mod_eq_of_lt (show a.val % 2 ^ 32 < 100000 by omega), Nat.mod_eq_of_lt (by omega)]
  have hs : L.sfNew = (Scalar.select L.has (FloatOps.ofBits (F := Ideal) .f32 0x3F800000#32) (FloatOps.ofBits (F := Ideal) .f32 0xBF800000#32) : EReal) := rfl
  unfold fed
  rw [hs]
  by_cases h : L.has = 1#1
  · rw [sel_pos h, bits_one, sel_pos ((cmp_ogt _ _).2 zero_lt_one)]
    rw [hrow L.ib ((sel_pos h _ _).symm.trans ha)]
  · rw [sel_neg h, bits_neg_one, sel_neg (fun e => absurd ((cmp_ogt _ _).1 e) (by rw [not_lt]; exact_mod_cast (by norm_num : (-1 : ℝ) ≤ 0)))]
    rw [hrow L.a1 ((sel_neg h _ _).symm.trans ha)]

theorem wrap_spread (q : IVec S_ 32) (a : Fin 100000) (hq : ∀ i, q i = BitVec.ofNat 32 a.val) (i : S1.Idx) :
    broadcastInDim S1 ![] bcast_S_S1 (select (cmpi .slt q (constantI S_ 32 0#32)) (addi q (constantI S_ 32 100000#32)) q) i = BitVec.ofNat 32 a.val := by
  have e : q = fun _ => BitVec.ofNat 32 a.val := funext hq
  rw [e]
  exact wrap_small a.val (by omega) _

theorem step17_a (V : Valuation τ sig (Elt Ideal)) : outP (STEP V) = step_main_v7_17 V := STEP_main_v7_17 V

theorem step17_b (V : Valuation τ sig (Elt Ideal)) : (step_main_v7_17 V : FVec Ideal S50x100000 .f32) = Host.dynamicUpdateSlice (outP V) (broadcastInDim S1x100000 ![1] bcast_S100000_S1x100000_1 (probR V)) (fun k => (((![ctrR V, constantI S_ 32 0#32] : Fin 2 → (⟨S_, .i32⟩ : BufTy).Contents (Elt Ideal))) k (Shape.Idx.first h_S_)).toInt) updateFits_S50x100000_S1x100000 := by
  unfold step_main_v7_17
  rw [id_eq]
  rfl

theorem row_start (q : IVec S_ 32) (t : ℕ) (ht : t < 50) (hq : ∀ i, q i = BitVec.ofNat 32 t) :
    (fun k => (((![q, constantI S_ 32 0#32] : Fin 2 → (⟨S_, .i32⟩ : BufTy).Contents (Elt Ideal))) k (Shape.Idx.first h_S_)).toInt) 0 = (t : ℤ)
      ∧ (fun k => (((![q, constantI S_ 32 0#32] : Fin 2 → (⟨S_, .i32⟩ : BufTy).Contents (Elt Ideal))) k (Shape.Idx.first h_S_)).toInt) 1 = (0 : ℤ) := by
  refine ⟨?_, rfl⟩
  show (q (Shape.Idx.first h_S_)).toInt = _
  rw [hq, toInt_small t (by omega)]

theorem row_put (f x : FVec Ideal S50x100000 .f32) (p : FVec Ideal S100000 .f32) (q : IVec S_ 32)
    (hf : f = Host.dynamicUpdateSlice x (broadcastInDim S1x100000 ![1] bcast_S100000_S1x100000_1 p) (fun k => (((![q, constantI S_ 32 0#32] : Fin 2 → (⟨S_, .i32⟩ : BufTy).Contents (Elt Ideal))) k (Shape.Idx.first h_S_)).toInt) updateFits_S50x100000_S1x100000)
    (t : ℕ) (ht : t < 50) (hq : ∀ i, q i = BitVec.ofNat 32 t) (j : Fin 50) (v : Fin 100000) : f (ix2 j v) = if j.val = t then p (ix1 v) else x (ix2 j v) :=
  (congrFun hf (ix2 j v)).trans (put_row x p _ t ht (row_start q t ht hq).1 (row_start q t ht hq).2 j v)

theorem entry_put (f m : FVec Ideal S100000 .f32) (q : IVec S_ 32)
    (hf : f = Host.scatter scatter_S100000_S1_S__n_0_0_0 (fun _ b => b) m (broadcastInDim S1 ![] bcast_S_S1 (select (cmpi .slt q (constantI S_ 32 0#32)) (addi q (constantI S_ 32 100000#32)) q)) (constant (F := Ideal) S_ .f32 0x00000000#32))
    (a : Fin 100000) (hq : ∀ i, q i = BitVec.ofNat 32 a.val) (v : Fin 100000) : (f (ix1 v) : EReal) = if v = a then 0 else m (ix1 v) :=
  (congrFun hf (ix1 v)).trans (scatter_at m _ _ 0 (fun _ => bits_zero) a (wrap_spread q a hq) v)

theorem step12_a (V : Valuation τ sig (Elt Ideal)) : maskR (STEP V) = step_main_v7_12 V := STEP_main_v7_12 V

theorem step12_b (V : Valuation τ sig (Elt Ideal)) : (step_main_v7_12 V : FVec Ideal S100000 .f32) = Host.scatter scatter_S100000_S1_S__n_0_0_0 (fun _ b => b) (maskR V) (broadcastInDim S1 ![] bcast_S_S1 (select (cmpi .slt (res_main_while0b_v88 V : IVec S_ 32) (constantI S_ 32 0#32)) (addi (res_main_while0b_v88 V : IVec S_ 32) (constantI S_ 32 100000#32)) (res_main_while0b_v88 V : IVec S_ 32))) (constant (F := Ideal) S_ .f32 0x00000000#32) := by
  unfold step_main_v7_12
  rw [id_eq]
  rfl

theorem flag_put (f x : IVec S50 32) (b : IVec S_ 1) (q : IVec S_ 32) (d : BitVec 1) (hb : ∀ i, b i = d)
    (hf : f = Host.dynamicUpdateSlice x (broadcastInDim S1 ![] bcast_S_S1 (select b (constantI S_ 32 1#32) (constantI S_ 32 4294967295#32))) (fun k => (((![q] : Fin 1 → (⟨S_, .i32⟩ : BufTy).Contents (Elt Ideal))) k (Shape.Idx.first h_S_)).toInt) updateFits_S50_S1)
    (t : ℕ) (ht : t < 50) (hq : (q (Shape.Idx.first h_S_)).toInt = (t : ℤ)) (j : Fin 50) : f (ix1 j) = if j.val = t then Scalar.select d 1#32 4294967295#32 else x (ix1 j) := by
  have e : b = fun _ => d := funext hb
  subst e
  exact (congrFun hf (ix1 j)).trans (put_at x _ (Scalar.select d 1#32 4294967295#32) (fun _ => rfl) _ t ht hq j)

theorem sign_at (f : FVec Ideal S_ .f32) (b : IVec S_ 1) (d : BitVec 1) (hb : ∀ i, b i = d) (hf : f = select b (constant (F := Ideal) S_ .f32 0x3F800000#32) (constant (F := Ideal) S_ .f32 0xBF800000#32)) (i : S_.Idx) :
    (f i : EReal) = Scalar.select d (FloatOps.ofBits (F := Ideal) .f32 0x3F800000#32) (FloatOps.ofBits (F := Ideal) .f32 0xBF800000#32) := by
  have e : b = fun _ => d := funext hb
  subst e
  rw [hf]
  rfl

theorem step14 (V : Valuation τ sig (Elt Ideal)) : fR (STEP V) = select (res_main_while0b_v77 V : IVec S_ 1) (constant (F := Ideal) S_ .f32 0x3F800000#32) (constant (F := Ideal) S_ .f32 0xBF800000#32) := by
  refine (STEP_main_v7_14 V).trans ?_
  unfold step_main_v7_14
  rw [id_eq, id_eq]

theorem step16 (V : Valuation τ sig (Elt Ideal)) : outF (STEP V) = Host.dynamicUpdateSlice (outF V) (broadcastInDim S1 ![] bcast_S_S1 (select (res_main_while0b_v77 V : IVec S_ 1) (constantI S_ 32 1#32) (constantI S_ 32 4294967295#32))) (fun k => (((![ctrR V] : Fin 1 → (⟨S_, .i32⟩ : BufTy).Contents (Elt Ideal))) k (Shape.Idx.first h_S_)).toInt) updateFits_S50_S1 := by
  refine (STEP_main_v7_16 V).trans ?_
  unfold step_main_v7_16
  rw [id_eq]
  rfl

section Step
variable {V : Valuation τ sig (Elt Ideal)} {I : Inp Ideal} {s : St Ideal} {t : ℕ} (S : Same V I) (M : Met V I s t) (ht : t < 50)
include S M ht

omit S in
theorem ctr_read : (ctrR V (Shape.Idx.first h_S_)).toInt = (t : ℤ) := by rw [Met.ctr M, toInt_small t (by omega)]

theorem Met.step : Met (STEP V) I (s.next I) (t + 1) := by
  obtain ⟨-, h77, a, ha, h88⟩ := step_same S M ht
  have hmask : ∀ v : Fin 100000, ((s.next I).mask (place v) : EReal) = if v = a then 0 else s.mask (place v) := fun v => by
    refine (mask_eq (loads I s) (place v)).trans ?_
    rw [gi_place, ha]
    by_cases h : v = a
    · rw [if_pos h, if_pos (by rw [h])]
    · rw [if_neg h, if_neg (fun e => h ?_)]
      · rfl
      · have := congrArg BitVec.toNat e
        rw [BitVec.toNat_ofNat, BitVec.toNat_ofNat, Nat.mod_eq_of_lt (by omega), Nat.mod_eq_of_lt (by omega)] at this
        exact Fin.ext this
  refine { ctr := fun i => ?_, h := fun k => ?_, c := fun k => ?_, mask := fun v => ?_, zeros := ?_, feed := ?_ }
  · refine (congrFun (STEP_main_v7_9 V) i).trans ?_
    show ctrR V i + 1#32 = _
    rw [Met.ctr M]
    exact (BitVec.ofNat_add t 1).symm
  · refine (congrFun (STEP_main_v7_10 V) (ix1 k)).trans ((hid_same S M ht k).trans ?_)
    exact (congrFun (hNew_eq (loads I s)) (ix2 0 k)).symm
  · exact (congrFun (STEP_main_v7_11 V) (ix1 k)).trans (cell_same S M ht k)
  · rw [hmask, ← Met.mask M]
    exact entry_put (maskR (STEP V)) (maskR V) (res_main_while0b_v88 V : IVec S_ 32) ((step12_a V).trans (step12_b V)) a h88 v
  · obtain ⟨Z, hZ, h0, h1⟩ := M.zeros
    refine ⟨insert a Z, (Finset.card_insert_le _ _).trans (by omega), fun v hv => ?_, fun v hv => ?_⟩
    · rw [hmask]
      by_cases h : v = a
      · rw [if_pos h]
      · rw [if_neg h]; exact h0 v ((Finset.mem_insert.1 hv).resolve_left h)
    · rw [hmask, if_neg (fun h => hv (Finset.mem_insert.2 (Or.inl h)))]
      exact h1 v fun h => hv (Finset.mem_insert.2 (Or.inr h))
  · refine Or.inr ⟨Nat.succ_pos t, a, fun i => (congrFun (STEP_main_v7_13 V) i).trans (h88 i), (Scalar.select (loads I s).has (FloatOps.ofBits (F := Ideal) .f32 0x3F800000#32) (FloatOps.ofBits (F := Ideal) .f32 0xBF800000#32) : EReal), fun i => ?_, fun j => ?_⟩
    · exact sign_at (fR (STEP V)) (res_main_while0b_v77 V : IVec S_ 1) _ h77 (step14 V) i
    · refine (fed_next I.emb (loads I s) a ha j).trans ?_
      have e : emR (STEP V) = emR V := STEP_main_v7_1 V
      rw [e, S.em]

theorem outs_a (L : Loads Ideal) (hl : loads I s = L) (j : Fin 50) : outA (STEP V) (ix1 j) = if j.val = t then L.ahat else outA V (ix1 j) := by
  obtain ⟨-, h77, a, ha, h88⟩ := step_same S M ht
  rw [hl] at ha
  refine (congrFun (STEP_main_v7_15 V) (ix1 j)).trans ?_
  exact put_at (outA V) (res_main_while0b_v88 V : IVec S_ 32) _ (fun i => (h88 i).trans ha.symm) _ t ht (ctr_read M ht) j

theorem outs_f (L : Loads Ideal) (hl : loads I s = L) (j : Fin 50) : outF (STEP V) (ix1 j) = if j.val = t then L.fb else outF V (ix1 j) := by
  obtain ⟨-, h77, -⟩ := step_same S M ht
  rw [hl] at h77
  exact flag_put (outF (STEP V)) (outF V) (res_main_while0b_v77 V : IVec S_ 1) (ctrR V) _ h77 (step16 V) t ht (ctr_read M ht) j

theorem outs_p (j : Fin 50) (v : Fin 100000) : outP (STEP V) (ix2 j v) = if j.val = t then probR V (ix1 v) else outP V (ix2 j v) := by
  exact row_put (outP (STEP V)) (outP V) (probR V) (ctrR V) ((step17_a V).trans (step17_b V)) t ht (Met.ctr M) j v

theorem Outs.step (hs : s = stAt I t) (O : Outs V I t) : Outs (STEP V) I (t + 1) := by
  have hl : loads I s = ldAt I t := by rw [hs]; rfl
  refine { a := fun j hj => (outs_a S M ht _ hl j).trans ?_, f := fun j hj => (outs_f S M ht _ hl j).trans ?_, p := fun j hj v => (outs_p S M ht j v).trans ?_ }
  · by_cases h : j.val = t
    · rw [if_pos h, h]
    · rw [if_neg h]; exact Outs.a O j (by omega)
  · by_cases h : j.val = t
    · rw [if_pos h, h]
    · rw [if_neg h]; exact Outs.f O j (by omega)
  · by_cases h : j.val = t
    · rw [if_pos h, h, ← hl]; exact (step_same S M ht).1 v
    · rw [if_neg h]; exact Outs.p O j (by omega) v

end Step

theorem all_steps {V : Valuation τ sig (Elt Ideal)} {I : Inp Ideal} (S : Same V I) (M : Met V I St.init 0) :
    ∀ t, t ≤ 50 → Same (STEP^[t] V) I ∧ Met (STEP^[t] V) I (stAt I t) t ∧ Outs (STEP^[t] V) I t
  | 0, _ => ⟨S, M, ⟨fun _ h => absurd h (Nat.not_lt_zero _), fun _ h => absurd h (Nat.not_lt_zero _), fun _ h => absurd h (Nat.not_lt_zero _)⟩⟩
  | t + 1, ht => by
    obtain ⟨S', M', O'⟩ := all_steps S M t (by omega)
    rw [Function.iterate_succ_apply']
    exact ⟨S'.step, M'.step S' (by omega), Outs.step S' M' (by omega) rfl O'⟩

end

end Cert.ReferenceIdeal.Hand
end
-- ==== Proof.Given.lean ====
module

public import proofs.«01_k».proof.Proof.Hand
public import proofs.«01_k».proof.Proof.Item
public import Idealize.ShloMosaic.Lib.StableHlo.RunRead
public import Idealize.ShloMosaic.Lib.Pipeline.Value

@[expose] public section

set_option maxRecDepth 16384

/-! # What the kernel's host operations hand it -/

open Idealize.ShloMosaic hiding ix1 ix2 ix3
open Idealize.ShloMosaic.ValueIdx

namespace Cert.KernelIdeal.Hand

open Cert.KernelIdeal Cert.KernelIdeal.Gen
open Idealize.ShloMosaic.TcCoe Idealize.ShloMosaic.Tactic

noncomputable section

variable (m : (ℓ : Loc nD τ sig) → Buf (Elt Ideal) ℓ) (c : Dev nD)

abbrev in0 : IVec S50 32 := m ((c.tc : Thread nD τ).loc main_arg0)
abbrev in1 : FVec Ideal S100000x64 .f32 := m ((c.tc : Thread nD τ).loc main_arg1)
abbrev in2 : FVec Ideal S256x64 .f32 := m ((c.tc : Thread nD τ).loc main_arg2)
abbrev in3 : FVec Ideal S256x64 .f32 := m ((c.tc : Thread nD τ).loc main_arg3)
abbrev in4 : FVec Ideal S256 .f32 := m ((c.tc : Thread nD τ).loc main_arg4)
abbrev in5 : FVec Ideal S256 .f32 := m ((c.tc : Thread nD τ).loc main_arg5)
abbrev in6 : FVec Ideal S100000x64 .f32 := m ((c.tc : Thread nD τ).loc main_arg6)
abbrev in7 : FVec Ideal S100000 .f32 := m ((c.tc : Thread nD τ).loc main_arg7)

theorem inp_x : (inp m c).x = in0 m c := by
  show View.read (Elt Ideal) (Memref.whole main_arg0).view (V m c main_arg0) = _
  rw [View.read_whole]
  exact V_main_arg0 m c

theorem inp_emb : (inp m c).emb = in1 m c := by
  show View.read (Elt Ideal) (Memref.whole main_arg1).view (V m c main_arg1) = _
  rw [View.read_whole]
  exact V_main_arg1 m c

theorem inp_wih : (inp m c).wih = transpose S64x256 [1, 0] (in2 m c) transposes_S256x64_S64x256_1_0 := by
  show View.read (Elt Ideal) (Memref.whole main_v0).view (V m c main_v0) = _
  rw [View.read_whole]
  unfold V
  after_reads_simp

theorem inp_whh : (inp m c).whh = transpose S64x256 [1, 0] (in3 m c) transposes_S256x64_S64x256_1_0 := by
  show View.read (Elt Ideal) (Memref.whole main_v1).view (V m c main_v1) = _
  rw [View.read_whole]
  unfold V
  after_reads_simp

theorem inp_bg : (inp m c).bg = shapeCast S1x256 (addf (F := Ideal) (in4 m c) (in5 m c)) shapeCasts_S256_S1x256 := by
  show View.read (Elt Ideal) (Memref.whole main_v3).view (V m c main_v3) = _
  rw [View.read_whole]
  unfold V
  after_reads_simp
  rfl

theorem inp_wot : (inp m c).wot = transpose S8x64x12500 [0, 2, 1] (shapeCast S8x12500x64 (in6 m c) shapeCasts_S100000x64_S8x12500x64) transposes_S8x12500x64_S8x64x12500_0_2_1 := by
  show View.read (Elt Ideal) (Memref.whole main_v5).view (V m c main_v5) = _
  rw [View.read_whole]
  unfold V
  after_reads_simp
  rfl

theorem inp_bo : (inp m c).bo = shapeCast S8x12500 (in7 m c) shapeCasts_S100000_S8x12500 := by
  show View.read (Elt Ideal) (Memref.whole main_v6).view (V m c main_v6) = _
  rw [View.read_whole]
  unfold V
  after_reads_simp
  rfl

theorem wih_at (r : Fin 256) (j : Fin 64) : ((inp m c).wih (ix2 j r) : EReal) = in2 m c (ix2 r j) := by
  rw [inp_wih]; exact transpose_apply _ _ _ _ (ix2 r j) fun c => match c with | ⟨0, _⟩ => rfl | ⟨1, _⟩ => rfl
theorem whh_at (r : Fin 256) (j : Fin 64) : ((inp m c).whh (ix2 j r) : EReal) = in3 m c (ix2 r j) := by
  rw [inp_whh]; exact transpose_apply _ _ _ _ (ix2 r j) fun c => match c with | ⟨0, _⟩ => rfl | ⟨1, _⟩ => rfl
theorem bg_at (r : Fin 256) : ((inp m c).bg (ix2 0 r) : EReal) = (in4 m c (ix1 r) : EReal) + in5 m c (ix1 r) := by
  rw [inp_bg]
  refine (shapeCast_apply _ _ _ (ix1 r) ?_).trans rfl
  rw [Shape.rowMajor_val_one, Shape.rowMajor_val_two]
  show r.val = 0 * 256 + r.val
  omega
theorem bo_at (v : Fin 100000) : ((inp m c).bo (place v) : EReal) = in7 m c (ix1 v) := by
  rw [inp_bo]
  refine shapeCast_apply _ _ _ (ix1 v) ?_
  rw [Shape.rowMajor_val_one, Shape.rowMajor_val_two]
  show v.val = v.val / 12500 * 12500 + v.val % 12500
  omega
theorem wot_place (W : FVec Ideal S100000x64 .f32) (v : Fin 100000) (j : Fin 64) (r : Fin 8) (k : Fin 12500) (h : r.val * 12500 + k.val = v.val) :
    transpose S8x64x12500 [0, 2, 1] (shapeCast S8x12500x64 W shapeCasts_S100000x64_S8x12500x64) transposes_S8x12500x64_S8x64x12500_0_2_1 (ix3 r j k) = W (ix2 v j) := by
  refine (transpose_apply _ _ _ _ (ix3 r k j) fun c => match c with | ⟨0, _⟩ => rfl | ⟨1, _⟩ => rfl | ⟨2, _⟩ => rfl).trans ?_
  refine shapeCast_apply _ _ _ (ix2 v j) ?_
  rw [Shape.rowMajor_val_two, Shape.rowMajor_val_three]
  show v.val * 64 + j.val = (r.val * 12500 + k.val) * 64 + j.val
  rw [h]
theorem wot_at (v : Fin 100000) (j : Fin 64) : ((inp m c).wot (ix3 (place v 0) j (place v 1)) : EReal) = in6 m c (ix2 v j) := by
  rw [inp_wot]
  exact wot_place (in6 m c) v j (place v 0) (place v 1) (by show v.val / 12500 * 12500 + v.val % 12500 = v.val; omega)

end

end Cert.KernelIdeal.Hand
end
-- ==== Proof.Before.lean ====
module

public import proofs.«01_k».proof.Proof.Advance
public import proofs.«01_k».proof.Proof.Given

@[expose] public section

set_option maxRecDepth 16384

/-! # What the reference's host operations put before the loop -/

open Idealize.ShloMosaic hiding ix1 ix2 ix3
open Idealize.ShloMosaic.ValueIdx

namespace Cert.ReferenceIdeal.Hand

open Cert.ReferenceIdeal Cert.ReferenceIdeal.Gen Cert.ReferenceIdeal.Value
open Idealize.ShloMosaic.TcCoe Idealize.ShloMosaic.Tactic Idealize.ShloMosaic.StableHlo
open Cert.Rank Cert.Cell
open Cert.KernelIdeal.Hand (Inp St inp place in0 in1 in2 in3 in4 in5 in6 in7 inp_x inp_emb wih_at whh_at bg_at bo_at wot_at bits_one bits_zero)

noncomputable section

variable (m : (ℓ : Loc nD τ sig) → Buf (Elt Ideal) ℓ) (c : Dev nD)

theorem before_1 : entryContents preI m c (Proc.devRef .tc main_v7_1) = m ((c.tc : Thread nD τ).loc main_arg1) := by
  simp only [entryContents, afterL_cons, afterL_nil]
  after_reads_simp
  rfl
theorem before_2 : entryContents preI m c (Proc.devRef .tc main_v7_2) = m ((c.tc : Thread nD τ).loc main_arg2) := by
  simp only [entryContents, afterL_cons, afterL_nil]
  after_reads_simp
  rfl
theorem before_3 : entryContents preI m c (Proc.devRef .tc main_v7_3) = m ((c.tc : Thread nD τ).loc main_arg4) := by
  simp only [entryContents, afterL_cons, afterL_nil]
  after_reads_simp
  rfl
theorem before_4 : entryContents preI m c (Proc.devRef .tc main_v7_4) = m ((c.tc : Thread nD τ).loc main_arg3) := by
  simp only [entryContents, afterL_cons, afterL_nil]
  after_reads_simp
  rfl
theorem before_5 : entryContents preI m c (Proc.devRef .tc main_v7_5) = m ((c.tc : Thread nD τ).loc main_arg5) := by
  simp only [entryContents, afterL_cons, afterL_nil]
  after_reads_simp
  rfl
theorem before_6 : entryContents preI m c (Proc.devRef .tc main_v7_6) = m ((c.tc : Thread nD τ).loc main_arg6) := by
  simp only [entryContents, afterL_cons, afterL_nil]
  after_reads_simp
  rfl
theorem before_7 : entryContents preI m c (Proc.devRef .tc main_v7_7) = m ((c.tc : Thread nD τ).loc main_arg7) := by
  simp only [entryContents, afterL_cons, afterL_nil]
  after_reads_simp
  rfl
theorem before_8 : entryContents preI m c (Proc.devRef .tc main_v7_8) = m ((c.tc : Thread nD τ).loc main_arg0) := by
  simp only [entryContents, afterL_cons, afterL_nil]
  after_reads_simp
  rfl
theorem before_0 : entryContents preI m c (Proc.devRef .tc main_v7_0) = iotaInDim S50 32 0 := by
  simp only [entryContents, afterL_cons, afterL_nil]
  after_reads_simp
  rfl
theorem before_9 : entryContents preI m c (Proc.devRef .tc main_v7_9) = fun _ => (0#32 : BitVec 32) := by
  simp only [entryContents, afterL_cons, afterL_nil]
  after_reads_simp
  rfl
theorem before_13 : entryContents preI m c (Proc.devRef .tc main_v7_13) = fun _ => (0#32 : BitVec 32) := by
  simp only [entryContents, afterL_cons, afterL_nil]
  after_reads_simp
  rfl
theorem before_10 : entryContents preI m c (Proc.devRef .tc main_v7_10) = fun _ => (FloatOps.ofBits (F := Ideal) .f32 0x00000000#32) := by
  simp only [entryContents, afterL_cons, afterL_nil]
  after_reads_simp
  rfl
theorem before_11 : entryContents preI m c (Proc.devRef .tc main_v7_11) = fun _ => (FloatOps.ofBits (F := Ideal) .f32 0x00000000#32) := by
  simp only [entryContents, afterL_cons, afterL_nil]
  after_reads_simp
  rfl
theorem before_14 : entryContents preI m c (Proc.devRef .tc main_v7_14) = fun _ => (FloatOps.ofBits (F := Ideal) .f32 0x00000000#32) := by
  simp only [entryContents, afterL_cons, afterL_nil]
  after_reads_simp
  rfl
theorem before_17 : entryContents preI m c (Proc.devRef .tc main_v7_17) = fun _ => (FloatOps.ofBits (F := Ideal) .f32 0x00000000#32) := by
  simp only [entryContents, afterL_cons, afterL_nil]
  after_reads_simp
  rfl
theorem before_12 : entryContents preI m c (Proc.devRef .tc main_v7_12) = fun _ => (FloatOps.ofBits (F := Ideal) .f32 0x3F800000#32) := by
  simp only [entryContents, afterL_cons, afterL_nil]
  after_reads_simp
  rfl

/-- The reference's loop begins with the kernel's inputs in its buffers. -/
theorem same_before (mk : (ℓ : Loc Cert.KernelIdeal.nD Cert.KernelIdeal.τ Cert.KernelIdeal.sig) → Buf (Elt Ideal) ℓ) (d : Dev Cert.KernelIdeal.nD)
    (e0 : (m ((c.tc : Thread nD τ).loc main_arg0) : IVec S50 32) = in0 mk d) (e1 : (m ((c.tc : Thread nD τ).loc main_arg1) : FVec Ideal S100000x64 .f32) = in1 mk d)
    (e2 : (m ((c.tc : Thread nD τ).loc main_arg2) : FVec Ideal S256x64 .f32) = in2 mk d) (e3 : (m ((c.tc : Thread nD τ).loc main_arg3) : FVec Ideal S256x64 .f32) = in3 mk d)
    (e4 : (m ((c.tc : Thread nD τ).loc main_arg4) : FVec Ideal S256 .f32) = in4 mk d) (e5 : (m ((c.tc : Thread nD τ).loc main_arg5) : FVec Ideal S256 .f32) = in5 mk d)
    (e6 : (m ((c.tc : Thread nD τ).loc main_arg6) : FVec Ideal S100000x64 .f32) = in6 mk d) (e7 : (m ((c.tc : Thread nD τ).loc main_arg7) : FVec Ideal S100000 .f32) = in7 mk d)
    (h6 : ∀ i, IsReal (in6 mk d i)) (h7 : ∀ i, IsReal (in7 mk d i)) : Same (entryContents preI m c) (inp mk d) where
  io j := (congrFun (before_0 m c) (ix1 j)).trans rfl
  em v j := (congrFun ((before_1 m c).trans e1) (ix2 v j)).trans (congrFun (inp_emb mk d) (ix2 v j)).symm
  wih r j := (congrFun ((before_2 m c).trans e2) (ix2 r j)).trans (wih_at mk d r j).symm
  whh r j := (congrFun ((before_4 m c).trans e3) (ix2 r j)).trans (whh_at mk d r j).symm
  bg r := (bg_at mk d r).trans (congrArg₂ (fun a b : EReal => a + b) (congrFun ((before_3 m c).trans e4) (ix1 r)) (congrFun ((before_5 m c).trans e5) (ix1 r))).symm
  wot v j := (congrFun ((before_6 m c).trans e6) (ix2 v j)).trans (wot_at mk d v j).symm
  bo v := (congrFun ((before_7 m c).trans e7) (ix1 v)).trans (bo_at mk d v).symm
  x := ((before_8 m c).trans e0).trans (inp_x mk d).symm
  wreal v j := by
    have e := congrFun ((before_6 m c).trans e6) (ix2 v j)
    exact Eq.mpr (congrArg IsReal e) (h6 _)
  breal v := by
    have e := congrFun ((before_7 m c).trans e7) (ix1 v)
    exact Eq.mpr (congrArg IsReal e) (h7 _)

theorem zero_h (i : Cert.KernelIdeal.S1x64.Idx) : (Cert.KernelIdeal.Gen.k0_pay3 (F := Ideal) i : EReal) = FloatOps.ofBits (F := Ideal) .f32 0x00000000#32 := rfl
theorem zero_c (i : Cert.KernelIdeal.S1x64.Idx) : (Cert.KernelIdeal.Gen.k0_pay4 (F := Ideal) i : EReal) = FloatOps.ofBits (F := Ideal) .f32 0x00000000#32 := rfl
theorem one_mask (i : Cert.KernelIdeal.S8x12500.Idx) : (Cert.KernelIdeal.Gen.k0_pay7 (F := Ideal) i : EReal) = FloatOps.ofBits (F := Ideal) .f32 0x3F800000#32 := rfl

/-- What the two carry agrees before the first step. -/
theorem met_before (I : Inp Ideal) : Met (entryContents preI m c) I St.init 0 where
  ctr i := congrFun (before_9 m c) i
  h k := (congrFun (before_10 m c) (ix1 k)).trans (zero_h (ix2 0 k)).symm
  c k := (congrFun (before_11 m c) (ix1 k)).trans (zero_c (ix2 0 k)).symm
  mask v := (congrFun (before_12 m c) (ix1 v)).trans (one_mask (place v)).symm
  zeros := ⟨∅, le_refl _, fun v hv => absurd hv (Finset.notMem_empty v), fun v _ => (one_mask (place v)).trans bits_one⟩
  feed := Or.inl ⟨rfl, fun j => by
    unfold fed
    exact (congrArg (fun y : EReal => _ * y) bits_zero).trans (mul_zero _)⟩

end

end Cert.ReferenceIdeal.Hand
end
-- ==== Proof.Written.lean ====
module

public import proofs.«01_k».proof.Proof.Given

@[expose] public section

set_option maxRecDepth 16384

/-! # What the kernel's result arrays hold at the end -/

open Idealize.ShloMosaic hiding ix1 ix2 ix3
open Idealize.ShloMosaic.ValueIdx

namespace Cert.KernelIdeal.Hand

open Cert.KernelIdeal Cert.KernelIdeal.Gen
open Idealize.ShloMosaic.TcCoe Idealize.ShloMosaic.Tactic
open Idealize.ShloMosaic.Pipeline (Dat RDat Cfg Window)

noncomputable section

variable (m : (ℓ : Loc nD τ sig) → Buf (Elt Ideal) ℓ)

def last : Fin cfg0.N := ⟨49, by decide⟩

/-- The words chosen. -/
def wordsOf (I : Inp Ideal) : IVec S50 32 := fun i => (ldAt I (i 0).val).ahat
/-- The feedback of each. -/
def feedOf (I : Inp Ideal) : IVec S50 32 := fun i => (ldAt I (i 0).val).fb
/-- The distribution at each step. -/
def probsOf (I : Inp Ideal) : FVec Ideal S50x8x12500 .f32 := fun i => (ldAt I (i 0).val).mp (ix3 0 (i 1) (i 2))

theorem index8 : ∀ t : Fin cfg0.N, win0_8.index t = ![t.val, 0, 0] := by decide +kernel

theorem written {r : PUnit × MemSt nD τ sig (Elt Ideal)} (h : RDat.FramePost cfg0 (rdat m) (V m) r) (c : Dev nD) :
    r.2.mem ((c.tc : Thread nD τ).loc main_v7_0) = wordsOf (inp m c)
    ∧ r.2.mem ((c.tc : Thread nD τ).loc main_v7_1) = feedOf (inp m c)
    ∧ r.2.mem ((c.tc : Thread nD τ).loc main_v7_2) = probsOf (inp m c) := by
  obtain ⟨after, hL, hA⟩ := h.exists_exact c
  refine ⟨(hA 6).trans ?_, (hA 7).trans ?_, (hA 8).trans ?_⟩
  · have e := Dat.toRRel_leaves (dats m 0 c) (w := 6) rfl (hL 6 last ((flush0_6 last).2 rfl))
    refine ((rdat m c).withAfter after).arrAt_eq_of_after_last 6 last (by decide +kernel) _ fun j => ?_
    exact (e _ (Nat.le_of_lt_succ (j 0).isLt))
  · have e := Dat.toRRel_leaves (dats m 0 c) (w := 7) rfl (hL 7 last ((flush0_7 last).2 rfl))
    refine ((rdat m c).withAfter after).arrAt_eq_of_after_last 7 last (by decide +kernel) _ fun j => ?_
    exact (e _ (Nat.le_of_lt_succ (j 0).isLt))
  · refine ((rdat m c).withAfter after).arrAt_eq_of_covers 8 (probsOf (inp m c)) (by decide +kernel) fun t hf y => ?_
    have e : after 8 t = (ldAt (inp m c) t.val).mp := Dat.toRRel_leaves (dats m 0 c) (w := 8) rfl (hL 8 t hf)
    blk_simp
    rw [RDat.withAfter_after, e]
    have y0 : (y 0).val = 0 := Nat.lt_one_iff.1 (y 0).isLt
    have e0 : (((cfg0.win 8).blk t).view.emb y 0 : ℕ) = t.val := by blk_simp [index8]
    have e1 : (((cfg0.win 8).blk t).view.emb y 1 : ℕ) = (y 1).val := by blk_simp [index8]
    have e2 : (((cfg0.win 8).blk t).view.emb y 2 : ℕ) = (y 2).val := by blk_simp [index8]
    unfold probsOf
    refine Eq.trans ?_ (congrArg (fun n : ℕ => (ldAt (inp m c) n).mp (ix3 0 ((win0_8.blk t).view.emb y 1) ((win0_8.blk t).view.emb y 2))) e0).symm
    refine congrArg (ldAt (inp m c) t.val).mp (funext fun a => Fin.ext ?_)
    match a with
    | ⟨0, _⟩ => exact y0
    | ⟨1, _⟩ => exact e1.symm
    | ⟨2, _⟩ => exact e2.symm

end

end Cert.KernelIdeal.Hand
end
-- ==== Proof.Agree.lean ====
module

public import proofs.«01_k».proof.Proof.Before
public import proofs.«01_k».proof.Proof.Written

@[expose] public section

set_option maxRecDepth 16384

/-! # The reference's results are the kernel's -/

open Idealize.ShloMosaic hiding ix1 ix2 ix3
open Idealize.ShloMosaic.ValueIdx

namespace Cert.ReferenceIdeal.Hand

open Cert.ReferenceIdeal Cert.ReferenceIdeal.Gen Cert.ReferenceIdeal.Value
open Cert.KernelIdeal.Hand (Inp St inp place ldAt stAt wordsOf feedOf probsOf)

noncomputable section

theorem ix1_eta (i : S50.Idx) : i = ix1 (i 0) := funext fun a => match a with | ⟨0, _⟩ => rfl
theorem ix3_eta (i : S50x8x12500.Idx) : ∃ (j : Fin 50) (r : Fin 8) (k : Fin 12500), i = ix3 j r k :=
  ⟨i 0, i 1, i 2, funext fun a => match a with | ⟨0, _⟩ => rfl | ⟨1, _⟩ => rfl | ⟨2, _⟩ => rfl⟩

theorem words_eq {V : Valuation τ sig (Elt Ideal)} {I : Inp Ideal} (O : Outs V I 50) : outA V = wordsOf I :=
  funext fun i => (congrArg (outA V) (ix1_eta i)).trans (O.a (i 0) (i 0).isLt)

theorem feed_eq {V : Valuation τ sig (Elt Ideal)} {I : Inp Ideal} (O : Outs V I 50) : outF V = feedOf I :=
  funext fun i => (congrArg (outF V) (ix1_eta i)).trans (O.f (i 0) (i 0).isLt)

theorem row_split (j : Fin 50) (r : Fin 8) (k : Fin 12500) (v : Fin 100000) (hv : v.val = r.val * 12500 + k.val) (X : FVec Ideal S50x100000 .f32) :
    shapeCast S50x8x12500 X shapeCasts_S50x100000_S50x8x12500 (ix3 j r k) = X (ix2 j v) := by
  refine shapeCast_apply _ _ _ (ix2 j v) ?_
  rw [Shape.rowMajor_val_two, Shape.rowMajor_val_three]
  show j.val * 100000 + v.val = (j.val * 8 + r.val) * 12500 + k.val
  omega

theorem probs_eq {V : Valuation τ sig (Elt Ideal)} {I : Inp Ideal} (O : Outs V I 50) : shapeCast S50x8x12500 (outP V) shapeCasts_S50x100000_S50x8x12500 = probsOf I := by
  funext i
  obtain ⟨j, r, k, rfl⟩ := ix3_eta i
  have hr := r.isLt
  have hk := k.isLt
  obtain ⟨v, hv⟩ : ∃ v : Fin 100000, v.val = r.val * 12500 + k.val := ⟨⟨r.val * 12500 + k.val, by omega⟩, rfl⟩
  refine (row_split j r k v hv (outP V)).trans ((O.p j j.isLt v).trans ?_)
  have e0 : place v 0 = r := Fin.ext (by show v.val / 12500 = r.val; omega)
  have e1 : place v 1 = k := Fin.ext (by show v.val % 12500 = k.val; omega)
  exact congrArg₂ (fun (a : Fin 8) (b : Fin 12500) => (ldAt I j.val).mp (ix3 0 a b)) e0 e1

/-- The reference, begun on the kernel's inputs, ends with the kernel's results. -/
theorem results {V : Valuation τ sig (Elt Ideal)} {I : Inp Ideal} (S : Same V I) (M : Met V I St.init 0) :
    outA (STEP^[50] V) = wordsOf I ∧ outF (STEP^[50] V) = feedOf I ∧ (out_main_v8 (STEP^[50] V) : FVec Ideal S50x8x12500 .f32) = probsOf I := by
  obtain ⟨-, -, O⟩ := all_steps S M 50 (le_refl _)
  exact ⟨words_eq O, feed_eq O, probs_eq O⟩

end

end Cert.ReferenceIdeal.Hand
end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_output_layer
public import proofs.«01_k».proof.Proof.Range
public import proofs.«01_k».proof.Proof.Exact
public import proofs.«01_k».proof.Proof.Finite
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem

/-- The reference's frame: its run leaves every argument as it was, and its program names no
semaphore whose counter could be left up. -/
theorem frame_reference : Cert.quiescent_ReferenceIdeal (hReferenceIdeal := Cert.ReferenceIdeal.Gen.facts) := fun m g _ =>
  (θ_run _ _ _).mono (fun r h => ⟨fun c => (h c).2.2.2, sem_eq_zero_of_no_sems rfl r.2⟩)
    (Cert.ReferenceIdeal.Value.run m g)

/-- The kernel's frame: every row it fetches is a row of the table, its transfers land, its arguments end as they began. -/
theorem frame_kernel : Cert.quiescent_KernelIdeal (hKernelIdeal := Cert.KernelIdeal.Gen.facts) := fun m g _ =>
  (θ_run _ _ _).mono (fun r h => ⟨fun c => Cert.KernelIdeal.Hand.args_kept m h.1 c, h.2⟩)
    (Cert.KernelIdeal.Hand.run_main (F := Ideal) m g Cert.KernelIdeal.Hand.range_all Cert.KernelIdeal.Hand.range_members)

/-- Both frames hold without the precondition, and so with it. -/
theorem frame_kernel_pre : Cert.quiescent_KernelIdeal_pre_finite_output_layer (hKernelIdeal := Cert.KernelIdeal.Gen.facts) (hPre_finite_output_layer := Cert.Pre_finite_output_layer.Gen.facts) :=
  fun m g _ =>
  (θ_run _ _ _).mono (fun r h => ⟨fun c => Cert.KernelIdeal.Hand.args_kept m h.1 c, h.2⟩)
    (Cert.KernelIdeal.Hand.run_main (F := Ideal) m g Cert.KernelIdeal.Hand.range_all Cert.KernelIdeal.Hand.range_members)
theorem frame_reference_pre : Cert.quiescent_ReferenceIdeal_pre_finite_output_layer (hReferenceIdeal := Cert.ReferenceIdeal.Gen.facts) (hPre_finite_output_layer := Cert.Pre_finite_output_layer.Gen.facts) :=
  fun m g _ =>
  (θ_run _ _ _).mono (fun r h => ⟨fun c => (h c).2.2.2, sem_eq_zero_of_no_sems rfl r.2⟩)
    (Cert.ReferenceIdeal.Value.run m g)

/-- The value claim: the kernel and the reference end with the words, the feedback and the distributions that fifty steps choose. -/
theorem same_results : Cert.algebraic_KernelIdeal_ReferenceIdeal_pre_finite_output_layer (hKernelIdeal := Cert.KernelIdeal.Gen.facts) (hReferenceIdeal := Cert.ReferenceIdeal.Gen.facts) (hPre_finite_output_layer := Cert.Pre_finite_output_layer.Gen.facts) := by
  intro m g m' g' hp ha
  refine ⟨fun c => Cert.KernelIdeal.Hand.wordsOf (Cert.KernelIdeal.Hand.inp m c), fun c => Cert.KernelIdeal.Hand.feedOf (Cert.KernelIdeal.Hand.inp m c),
    fun c => Cert.KernelIdeal.Hand.probsOf (Cert.KernelIdeal.Hand.inp m c), ?_, ?_⟩
  · refine (θ_run _ _ _).mono (fun r h c => ?_) (Cert.KernelIdeal.Hand.run_main (F := Ideal) m g Cert.KernelIdeal.Hand.range_all Cert.KernelIdeal.Hand.range_members)
    obtain ⟨w0, w1, w2⟩ := Cert.KernelIdeal.Hand.written m h.1 c
    exact ⟨w0, w1, w2, Cert.KernelIdeal.Hand.args_kept m h.1 c⟩
  · refine (θ_run _ _ _).mono (fun r h c => ?_) (Cert.ReferenceIdeal.Value.run m' g')
    obtain ⟨k0, k1, k2, kept⟩ := h c
    obtain ⟨a0, a1, a2, a3, a4, a5, a6, a7⟩ := ha c
    obtain ⟨h6, h7⟩ := Cert.Finite.layer_real _ _ _ _ _ _ _ _ (hp c)
    obtain ⟨e0, e1, e2⟩ := Cert.ReferenceIdeal.Hand.results (Cert.ReferenceIdeal.Hand.same_before m' c m c a0 a1 a2 a3 a4 a5 a6 a7 h6 h7)
      (Cert.ReferenceIdeal.Hand.met_before m' c (Cert.KernelIdeal.Hand.inp m c))
    exact ⟨k0.trans e0, k1.trans e1, k2.trans e2, kept⟩

theorem claim : Cert.Claim := ⟨Cert.KernelIdeal.Gen.facts, Cert.ReferenceIdeal.Gen.facts, Cert.Pre_finite_output_layer.Gen.facts, frame_kernel, frame_kernel_pre, frame_reference, frame_reference_pre, same_results⟩

end Cert.Proof

end
